-- ==== Defs.lean ====
def Pre_DaLat (m : (ℓ : Loc Cert.DaLat.nD Cert.DaLat.τ Cert.DaLat.sig) → Buf (Elt Bits) ℓ) : Prop :=
  True

def Pre_DaLatIdeal (m : (ℓ : Loc Cert.DaLatIdeal.nD Cert.DaLatIdeal.τ Cert.DaLatIdeal.sig) → Buf (Elt Ideal) ℓ) : Prop :=
  True

def Pre_DaLatIdeal_finite [hPre_finite : Cert.Pre_finite.Facts] (m : (ℓ : Loc Cert.DaLatIdeal.nD Cert.DaLatIdeal.τ Cert.DaLatIdeal.sig) → Buf (Elt Ideal) ℓ) : Prop :=
  ∀ c : Dev Cert.DaLatIdeal.nD,
    (Cert.Pre_finite.fn (F := Ideal) (m ((c.tc : Thread Cert.DaLatIdeal.nD Cert.DaLatIdeal.τ).loc Cert.DaLatIdeal.main_arg0)) (m ((c.tc : Thread Cert.DaLatIdeal.nD Cert.DaLatIdeal.τ).loc Cert.DaLatIdeal.main_arg1)) (m ((c.tc : Thread Cert.DaLatIdeal.nD Cert.DaLatIdeal.τ).loc Cert.DaLatIdeal.main_arg2)) (m ((c.tc : Thread Cert.DaLatIdeal.nD Cert.DaLatIdeal.τ).loc Cert.DaLatIdeal.main_arg3)) (m ((c.tc : Thread Cert.DaLatIdeal.nD Cert.DaLatIdeal.τ).loc Cert.DaLatIdeal.main_arg4)) (m ((c.tc : Thread Cert.DaLatIdeal.nD Cert.DaLatIdeal.τ).loc Cert.DaLatIdeal.main_arg5)) (m ((c.tc : Thread Cert.DaLatIdeal.nD Cert.DaLatIdeal.τ).loc Cert.DaLatIdeal.main_arg6)) (m ((c.tc : Thread Cert.DaLatIdeal.nD Cert.DaLatIdeal.τ).loc Cert.DaLatIdeal.main_arg7))) = (fun _ => 1#1)

def Pre_DaLatRefIdeal (m : (ℓ : Loc Cert.DaLatRefIdeal.nD Cert.DaLatRefIdeal.τ Cert.DaLatRefIdeal.sig) → Buf (Elt Ideal) ℓ) : Prop :=
  True

def Pre_DaLatRefIdeal_finite [hPre_finite : Cert.Pre_finite.Facts] (m : (ℓ : Loc Cert.DaLatRefIdeal.nD Cert.DaLatRefIdeal.τ Cert.DaLatRefIdeal.sig) → Buf (Elt Ideal) ℓ) : Prop :=
  ∀ c : Dev Cert.DaLatRefIdeal.nD,
    (Cert.Pre_finite.fn (F := Ideal) (m ((c.tc : Thread Cert.DaLatRefIdeal.nD Cert.DaLatRefIdeal.τ).loc Cert.DaLatRefIdeal.main_arg0)) (m ((c.tc : Thread Cert.DaLatRefIdeal.nD Cert.DaLatRefIdeal.τ).loc Cert.DaLatRefIdeal.main_arg1)) (m ((c.tc : Thread Cert.DaLatRefIdeal.nD Cert.DaLatRefIdeal.τ).loc Cert.DaLatRefIdeal.main_arg2)) (m ((c.tc : Thread Cert.DaLatRefIdeal.nD Cert.DaLatRefIdeal.τ).loc Cert.DaLatRefIdeal.main_arg3)) (m ((c.tc : Thread Cert.DaLatRefIdeal.nD Cert.DaLatRefIdeal.τ).loc Cert.DaLatRefIdeal.main_arg4)) (m ((c.tc : Thread Cert.DaLatRefIdeal.nD Cert.DaLatRefIdeal.τ).loc Cert.DaLatRefIdeal.main_arg5)) (m ((c.tc : Thread Cert.DaLatRefIdeal.nD Cert.DaLatRefIdeal.τ).loc Cert.DaLatRefIdeal.main_arg6)) (m ((c.tc : Thread Cert.DaLatRefIdeal.nD Cert.DaLatRefIdeal.τ).loc Cert.DaLatRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MlaLat (m : (ℓ : Loc Cert.MlaLat.nD Cert.MlaLat.τ Cert.MlaLat.sig) → Buf (Elt Bits) ℓ) : Prop :=
  True

def Pre_MlaLatIdeal (m : (ℓ : Loc Cert.MlaLatIdeal.nD Cert.MlaLatIdeal.τ Cert.MlaLatIdeal.sig) → Buf (Elt Ideal) ℓ) : Prop :=
  True

def Pre_MlaLatIdeal_finite_qk [hPre_finite_qk : Cert.Pre_finite_qk.Facts] (m : (ℓ : Loc Cert.MlaLatIdeal.nD Cert.MlaLatIdeal.τ Cert.MlaLatIdeal.sig) → Buf (Elt Ideal) ℓ) : Prop :=
  ∀ c : Dev Cert.MlaLatIdeal.nD,
    (Cert.Pre_finite_qk.fn (F := Ideal) (m ((c.tc : Thread Cert.MlaLatIdeal.nD Cert.MlaLatIdeal.τ).loc Cert.MlaLatIdeal.main_arg0)) (m ((c.tc : Thread Cert.MlaLatIdeal.nD Cert.MlaLatIdeal.τ).loc Cert.MlaLatIdeal.main_arg1)) (m ((c.tc : Thread Cert.MlaLatIdeal.nD Cert.MlaLatIdeal.τ).loc Cert.MlaLatIdeal.main_arg2))) = (fun _ => 1#1)

def Pre_MlaLatRefIdeal (m : (ℓ : Loc Cert.MlaLatRefIdeal.nD Cert.MlaLatRefIdeal.τ Cert.MlaLatRefIdeal.sig) → Buf (Elt Ideal) ℓ) : Prop :=
  True

def Pre_MlaLatRefIdeal_finite_qk [hPre_finite_qk : Cert.Pre_finite_qk.Facts] (m : (ℓ : Loc Cert.MlaLatRefIdeal.nD Cert.MlaLatRefIdeal.τ Cert.MlaLatRefIdeal.sig) → Buf (Elt Ideal) ℓ) : Prop :=
  ∀ c : Dev Cert.MlaLatRefIdeal.nD,
    (Cert.Pre_finite_qk.fn (F := Ideal) (m ((c.tc : Thread Cert.MlaLatRefIdeal.nD Cert.MlaLatRefIdeal.τ).loc Cert.MlaLatRefIdeal.main_arg0)) (m ((c.tc : Thread Cert.MlaLatRefIdeal.nD Cert.MlaLatRefIdeal.τ).loc Cert.MlaLatRefIdeal.main_arg1)) (m ((c.tc : Thread Cert.MlaLatRefIdeal.nD Cert.MlaLatRefIdeal.τ).loc Cert.MlaLatRefIdeal.main_arg2))) = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_DaLat [hDaLat : Cert.DaLat.Facts] : Prop :=
  ∀ (m : (ℓ : Loc Cert.DaLat.nD Cert.DaLat.τ Cert.DaLat.sig) → Buf (Elt Bits) ℓ) (g : Dev Cert.DaLat.nD → PrngReg), Pre_DaLat m →
    θ_run (Cert.DaLat.defs (F := Bits)) (onTc (τ := Cert.DaLat.τ) (Cert.DaLat.main (F := Bits))) ⟨m, fun _ => 0, g⟩ (fun r => (∀ c : Dev Cert.DaLat.nD,
      r.2.mem ((c.tc : Thread Cert.DaLat.nD Cert.DaLat.τ).loc Cert.DaLat.main_arg0) = m ((c.tc : Thread Cert.DaLat.nD Cert.DaLat.τ).loc Cert.DaLat.main_arg0)
      ∧ r.2.mem ((c.tc : Thread Cert.DaLat.nD Cert.DaLat.τ).loc Cert.DaLat.main_arg1) = m ((c.tc : Thread Cert.DaLat.nD Cert.DaLat.τ).loc Cert.DaLat.main_arg1)
      ∧ r.2.mem ((c.tc : Thread Cert.DaLat.nD Cert.DaLat.τ).loc Cert.DaLat.main_arg2) = m ((c.tc : Thread Cert.DaLat.nD Cert.DaLat.τ).loc Cert.DaLat.main_arg2)
      ∧ r.2.mem ((c.tc : Thread Cert.DaLat.nD Cert.DaLat.τ).loc Cert.DaLat.main_arg3) = m ((c.tc : Thread Cert.DaLat.nD Cert.DaLat.τ).loc Cert.DaLat.main_arg3)
      ∧ r.2.mem ((c.tc : Thread Cert.DaLat.nD Cert.DaLat.τ).loc Cert.DaLat.main_arg4) = m ((c.tc : Thread Cert.DaLat.nD Cert.DaLat.τ).loc Cert.DaLat.main_arg4)
      ∧ r.2.mem ((c.tc : Thread Cert.DaLat.nD Cert.DaLat.τ).loc Cert.DaLat.main_arg5) = m ((c.tc : Thread Cert.DaLat.nD Cert.DaLat.τ).loc Cert.DaLat.main_arg5)
      ∧ r.2.mem ((c.tc : Thread Cert.DaLat.nD Cert.DaLat.τ).loc Cert.DaLat.main_arg6) = m ((c.tc : Thread Cert.DaLat.nD Cert.DaLat.τ).loc Cert.DaLat.main_arg6)
      ∧ r.2.mem ((c.tc : Thread Cert.DaLat.nD Cert.DaLat.τ).loc Cert.DaLat.main_arg7) = m ((c.tc : Thread Cert.DaLat.nD Cert.DaLat.τ).loc Cert.DaLat.main_arg7))
      ∧ r.2.sem = fun _ => 0)

def quiescent_DaLatIdeal [hDaLatIdeal : Cert.DaLatIdeal.Facts] : Prop :=
  ∀ (m : (ℓ : Loc Cert.DaLatIdeal.nD Cert.DaLatIdeal.τ Cert.DaLatIdeal.sig) → Buf (Elt Ideal) ℓ) (g : Dev Cert.DaLatIdeal.nD → PrngReg), Pre_DaLatIdeal m →
    θ_run (Cert.DaLatIdeal.defs (F := Ideal)) (onTc (τ := Cert.DaLatIdeal.τ) (Cert.DaLatIdeal.main (F := Ideal))) ⟨m, fun _ => 0, g⟩ (fun r => (∀ c : Dev Cert.DaLatIdeal.nD,
      r.2.mem ((c.tc : Thread Cert.DaLatIdeal.nD Cert.DaLatIdeal.τ).loc Cert.DaLatIdeal.main_arg0) = m ((c.tc : Thread Cert.DaLatIdeal.nD Cert.DaLatIdeal.τ).loc Cert.DaLatIdeal.main_arg0)
      ∧ r.2.mem ((c.tc : Thread Cert.DaLatIdeal.nD Cert.DaLatIdeal.τ).loc Cert.DaLatIdeal.main_arg1) = m ((c.tc : Thread Cert.DaLatIdeal.nD Cert.DaLatIdeal.τ).loc Cert.DaLatIdeal.main_arg1)
      ∧ r.2.mem ((c.tc : Thread Cert.DaLatIdeal.nD Cert.DaLatIdeal.τ).loc Cert.DaLatIdeal.main_arg2) = m ((c.tc : Thread Cert.DaLatIdeal.nD Cert.DaLatIdeal.τ).loc Cert.DaLatIdeal.main_arg2)
      ∧ r.2.mem ((c.tc : Thread Cert.DaLatIdeal.nD Cert.DaLatIdeal.τ).loc Cert.DaLatIdeal.main_arg3) = m ((c.tc : Thread Cert.DaLatIdeal.nD Cert.DaLatIdeal.τ).loc Cert.DaLatIdeal.main_arg3)
      ∧ r.2.mem ((c.tc : Thread Cert.DaLatIdeal.nD Cert.DaLatIdeal.τ).loc Cert.DaLatIdeal.main_arg4) = m ((c.tc : Thread Cert.DaLatIdeal.nD Cert.DaLatIdeal.τ).loc Cert.DaLatIdeal.main_arg4)
      ∧ r.2.mem ((c.tc : Thread Cert.DaLatIdeal.nD Cert.DaLatIdeal.τ).loc Cert.DaLatIdeal.main_arg5) = m ((c.tc : Thread Cert.DaLatIdeal.nD Cert.DaLatIdeal.τ).loc Cert.DaLatIdeal.main_arg5)
      ∧ r.2.mem ((c.tc : Thread Cert.DaLatIdeal.nD Cert.DaLatIdeal.τ).loc Cert.DaLatIdeal.main_arg6) = m ((c.tc : Thread Cert.DaLatIdeal.nD Cert.DaLatIdeal.τ).loc Cert.DaLatIdeal.main_arg6)
      ∧ r.2.mem ((c.tc : Thread Cert.DaLatIdeal.nD Cert.DaLatIdeal.τ).loc Cert.DaLatIdeal.main_arg7) = m ((c.tc : Thread Cert.DaLatIdeal.nD Cert.DaLatIdeal.τ).loc Cert.DaLatIdeal.main_arg7))
      ∧ r.2.sem = fun _ => 0)

def quiescent_DaLatIdeal_pre_finite [hDaLatIdeal : Cert.DaLatIdeal.Facts] [hPre_finite : Cert.Pre_finite.Facts] : Prop :=
  ∀ (m : (ℓ : Loc Cert.DaLatIdeal.nD Cert.DaLatIdeal.τ Cert.DaLatIdeal.sig) → Buf (Elt Ideal) ℓ) (g : Dev Cert.DaLatIdeal.nD → PrngReg), Pre_DaLatIdeal_finite m →
    θ_run (Cert.DaLatIdeal.defs (F := Ideal)) (onTc (τ := Cert.DaLatIdeal.τ) (Cert.DaLatIdeal.main (F := Ideal))) ⟨m, fun _ => 0, g⟩ (fun r => (∀ c : Dev Cert.DaLatIdeal.nD,
      r.2.mem ((c.tc : Thread Cert.DaLatIdeal.nD Cert.DaLatIdeal.τ).loc Cert.DaLatIdeal.main_arg0) = m ((c.tc : Thread Cert.DaLatIdeal.nD Cert.DaLatIdeal.τ).loc Cert.DaLatIdeal.main_arg0)
      ∧ r.2.mem ((c.tc : Thread Cert.DaLatIdeal.nD Cert.DaLatIdeal.τ).loc Cert.DaLatIdeal.main_arg1) = m ((c.tc : Thread Cert.DaLatIdeal.nD Cert.DaLatIdeal.τ).loc Cert.DaLatIdeal.main_arg1)
      ∧ r.2.mem ((c.tc : Thread Cert.DaLatIdeal.nD Cert.DaLatIdeal.τ).loc Cert.DaLatIdeal.main_arg2) = m ((c.tc : Thread Cert.DaLatIdeal.nD Cert.DaLatIdeal.τ).loc Cert.DaLatIdeal.main_arg2)
      ∧ r.2.mem ((c.tc : Thread Cert.DaLatIdeal.nD Cert.DaLatIdeal.τ).loc Cert.DaLatIdeal.main_arg3) = m ((c.tc : Thread Cert.DaLatIdeal.nD Cert.DaLatIdeal.τ).loc Cert.DaLatIdeal.main_arg3)
      ∧ r.2.mem ((c.tc : Thread Cert.DaLatIdeal.nD Cert.DaLatIdeal.τ).loc Cert.DaLatIdeal.main_arg4) = m ((c.tc : Thread Cert.DaLatIdeal.nD Cert.DaLatIdeal.τ).loc Cert.DaLatIdeal.main_arg4)
      ∧ r.2.mem ((c.tc : Thread Cert.DaLatIdeal.nD Cert.DaLatIdeal.τ).loc Cert.DaLatIdeal.main_arg5) = m ((c.tc : Thread Cert.DaLatIdeal.nD Cert.DaLatIdeal.τ).loc Cert.DaLatIdeal.main_arg5)
      ∧ r.2.mem ((c.tc : Thread Cert.DaLatIdeal.nD Cert.DaLatIdeal.τ).loc Cert.DaLatIdeal.main_arg6) = m ((c.tc : Thread Cert.DaLatIdeal.nD Cert.DaLatIdeal.τ).loc Cert.DaLatIdeal.main_arg6)
      ∧ r.2.mem ((c.tc : Thread Cert.DaLatIdeal.nD Cert.DaLatIdeal.τ).loc Cert.DaLatIdeal.main_arg7) = m ((c.tc : Thread Cert.DaLatIdeal.nD Cert.DaLatIdeal.τ).loc Cert.DaLatIdeal.main_arg7))
      ∧ r.2.sem = fun _ => 0)

def quiescent_DaLatRefIdeal [hDaLatRefIdeal : Cert.DaLatRefIdeal.Facts] : Prop :=
  ∀ (m : (ℓ : Loc Cert.DaLatRefIdeal.nD Cert.DaLatRefIdeal.τ Cert.DaLatRefIdeal.sig) → Buf (Elt Ideal) ℓ) (g : Dev Cert.DaLatRefIdeal.nD → PrngReg), Pre_DaLatRefIdeal m →
    θ_run (Cert.DaLatRefIdeal.defs (F := Ideal)) (onTc (τ := Cert.DaLatRefIdeal.τ) (Cert.DaLatRefIdeal.main (F := Ideal))) ⟨m, fun _ => 0, g⟩ (fun r => (∀ c : Dev Cert.DaLatRefIdeal.nD,
      r.2.mem ((c.tc : Thread Cert.DaLatRefIdeal.nD Cert.DaLatRefIdeal.τ).loc Cert.DaLatRefIdeal.main_arg0) = m ((c.tc : Thread Cert.DaLatRefIdeal.nD Cert.DaLatRefIdeal.τ).loc Cert.DaLatRefIdeal.main_arg0)
      ∧ r.2.mem ((c.tc : Thread Cert.DaLatRefIdeal.nD Cert.DaLatRefIdeal.τ).loc Cert.DaLatRefIdeal.main_arg1) = m ((c.tc : Thread Cert.DaLatRefIdeal.nD Cert.DaLatRefIdeal.τ).loc Cert.DaLatRefIdeal.main_arg1)
      ∧ r.2.mem ((c.tc : Thread Cert.DaLatRefIdeal.nD Cert.DaLatRefIdeal.τ).loc Cert.DaLatRefIdeal.main_arg2) = m ((c.tc : Thread Cert.DaLatRefIdeal.nD Cert.DaLatRefIdeal.τ).loc Cert.DaLatRefIdeal.main_arg2)
      ∧ r.2.mem ((c.tc : Thread Cert.DaLatRefIdeal.nD Cert.DaLatRefIdeal.τ).loc Cert.DaLatRefIdeal.main_arg3) = m ((c.tc : Thread Cert.DaLatRefIdeal.nD Cert.DaLatRefIdeal.τ).loc Cert.DaLatRefIdeal.main_arg3)
      ∧ r.2.mem ((c.tc : Thread Cert.DaLatRefIdeal.nD Cert.DaLatRefIdeal.τ).loc Cert.DaLatRefIdeal.main_arg4) = m ((c.tc : Thread Cert.DaLatRefIdeal.nD Cert.DaLatRefIdeal.τ).loc Cert.DaLatRefIdeal.main_arg4)
      ∧ r.2.mem ((c.tc : Thread Cert.DaLatRefIdeal.nD Cert.DaLatRefIdeal.τ).loc Cert.DaLatRefIdeal.main_arg5) = m ((c.tc : Thread Cert.DaLatRefIdeal.nD Cert.DaLatRefIdeal.τ).loc Cert.DaLatRefIdeal.main_arg5)
      ∧ r.2.mem ((c.tc : Thread Cert.DaLatRefIdeal.nD Cert.DaLatRefIdeal.τ).loc Cert.DaLatRefIdeal.main_arg6) = m ((c.tc : Thread Cert.DaLatRefIdeal.nD Cert.DaLatRefIdeal.τ).loc Cert.DaLatRefIdeal.main_arg6)
      ∧ r.2.mem ((c.tc : Thread Cert.DaLatRefIdeal.nD Cert.DaLatRefIdeal.τ).loc Cert.DaLatRefIdeal.main_arg7) = m ((c.tc : Thread Cert.DaLatRefIdeal.nD Cert.DaLatRefIdeal.τ).loc Cert.DaLatRefIdeal.main_arg7))
      ∧ r.2.sem = fun _ => 0)

def quiescent_DaLatRefIdeal_pre_finite [hDaLatRefIdeal : Cert.DaLatRefIdeal.Facts] [hPre_finite : Cert.Pre_finite.Facts] : Prop :=
  ∀ (m : (ℓ : Loc Cert.DaLatRefIdeal.nD Cert.DaLatRefIdeal.τ Cert.DaLatRefIdeal.sig) → Buf (Elt Ideal) ℓ) (g : Dev Cert.DaLatRefIdeal.nD → PrngReg), Pre_DaLatRefIdeal_finite m →
    θ_run (Cert.DaLatRefIdeal.defs (F := Ideal)) (onTc (τ := Cert.DaLatRefIdeal.τ) (Cert.DaLatRefIdeal.main (F := Ideal))) ⟨m, fun _ => 0, g⟩ (fun r => (∀ c : Dev Cert.DaLatRefIdeal.nD,
      r.2.mem ((c.tc : Thread Cert.DaLatRefIdeal.nD Cert.DaLatRefIdeal.τ).loc Cert.DaLatRefIdeal.main_arg0) = m ((c.tc : Thread Cert.DaLatRefIdeal.nD Cert.DaLatRefIdeal.τ).loc Cert.DaLatRefIdeal.main_arg0)
      ∧ r.2.mem ((c.tc : Thread Cert.DaLatRefIdeal.nD Cert.DaLatRefIdeal.τ).loc Cert.DaLatRefIdeal.main_arg1) = m ((c.tc : Thread Cert.DaLatRefIdeal.nD Cert.DaLatRefIdeal.τ).loc Cert.DaLatRefIdeal.main_arg1)
      ∧ r.2.mem ((c.tc : Thread Cert.DaLatRefIdeal.nD Cert.DaLatRefIdeal.τ).loc Cert.DaLatRefIdeal.main_arg2) = m ((c.tc : Thread Cert.DaLatRefIdeal.nD Cert.DaLatRefIdeal.τ).loc Cert.DaLatRefIdeal.main_arg2)
      ∧ r.2.mem ((c.tc : Thread Cert.DaLatRefIdeal.nD Cert.DaLatRefIdeal.τ).loc Cert.DaLatRefIdeal.main_arg3) = m ((c.tc : Thread Cert.DaLatRefIdeal.nD Cert.DaLatRefIdeal.τ).loc Cert.DaLatRefIdeal.main_arg3)
      ∧ r.2.mem ((c.tc : Thread Cert.DaLatRefIdeal.nD Cert.DaLatRefIdeal.τ).loc Cert.DaLatRefIdeal.main_arg4) = m ((c.tc : Thread Cert.DaLatRefIdeal.nD Cert.DaLatRefIdeal.τ).loc Cert.DaLatRefIdeal.main_arg4)
      ∧ r.2.mem ((c.tc : Thread Cert.DaLatRefIdeal.nD Cert.DaLatRefIdeal.τ).loc Cert.DaLatRefIdeal.main_arg5) = m ((c.tc : Thread Cert.DaLatRefIdeal.nD Cert.DaLatRefIdeal.τ).loc Cert.DaLatRefIdeal.main_arg5)
      ∧ r.2.mem ((c.tc : Thread Cert.DaLatRefIdeal.nD Cert.DaLatRefIdeal.τ).loc Cert.DaLatRefIdeal.main_arg6) = m ((c.tc : Thread Cert.DaLatRefIdeal.nD Cert.DaLatRefIdeal.τ).loc Cert.DaLatRefIdeal.main_arg6)
      ∧ r.2.mem ((c.tc : Thread Cert.DaLatRefIdeal.nD Cert.DaLatRefIdeal.τ).loc Cert.DaLatRefIdeal.main_arg7) = m ((c.tc : Thread Cert.DaLatRefIdeal.nD Cert.DaLatRefIdeal.τ).loc Cert.DaLatRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_MlaLat [hMlaLat : Cert.MlaLat.Facts] : Prop :=
  ∀ (m : (ℓ : Loc Cert.MlaLat.nD Cert.MlaLat.τ Cert.MlaLat.sig) → Buf (Elt Bits) ℓ) (g : Dev Cert.MlaLat.nD → PrngReg), Pre_MlaLat m →
    θ_run (Cert.MlaLat.defs (F := Bits)) (onTc (τ := Cert.MlaLat.τ) (Cert.MlaLat.main (F := Bits))) ⟨m, fun _ => 0, g⟩ (fun r => (∀ c : Dev Cert.MlaLat.nD,
      r.2.mem ((c.tc : Thread Cert.MlaLat.nD Cert.MlaLat.τ).loc Cert.MlaLat.main_arg0) = m ((c.tc : Thread Cert.MlaLat.nD Cert.MlaLat.τ).loc Cert.MlaLat.main_arg0)
      ∧ r.2.mem ((c.tc : Thread Cert.MlaLat.nD Cert.MlaLat.τ).loc Cert.MlaLat.main_arg1) = m ((c.tc : Thread Cert.MlaLat.nD Cert.MlaLat.τ).loc Cert.MlaLat.main_arg1)
      ∧ r.2.mem ((c.tc : Thread Cert.MlaLat.nD Cert.MlaLat.τ).loc Cert.MlaLat.main_arg2) = m ((c.tc : Thread Cert.MlaLat.nD Cert.MlaLat.τ).loc Cert.MlaLat.main_arg2))
      ∧ r.2.sem = fun _ => 0)

def quiescent_MlaLatIdeal [hMlaLatIdeal : Cert.MlaLatIdeal.Facts] : Prop :=
  ∀ (m : (ℓ : Loc Cert.MlaLatIdeal.nD Cert.MlaLatIdeal.τ Cert.MlaLatIdeal.sig) → Buf (Elt Ideal) ℓ) (g : Dev Cert.MlaLatIdeal.nD → PrngReg), Pre_MlaLatIdeal m →
    θ_run (Cert.MlaLatIdeal.defs (F := Ideal)) (onTc (τ := Cert.MlaLatIdeal.τ) (Cert.MlaLatIdeal.main (F := Ideal))) ⟨m, fun _ => 0, g⟩ (fun r => (∀ c : Dev Cert.MlaLatIdeal.nD,
      r.2.mem ((c.tc : Thread Cert.MlaLatIdeal.nD Cert.MlaLatIdeal.τ).loc Cert.MlaLatIdeal.main_arg0) = m ((c.tc : Thread Cert.MlaLatIdeal.nD Cert.MlaLatIdeal.τ).loc Cert.MlaLatIdeal.main_arg0)
      ∧ r.2.mem ((c.tc : Thread Cert.MlaLatIdeal.nD Cert.MlaLatIdeal.τ).loc Cert.MlaLatIdeal.main_arg1) = m ((c.tc : Thread Cert.MlaLatIdeal.nD Cert.MlaLatIdeal.τ).loc Cert.MlaLatIdeal.main_arg1)
      ∧ r.2.mem ((c.tc : Thread Cert.MlaLatIdeal.nD Cert.MlaLatIdeal.τ).loc Cert.MlaLatIdeal.main_arg2) = m ((c.tc : Thread Cert.MlaLatIdeal.nD Cert.MlaLatIdeal.τ).loc Cert.MlaLatIdeal.main_arg2))
      ∧ r.2.sem = fun _ => 0)

def quiescent_MlaLatIdeal_pre_finite_qk [hMlaLatIdeal : Cert.MlaLatIdeal.Facts] [hPre_finite_qk : Cert.Pre_finite_qk.Facts] : Prop :=
  ∀ (m : (ℓ : Loc Cert.MlaLatIdeal.nD Cert.MlaLatIdeal.τ Cert.MlaLatIdeal.sig) → Buf (Elt Ideal) ℓ) (g : Dev Cert.MlaLatIdeal.nD → PrngReg), Pre_MlaLatIdeal_finite_qk m →
    θ_run (Cert.MlaLatIdeal.defs (F := Ideal)) (onTc (τ := Cert.MlaLatIdeal.τ) (Cert.MlaLatIdeal.main (F := Ideal))) ⟨m, fun _ => 0, g⟩ (fun r => (∀ c : Dev Cert.MlaLatIdeal.nD,
      r.2.mem ((c.tc : Thread Cert.MlaLatIdeal.nD Cert.MlaLatIdeal.τ).loc Cert.MlaLatIdeal.main_arg0) = m ((c.tc : Thread Cert.MlaLatIdeal.nD Cert.MlaLatIdeal.τ).loc Cert.MlaLatIdeal.main_arg0)
      ∧ r.2.mem ((c.tc : Thread Cert.MlaLatIdeal.nD Cert.MlaLatIdeal.τ).loc Cert.MlaLatIdeal.main_arg1) = m ((c.tc : Thread Cert.MlaLatIdeal.nD Cert.MlaLatIdeal.τ).loc Cert.MlaLatIdeal.main_arg1)
      ∧ r.2.mem ((c.tc : Thread Cert.MlaLatIdeal.nD Cert.MlaLatIdeal.τ).loc Cert.MlaLatIdeal.main_arg2) = m ((c.tc : Thread Cert.MlaLatIdeal.nD Cert.MlaLatIdeal.τ).loc Cert.MlaLatIdeal.main_arg2))
      ∧ r.2.sem = fun _ => 0)

def quiescent_MlaLatRefIdeal [hMlaLatRefIdeal : Cert.MlaLatRefIdeal.Facts] : Prop :=
  ∀ (m : (ℓ : Loc Cert.MlaLatRefIdeal.nD Cert.MlaLatRefIdeal.τ Cert.MlaLatRefIdeal.sig) → Buf (Elt Ideal) ℓ) (g : Dev Cert.MlaLatRefIdeal.nD → PrngReg), Pre_MlaLatRefIdeal m →
    θ_run (Cert.MlaLatRefIdeal.defs (F := Ideal)) (onTc (τ := Cert.MlaLatRefIdeal.τ) (Cert.MlaLatRefIdeal.main (F := Ideal))) ⟨m, fun _ => 0, g⟩ (fun r => (∀ c : Dev Cert.MlaLatRefIdeal.nD,
      r.2.mem ((c.tc : Thread Cert.MlaLatRefIdeal.nD Cert.MlaLatRefIdeal.τ).loc Cert.MlaLatRefIdeal.main_arg0) = m ((c.tc : Thread Cert.MlaLatRefIdeal.nD Cert.MlaLatRefIdeal.τ).loc Cert.MlaLatRefIdeal.main_arg0)
      ∧ r.2.mem ((c.tc : Thread Cert.MlaLatRefIdeal.nD Cert.MlaLatRefIdeal.τ).loc Cert.MlaLatRefIdeal.main_arg1) = m ((c.tc : Thread Cert.MlaLatRefIdeal.nD Cert.MlaLatRefIdeal.τ).loc Cert.MlaLatRefIdeal.main_arg1)
      ∧ r.2.mem ((c.tc : Thread Cert.MlaLatRefIdeal.nD Cert.MlaLatRefIdeal.τ).loc Cert.MlaLatRefIdeal.main_arg2) = m ((c.tc : Thread Cert.MlaLatRefIdeal.nD Cert.MlaLatRefIdeal.τ).loc Cert.MlaLatRefIdeal.main_arg2))
      ∧ r.2.sem = fun _ => 0)

def quiescent_MlaLatRefIdeal_pre_finite_qk [hMlaLatRefIdeal : Cert.MlaLatRefIdeal.Facts] [hPre_finite_qk : Cert.Pre_finite_qk.Facts] : Prop :=
  ∀ (m : (ℓ : Loc Cert.MlaLatRefIdeal.nD Cert.MlaLatRefIdeal.τ Cert.MlaLatRefIdeal.sig) → Buf (Elt Ideal) ℓ) (g : Dev Cert.MlaLatRefIdeal.nD → PrngReg), Pre_MlaLatRefIdeal_finite_qk m →
    θ_run (Cert.MlaLatRefIdeal.defs (F := Ideal)) (onTc (τ := Cert.MlaLatRefIdeal.τ) (Cert.MlaLatRefIdeal.main (F := Ideal))) ⟨m, fun _ => 0, g⟩ (fun r => (∀ c : Dev Cert.MlaLatRefIdeal.nD,
      r.2.mem ((c.tc : Thread Cert.MlaLatRefIdeal.nD Cert.MlaLatRefIdeal.τ).loc Cert.MlaLatRefIdeal.main_arg0) = m ((c.tc : Thread Cert.MlaLatRefIdeal.nD Cert.MlaLatRefIdeal.τ).loc Cert.MlaLatRefIdeal.main_arg0)
      ∧ r.2.mem ((c.tc : Thread Cert.MlaLatRefIdeal.nD Cert.MlaLatRefIdeal.τ).loc Cert.MlaLatRefIdeal.main_arg1) = m ((c.tc : Thread Cert.MlaLatRefIdeal.nD Cert.MlaLatRefIdeal.τ).loc Cert.MlaLatRefIdeal.main_arg1)
      ∧ r.2.mem ((c.tc : Thread Cert.MlaLatRefIdeal.nD Cert.MlaLatRefIdeal.τ).loc Cert.MlaLatRefIdeal.main_arg2) = m ((c.tc : Thread Cert.MlaLatRefIdeal.nD Cert.MlaLatRefIdeal.τ).loc Cert.MlaLatRefIdeal.main_arg2))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def preserves_DaLat_DaLatIdeal : Prop :=
  IdealRules.named_const.Statement Cert.DaLatIdeal.κ "inv_dv" .f32 0x3C2AAAAB#32 ((1 / 96 : ℝ) : EReal)

def algebraic_DaLatIdeal_DaLatRefIdeal_pre_finite [hDaLatIdeal : Cert.DaLatIdeal.Facts] [hDaLatRefIdeal : Cert.DaLatRefIdeal.Facts] [hPre_finite : Cert.Pre_finite.Facts] : Prop :=
  ∀ (m : (ℓ : Loc Cert.DaLatIdeal.nD Cert.DaLatIdeal.τ Cert.DaLatIdeal.sig) → Buf (Elt Ideal) ℓ) (g : Dev Cert.DaLatIdeal.nD → PrngReg)
    (m' : (ℓ : Loc Cert.DaLatRefIdeal.nD Cert.DaLatRefIdeal.τ Cert.DaLatRefIdeal.sig) → Buf (Elt Ideal) ℓ) (g' : Dev Cert.DaLatRefIdeal.nD → PrngReg), Pre_DaLatIdeal_finite m →
    (∀ c : Dev Cert.DaLatIdeal.nD,
      m' ((c.tc : Thread Cert.DaLatRefIdeal.nD Cert.DaLatRefIdeal.τ).loc Cert.DaLatRefIdeal.main_arg0) = m ((c.tc : Thread Cert.DaLatIdeal.nD Cert.DaLatIdeal.τ).loc Cert.DaLatIdeal.main_arg0)
      ∧ m' ((c.tc : Thread Cert.DaLatRefIdeal.nD Cert.DaLatRefIdeal.τ).loc Cert.DaLatRefIdeal.main_arg1) = m ((c.tc : Thread Cert.DaLatIdeal.nD Cert.DaLatIdeal.τ).loc Cert.DaLatIdeal.main_arg1)
      ∧ m' ((c.tc : Thread Cert.DaLatRefIdeal.nD Cert.DaLatRefIdeal.τ).loc Cert.DaLatRefIdeal.main_arg2) = m ((c.tc : Thread Cert.DaLatIdeal.nD Cert.DaLatIdeal.τ).loc Cert.DaLatIdeal.main_arg2)
      ∧ m' ((c.tc : Thread Cert.DaLatRefIdeal.nD Cert.DaLatRefIdeal.τ).loc Cert.DaLatRefIdeal.main_arg3) = m ((c.tc : Thread Cert.DaLatIdeal.nD Cert.DaLatIdeal.τ).loc Cert.DaLatIdeal.main_arg3)
      ∧ m' ((c.tc : Thread Cert.DaLatRefIdeal.nD Cert.DaLatRefIdeal.τ).loc Cert.DaLatRefIdeal.main_arg4) = m ((c.tc : Thread Cert.DaLatIdeal.nD Cert.DaLatIdeal.τ).loc Cert.DaLatIdeal.main_arg4)
      ∧ m' ((c.tc : Thread Cert.DaLatRefIdeal.nD Cert.DaLatRefIdeal.τ).loc Cert.DaLatRefIdeal.main_arg5) = m ((c.tc : Thread Cert.DaLatIdeal.nD Cert.DaLatIdeal.τ).loc Cert.DaLatIdeal.main_arg5)
      ∧ m' ((c.tc : Thread Cert.DaLatRefIdeal.nD Cert.DaLatRefIdeal.τ).loc Cert.DaLatRefIdeal.main_arg6) = m ((c.tc : Thread Cert.DaLatIdeal.nD Cert.DaLatIdeal.τ).loc Cert.DaLatIdeal.main_arg6)
      ∧ m' ((c.tc : Thread Cert.DaLatRefIdeal.nD Cert.DaLatRefIdeal.τ).loc Cert.DaLatRefIdeal.main_arg7) = m ((c.tc : Thread Cert.DaLatIdeal.nD Cert.DaLatIdeal.τ).loc Cert.DaLatIdeal.main_arg7)) →
    ∃ (v0 : (c : Dev Cert.DaLatIdeal.nD) → Buf (Elt Ideal) ((c.tc : Thread Cert.DaLatIdeal.nD Cert.DaLatIdeal.τ).loc Cert.DaLatIdeal.main_v33)),
      θ_run (Cert.DaLatIdeal.defs (F := Ideal)) (onTc (τ := Cert.DaLatIdeal.τ) (Cert.DaLatIdeal.main (F := Ideal))) ⟨m, fun _ => 0, g⟩ (fun r => ∀ c : Dev Cert.DaLatIdeal.nD,
          r.2.mem ((c.tc : Thread Cert.DaLatIdeal.nD Cert.DaLatIdeal.τ).loc Cert.DaLatIdeal.main_v33) = v0 c
          ∧ r.2.mem ((c.tc : Thread Cert.DaLatIdeal.nD Cert.DaLatIdeal.τ).loc Cert.DaLatIdeal.main_arg0) = m ((c.tc : Thread Cert.DaLatIdeal.nD Cert.DaLatIdeal.τ).loc Cert.DaLatIdeal.main_arg0)
          ∧ r.2.mem ((c.tc : Thread Cert.DaLatIdeal.nD Cert.DaLatIdeal.τ).loc Cert.DaLatIdeal.main_arg1) = m ((c.tc : Thread Cert.DaLatIdeal.nD Cert.DaLatIdeal.τ).loc Cert.DaLatIdeal.main_arg1)
          ∧ r.2.mem ((c.tc : Thread Cert.DaLatIdeal.nD Cert.DaLatIdeal.τ).loc Cert.DaLatIdeal.main_arg2) = m ((c.tc : Thread Cert.DaLatIdeal.nD Cert.DaLatIdeal.τ).loc Cert.DaLatIdeal.main_arg2)
          ∧ r.2.mem ((c.tc : Thread Cert.DaLatIdeal.nD Cert.DaLatIdeal.τ).loc Cert.DaLatIdeal.main_arg3) = m ((c.tc : Thread Cert.DaLatIdeal.nD Cert.DaLatIdeal.τ).loc Cert.DaLatIdeal.main_arg3)
          ∧ r.2.mem ((c.tc : Thread Cert.DaLatIdeal.nD Cert.DaLatIdeal.τ).loc Cert.DaLatIdeal.main_arg4) = m ((c.tc : Thread Cert.DaLatIdeal.nD Cert.DaLatIdeal.τ).loc Cert.DaLatIdeal.main_arg4)
          ∧ r.2.mem ((c.tc : Thread Cert.DaLatIdeal.nD Cert.DaLatIdeal.τ).loc Cert.DaLatIdeal.main_arg5) = m ((c.tc : Thread Cert.DaLatIdeal.nD Cert.DaLatIdeal.τ).loc Cert.DaLatIdeal.main_arg5)
          ∧ r.2.mem ((c.tc : Thread Cert.DaLatIdeal.nD Cert.DaLatIdeal.τ).loc Cert.DaLatIdeal.main_arg6) = m ((c.tc : Thread Cert.DaLatIdeal.nD Cert.DaLatIdeal.τ).loc Cert.DaLatIdeal.main_arg6)
          ∧ r.2.mem ((c.tc : Thread Cert.DaLatIdeal.nD Cert.DaLatIdeal.τ).loc Cert.DaLatIdeal.main_arg7) = m ((c.tc : Thread Cert.DaLatIdeal.nD Cert.DaLatIdeal.τ).loc Cert.DaLatIdeal.main_arg7))
      ∧ θ_run (Cert.DaLatRefIdeal.defs (F := Ideal)) (onTc (τ := Cert.DaLatRefIdeal.τ) (Cert.DaLatRefIdeal.main (F := Ideal))) ⟨m', fun _ => 0, g'⟩ (fun r => ∀ c : Dev Cert.DaLatRefIdeal.nD,
          r.2.mem ((c.tc : Thread Cert.DaLatRefIdeal.nD Cert.DaLatRefIdeal.τ).loc Cert.DaLatRefIdeal.main_v83) = v0 c
          ∧ r.2.mem ((c.tc : Thread Cert.DaLatRefIdeal.nD Cert.DaLatRefIdeal.τ).loc Cert.DaLatRefIdeal.main_arg0) = m' ((c.tc : Thread Cert.DaLatRefIdeal.nD Cert.DaLatRefIdeal.τ).loc Cert.DaLatRefIdeal.main_arg0)
          ∧ r.2.mem ((c.tc : Thread Cert.DaLatRefIdeal.nD Cert.DaLatRefIdeal.τ).loc Cert.DaLatRefIdeal.main_arg1) = m' ((c.tc : Thread Cert.DaLatRefIdeal.nD Cert.DaLatRefIdeal.τ).loc Cert.DaLatRefIdeal.main_arg1)
          ∧ r.2.mem ((c.tc : Thread Cert.DaLatRefIdeal.nD Cert.DaLatRefIdeal.τ).loc Cert.DaLatRefIdeal.main_arg2) = m' ((c.tc : Thread Cert.DaLatRefIdeal.nD Cert.DaLatRefIdeal.τ).loc Cert.DaLatRefIdeal.main_arg2)
          ∧ r.2.mem ((c.tc : Thread Cert.DaLatRefIdeal.nD Cert.DaLatRefIdeal.τ).loc Cert.DaLatRefIdeal.main_arg3) = m' ((c.tc : Thread Cert.DaLatRefIdeal.nD Cert.DaLatRefIdeal.τ).loc Cert.DaLatRefIdeal.main_arg3)
          ∧ r.2.mem ((c.tc : Thread Cert.DaLatRefIdeal.nD Cert.DaLatRefIdeal.τ).loc Cert.DaLatRefIdeal.main_arg4) = m' ((c.tc : Thread Cert.DaLatRefIdeal.nD Cert.DaLatRefIdeal.τ).loc Cert.DaLatRefIdeal.main_arg4)
          ∧ r.2.mem ((c.tc : Thread Cert.DaLatRefIdeal.nD Cert.DaLatRefIdeal.τ).loc Cert.DaLatRefIdeal.main_arg5) = m' ((c.tc : Thread Cert.DaLatRefIdeal.nD Cert.DaLatRefIdeal.τ).loc Cert.DaLatRefIdeal.main_arg5)
          ∧ r.2.mem ((c.tc : Thread Cert.DaLatRefIdeal.nD Cert.DaLatRefIdeal.τ).loc Cert.DaLatRefIdeal.main_arg6) = m' ((c.tc : Thread Cert.DaLatRefIdeal.nD Cert.DaLatRefIdeal.τ).loc Cert.DaLatRefIdeal.main_arg6)
          ∧ r.2.mem ((c.tc : Thread Cert.DaLatRefIdeal.nD Cert.DaLatRefIdeal.τ).loc Cert.DaLatRefIdeal.main_arg7) = m' ((c.tc : Thread Cert.DaLatRefIdeal.nD Cert.DaLatRefIdeal.τ).loc Cert.DaLatRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_MlaLat_MlaLatIdeal : Prop :=
  True

def algebraic_MlaLatIdeal_MlaLatRefIdeal_pre_finite_qk [hMlaLatIdeal : Cert.MlaLatIdeal.Facts] [hMlaLatRefIdeal : Cert.MlaLatRefIdeal.Facts] [hPre_finite_qk : Cert.Pre_finite_qk.Facts] : Prop :=
  ∀ (m : (ℓ : Loc Cert.MlaLatIdeal.nD Cert.MlaLatIdeal.τ Cert.MlaLatIdeal.sig) → Buf (Elt Ideal) ℓ) (g : Dev Cert.MlaLatIdeal.nD → PrngReg)
    (m' : (ℓ : Loc Cert.MlaLatRefIdeal.nD Cert.MlaLatRefIdeal.τ Cert.MlaLatRefIdeal.sig) → Buf (Elt Ideal) ℓ) (g' : Dev Cert.MlaLatRefIdeal.nD → PrngReg), Pre_MlaLatIdeal_finite_qk m →
    (∀ c : Dev Cert.MlaLatIdeal.nD,
      m' ((c.tc : Thread Cert.MlaLatRefIdeal.nD Cert.MlaLatRefIdeal.τ).loc Cert.MlaLatRefIdeal.main_arg0) = m ((c.tc : Thread Cert.MlaLatIdeal.nD Cert.MlaLatIdeal.τ).loc Cert.MlaLatIdeal.main_arg0)
      ∧ m' ((c.tc : Thread Cert.MlaLatRefIdeal.nD Cert.MlaLatRefIdeal.τ).loc Cert.MlaLatRefIdeal.main_arg1) = m ((c.tc : Thread Cert.MlaLatIdeal.nD Cert.MlaLatIdeal.τ).loc Cert.MlaLatIdeal.main_arg1)
      ∧ m' ((c.tc : Thread Cert.MlaLatRefIdeal.nD Cert.MlaLatRefIdeal.τ).loc Cert.MlaLatRefIdeal.main_arg2) = m ((c.tc : Thread Cert.MlaLatIdeal.nD Cert.MlaLatIdeal.τ).loc Cert.MlaLatIdeal.main_arg2)) →
    ∃ (v0 : (c : Dev Cert.MlaLatIdeal.nD) → Buf (Elt Ideal) ((c.tc : Thread Cert.MlaLatIdeal.nD Cert.MlaLatIdeal.τ).loc Cert.MlaLatIdeal.main_v22)),
      θ_run (Cert.MlaLatIdeal.defs (F := Ideal)) (onTc (τ := Cert.MlaLatIdeal.τ) (Cert.MlaLatIdeal.main (F := Ideal))) ⟨m, fun _ => 0, g⟩ (fun r => ∀ c : Dev Cert.MlaLatIdeal.nD,
          r.2.mem ((c.tc : Thread Cert.MlaLatIdeal.nD Cert.MlaLatIdeal.τ).loc Cert.MlaLatIdeal.main_v22) = v0 c
          ∧ r.2.mem ((c.tc : Thread Cert.MlaLatIdeal.nD Cert.MlaLatIdeal.τ).loc Cert.MlaLatIdeal.main_arg0) = m ((c.tc : Thread Cert.MlaLatIdeal.nD Cert.MlaLatIdeal.τ).loc Cert.MlaLatIdeal.main_arg0)
          ∧ r.2.mem ((c.tc : Thread Cert.MlaLatIdeal.nD Cert.MlaLatIdeal.τ).loc Cert.MlaLatIdeal.main_arg1) = m ((c.tc : Thread Cert.MlaLatIdeal.nD Cert.MlaLatIdeal.τ).loc Cert.MlaLatIdeal.main_arg1)
          ∧ r.2.mem ((c.tc : Thread Cert.MlaLatIdeal.nD Cert.MlaLatIdeal.τ).loc Cert.MlaLatIdeal.main_arg2) = m ((c.tc : Thread Cert.MlaLatIdeal.nD Cert.MlaLatIdeal.τ).loc Cert.MlaLatIdeal.main_arg2))
      ∧ θ_run (Cert.MlaLatRefIdeal.defs (F := Ideal)) (onTc (τ := Cert.MlaLatRefIdeal.τ) (Cert.MlaLatRefIdeal.main (F := Ideal))) ⟨m', fun _ => 0, g'⟩ (fun r => ∀ c : Dev Cert.MlaLatRefIdeal.nD,
          r.2.mem ((c.tc : Thread Cert.MlaLatRefIdeal.nD Cert.MlaLatRefIdeal.τ).loc Cert.MlaLatRefIdeal.main_v35) = v0 c
          ∧ r.2.mem ((c.tc : Thread Cert.MlaLatRefIdeal.nD Cert.MlaLatRefIdeal.τ).loc Cert.MlaLatRefIdeal.main_arg0) = m' ((c.tc : Thread Cert.MlaLatRefIdeal.nD Cert.MlaLatRefIdeal.τ).loc Cert.MlaLatRefIdeal.main_arg0)
          ∧ r.2.mem ((c.tc : Thread Cert.MlaLatRefIdeal.nD Cert.MlaLatRefIdeal.τ).loc Cert.MlaLatRefIdeal.main_arg1) = m' ((c.tc : Thread Cert.MlaLatRefIdeal.nD Cert.MlaLatRefIdeal.τ).loc Cert.MlaLatRefIdeal.main_arg1)
          ∧ r.2.mem ((c.tc : Thread Cert.MlaLatRefIdeal.nD Cert.MlaLatRefIdeal.τ).loc Cert.MlaLatRefIdeal.main_arg2) = m' ((c.tc : Thread Cert.MlaLatRefIdeal.nD Cert.MlaLatRefIdeal.τ).loc Cert.MlaLatRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v36) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v42_2)) (v1 : (c : Dev Cert.InProjIdeal.nD) → Buf (Elt Ideal) ((c.tc : Thread Cert.InProjIdeal.nD Cert.InProjIdeal.τ).loc Cert.InProjIdeal.main_v42_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v42_2) = v0 c
          ∧ r.2.mem ((c.tc : Thread Cert.InProjIdeal.nD Cert.InProjIdeal.τ).loc Cert.InProjIdeal.main_v42_3) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v30) = v0 c
          ∧ r.2.mem ((c.tc : Thread Cert.InProjRefIdeal.nD Cert.InProjRefIdeal.τ).loc Cert.InProjRefIdeal.main_v31) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def Claim : Prop :=
  ∃ (hDaLat : Cert.DaLat.Facts) (hDaLatIdeal : Cert.DaLatIdeal.Facts) (hDaLatRefIdeal : Cert.DaLatRefIdeal.Facts) (hFfn : Cert.Ffn.Facts) (hFfnIdeal : Cert.FfnIdeal.Facts) (hFfnRefIdeal : Cert.FfnRefIdeal.Facts) (hMlaLat : Cert.MlaLat.Facts) (hMlaLatIdeal : Cert.MlaLatIdeal.Facts) (hMlaLatRefIdeal : Cert.MlaLatRefIdeal.Facts) (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hPre_finite : Cert.Pre_finite.Facts) (hPre_finite_qk : Cert.Pre_finite_qk.Facts) (hPre_tables : Cert.Pre_tables.Facts),
    quiescent_DaLat (hDaLat := hDaLat)
    ∧ quiescent_DaLatIdeal (hDaLatIdeal := hDaLatIdeal)
    ∧ quiescent_DaLatIdeal_pre_finite (hDaLatIdeal := hDaLatIdeal) (hPre_finite := hPre_finite)
    ∧ quiescent_DaLatRefIdeal (hDaLatRefIdeal := hDaLatRefIdeal)
    ∧ quiescent_DaLatRefIdeal_pre_finite (hDaLatRefIdeal := hDaLatRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_MlaLat (hMlaLat := hMlaLat)
    ∧ quiescent_MlaLatIdeal (hMlaLatIdeal := hMlaLatIdeal)
    ∧ quiescent_MlaLatIdeal_pre_finite_qk (hMlaLatIdeal := hMlaLatIdeal) (hPre_finite_qk := hPre_finite_qk)
    ∧ quiescent_MlaLatRefIdeal (hMlaLatRefIdeal := hMlaLatRefIdeal)
    ∧ quiescent_MlaLatRefIdeal_pre_finite_qk (hMlaLatRefIdeal := hMlaLatRefIdeal) (hPre_finite_qk := hPre_finite_qk)
    ∧ quiescent_Experts (hExperts := hExperts) (hPre_tables := hPre_tables)
    ∧ quiescent_ExpertsIdeal (hExpertsIdeal := hExpertsIdeal) (hPre_tables := hPre_tables)
    ∧ quiescent_ExpertsRefIdeal (hExpertsRefIdeal := hExpertsRefIdeal) (hPre_tables := hPre_tables)
    ∧ quiescent_InProj (hInProj := hInProj)
    ∧ quiescent_InProjIdeal (hInProjIdeal := hInProjIdeal)
    ∧ quiescent_InProjRefIdeal (hInProjRefIdeal := hInProjRefIdeal)
    ∧ preserves_DaLat_DaLatIdeal
    ∧ algebraic_DaLatIdeal_DaLatRefIdeal_pre_finite (hDaLatIdeal := hDaLatIdeal) (hDaLatRefIdeal := hDaLatRefIdeal) (hPre_finite := hPre_finite)
    ∧ preserves_Ffn_FfnIdeal
    ∧ algebraic_FfnIdeal_FfnRefIdeal (hFfnIdeal := hFfnIdeal) (hFfnRefIdeal := hFfnRefIdeal)
    ∧ preserves_MlaLat_MlaLatIdeal
    ∧ algebraic_MlaLatIdeal_MlaLatRefIdeal_pre_finite_qk (hMlaLatIdeal := hMlaLatIdeal) (hMlaLatRefIdeal := hMlaLatRefIdeal) (hPre_finite_qk := hPre_finite_qk)
    ∧ preserves_Experts_ExpertsIdeal
    ∧ algebraic_ExpertsIdeal_ExpertsRefIdeal (hExpertsIdeal := hExpertsIdeal) (hExpertsRefIdeal := hExpertsRefIdeal) (hPre_tables := hPre_tables)
    ∧ preserves_InProj_InProjIdeal
    ∧ algebraic_InProjIdeal_InProjRefIdeal (hInProjIdeal := hInProjIdeal) (hInProjRefIdeal := hInProjRefIdeal)
-- ==== Pre_finite.lean ====
abbrev S36864x384 : Shape := ⟨2, ![36864, 384]⟩
abbrev S48 : Shape := ⟨1, ![48]⟩
abbrev S96 : Shape := ⟨1, ![96]⟩
abbrev S_ : Shape := ⟨0, ![]⟩
abbrev S36864x8x48 : Shape := ⟨3, ![36864, 8, 48]⟩
abbrev S1x1x48 : Shape := ⟨3, ![1, 1, 48]⟩

class Facts : Prop where
  bcast_S_S36864x384 : S_.BroadcastsInDim S36864x384 (![] : Fin 0 → Fin S36864x384.rank)
  shapeCasts_S36864x384_S36864x8x48 : S36864x384.ShapeCasts S36864x8x48
  bcast_S_S48 : S_.BroadcastsInDim S48 (![] : Fin 0 → Fin S48.rank)
  bcast_S48_S1x1x48_2 : S48.BroadcastsInDim S1x1x48 (![2] : Fin 1 → Fin S1x1x48.rank)
  bcast_S1x1x48_S36864x8x48_0_1_2 : S1x1x48.BroadcastsInDim S36864x8x48 (![0, 1, 2] : Fin 3 → Fin S36864x8x48.rank)

variable [Facts]

def fn_part1 {F : FTy → Type} [FloatOps F] (main_arg5 : FVec F S48 .f32) (main_arg6 : FVec F S48 .f32) (main_v17 : IVec S36864x8x48 1) (main_v18 : FVec F S48 .f32) (main_cst_3 : FVec F S_ .f32) : IVec S36864x8x48 1 :=
  let main_v19 : FVec F S48 .f32 := broadcastInDim S48 ![] bcast_S_S48 main_cst_3
  let main_v20 : IVec S48 1 := cmpf .olt main_v18 main_v19
  let main_v21 : IVec S1x1x48 1 := broadcastInDim S1x1x48 ![2] bcast_S48_S1x1x48_2 main_v20
  let main_v22 : IVec S36864x8x48 1 := broadcastInDim S36864x8x48 ![0, 1, 2] bcast_S1x1x48_S36864x8x48_0_1_2 main_v21
  let main_v23 : IVec S36864x8x48 1 := andi main_v17 main_v22
  let main_v24 : FVec F S48 .f32 := Host.absf main_arg5
  let main_cst_4 : FVec F S_ .f32 := constant S_ .f32 0x7F800000#32
  let main_v25 : FVec F S48 .f32 := broadcastInDim S48 ![] bcast_S_S48 main_cst_4
  let main_v26 : IVec S48 1 := cmpf .olt main_v24 main_v25
  let main_v27 : IVec S1x1x48 1 := broadcastInDim S1x1x48 ![2] bcast_S48_S1x1x48_2 main_v26
  let main_v28 : IVec S36864x8x48 1 := broadcastInDim S36864x8x48 ![0, 1, 2] bcast_S1x1x48_S36864x8x48_0_1_2 main_v27
  let main_v29 : IVec S36864x8x48 1 := andi main_v23 main_v28
  let main_v30 : FVec F S48 .f32 := Host.absf main_arg6
  let main_cst_5 : FVec F S_ .f32 := constant S_ .f32 0x7F800000#32
  let main_v31 : FVec F S48 .f32 := broadcastInDim S48 ![] bcast_S_S48 main_cst_5
  let main_v32 : IVec S48 1 := cmpf .olt main_v30 main_v31
  let main_v33 : IVec S1x1x48 1 := broadcastInDim S1x1x48 ![2] bcast_S48_S1x1x48_2 main_v32
  let main_v34 : IVec S36864x8x48 1 := broadcastInDim S36864x8x48 ![0, 1, 2] bcast_S1x1x48_S36864x8x48_0_1_2 main_v33
  let main_v35 : IVec S36864x8x48 1 := andi main_v29 main_v34
  main_v35

def fn {F : FTy → Type} [FloatOps F] (main_arg0 : FVec F S36864x384 .f32) (main_arg1 : FVec F S36864x384 .f32) (main_arg2 : FVec F S36864x384 .f32) (main_arg3 : FVec F S48 .f32) (main_arg4 : FVec F S48 .f32) (main_arg5 : FVec F S48 .f32) (main_arg6 : FVec F S48 .f32) (main_arg7 : FVec F S96 .f32) : IVec S36864x8x48 1 :=
  let main_v0 : FVec F S36864x384 .f32 := Host.absf main_arg0
  let main_cst : FVec F S_ .f32 := constant S_ .f32 0x7F800000#32
  let main_v1 : FVec F S36864x384 .f32 := broadcastInDim S36864x384 ![] bcast_S_S36864x384 main_cst
  let main_v2 : IVec S36864x384 1 := cmpf .olt main_v0 main_v1
  let main_v3 : FVec F S36864x384 .f32 := Host.absf main_arg1
  let main_cst_0 : FVec F S_ .f32 := constant S_ .f32 0x7F800000#32
  let main_v4 : FVec F S36864x384 .f32 := broadcastInDim S36864x384 ![] bcast_S_S36864x384 main_cst_0
  let main_v5 : IVec S36864x384 1 := cmpf .olt main_v3 main_v4
  let main_v6 : IVec S36864x384 1 := andi main_v2 main_v5
  let main_v7 : FVec F S36864x384 .f32 := Host.absf main_arg2
  let main_cst_1 : FVec F S_ .f32 := constant S_ .f32 0x7F800000#32
  let main_v8 : FVec F S36864x384 .f32 := broadcastInDim S36864x384 ![] bcast_S_S36864x384 main_cst_1
  let main_v9 : IVec S36864x384 1 := cmpf .olt main_v7 main_v8
  let main_v10 : IVec S36864x384 1 := andi main_v6 main_v9
  let main_v11 : IVec S36864x8x48 1 := shapeCast S36864x8x48 main_v10 shapeCasts_S36864x384_S36864x8x48
  let main_v12 : FVec F S48 .f32 := Host.absf main_arg3
  let main_cst_2 : FVec F S_ .f32 := constant S_ .f32 0x7F800000#32
  let main_v13 : FVec F S48 .f32 := broadcastInDim S48 ![] bcast_S_S48 main_cst_2
  let main_v14 : IVec S48 1 := cmpf .olt main_v12 main_v13
  let main_v15 : IVec S1x1x48 1 := broadcastInDim S1x1x48 ![2] bcast_S48_S1x1x48_2 main_v14
  let main_v16 : IVec S36864x8x48 1 := broadcastInDim S36864x8x48 ![0, 1, 2] bcast_S1x1x48_S36864x8x48_0_1_2 main_v15
  let main_v17 : IVec S36864x8x48 1 := andi main_v11 main_v16
  let main_v18 : FVec F S48 .f32 := Host.absf main_arg4
  let main_cst_3 : FVec F S_ .f32 := constant S_ .f32 0x7F800000#32
  fn_part1 (F := F) main_arg5 main_arg6 main_v17 main_v18 main_cst_3
-- ==== Pre_finite_qk.lean ====
abbrev S36864x576 : Shape := ⟨2, ![36864, 576]⟩
abbrev S36864x384 : Shape := ⟨2, ![36864, 384]⟩
abbrev S_ : Shape := ⟨0, ![]⟩

class Facts : Prop where
  bcast_S_S36864x576 : S_.BroadcastsInDim S36864x576 (![] : Fin 0 → Fin S36864x576.rank)

variable [Facts]

def fn {F : FTy → Type} [FloatOps F] (main_arg0 : FVec F S36864x576 .f32) (main_arg1 : FVec F S36864x576 .f32) (main_arg2 : FVec F S36864x384 .f32) : IVec S36864x576 1 :=
  let main_v0 : FVec F S36864x576 .f32 := Host.absf main_arg0
  let main_cst : FVec F S_ .f32 := constant S_ .f32 0x7F800000#32
  let main_v1 : FVec F S36864x576 .f32 := broadcastInDim S36864x576 ![] bcast_S_S36864x576 main_cst
  let main_v2 : IVec S36864x576 1 := cmpf .olt main_v0 main_v1
  let main_v3 : FVec F S36864x576 .f32 := Host.absf main_arg1
  let main_cst_0 : FVec F S_ .f32 := constant S_ .f32 0x7F800000#32
  let main_v4 : FVec F S36864x576 .f32 := broadcastInDim S36864x576 ![] bcast_S_S36864x576 main_cst_0
  let main_v5 : IVec S36864x576 1 := cmpf .olt main_v3 main_v4
  let main_v6 : IVec S36864x576 1 := andi main_v2 main_v5
  main_v6
-- ==== Pre_tables.lean ====
abbrev S152 : Shape := ⟨1, ![152]⟩
abbrev S1 : Shape := ⟨1, ![1]⟩
abbrev S622592x128 : Shape := ⟨2, ![622592, 128]⟩
abbrev S16x1024x2816 : Shape := ⟨3, ![16, 1024, 2816]⟩
abbrev S16x2816x1024 : Shape := ⟨3, ![16, 2816, 1024]⟩
abbrev S_ : Shape := ⟨0, ![]⟩

class Facts : Prop where
  bcast_S_S152 : S_.BroadcastsInDim S152 (![] : Fin 0 → Fin S152.rank)
  bcast_S_S1 : S_.BroadcastsInDim S1 (![] : Fin 0 → Fin S1.rank)
  bcast_S1_S152_0 : S1.BroadcastsInDim S152 (![0] : Fin 1 → Fin S152.rank)

variable [Facts]

def fn {F : FTy → Type} [FloatOps F] (main_arg0 : IVec S152 32) (main_arg1 : IVec S1 32) (main_arg2 : FVec F S622592x128 .f32) (main_arg3 : FVec F S16x1024x2816 .bf16) (main_arg4 : FVec F S16x1024x2816 .bf16) (main_arg5 : FVec F S16x2816x1024 .bf16) : IVec S152 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S152 1 := broadcastInDim S152 ![0] bcast_S1_S152_0 main_v6
  let main_v8 : IVec S152 1 := andi main_v4 main_v7
  main_v8
-- ==== DaLat.lean ====
abbrev S36864x384 : Shape := ⟨2, ![36864, 384]⟩
abbrev S48 : Shape := ⟨1, ![48]⟩
abbrev S96 : Shape := ⟨1, ![96]⟩
abbrev S_ : Shape := ⟨0, ![]⟩
abbrev S128 : Shape := ⟨1, ![128]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S36864x4x96 : Shape := ⟨3, ![36864, 4, 96]⟩
abbrev S36864x4x128 : Shape := ⟨3, ![36864, 4, 128]⟩
abbrev S36864x512 : Shape := ⟨2, ![36864, 512]⟩
abbrev S32768x512 : Shape := ⟨2, ![32768, 512]⟩
abbrev S1024x512 : Shape := ⟨2, ![1024, 512]⟩
abbrev S2048x512 : Shape := ⟨2, ![2048, 512]⟩
abbrev S256x512 : Shape := ⟨2, ![256, 512]⟩
abbrev S1024x128 : Shape := ⟨2, ![1024, 128]⟩
abbrev S1 : Shape := ⟨1, ![1]⟩
abbrev S1x1 : Shape := ⟨2, ![1, 1]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S2048x128 : Shape := ⟨2, ![2048, 128]⟩
abbrev S1024x2048 : Shape := ⟨2, ![1024, 2048]⟩

abbrev nBuf : Space → Nat
  | .hbm => 81
  | .vmem => 14
  | .smem => 0
  | _ => 0

abbrev bufTy : (tb : Table) → Fin (tcTables nBuf tb) → BufTy
  | .hbm, ⟨0, _⟩ => ⟨S36864x384, .f32⟩
  | .hbm, ⟨1, _⟩ => ⟨S36864x384, .f32⟩
  | .hbm, ⟨2, _⟩ => ⟨S36864x384, .f32⟩
  | .hbm, ⟨3, _⟩ => ⟨S48, .f32⟩
  | .hbm, ⟨4, _⟩ => ⟨S48, .f32⟩
  | .hbm, ⟨5, _⟩ => ⟨S48, .f32⟩
  | .hbm, ⟨6, _⟩ => ⟨S48, .f32⟩
  | .hbm, ⟨7, _⟩ => ⟨S96, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S4x128, .f32⟩
  | .hbm, ⟨25, _⟩ => ⟨S512, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S_, .i32⟩
  | .hbm, ⟨41, _⟩ => ⟨S_, .i1⟩
  | .hbm, ⟨42, _⟩ => ⟨S512, .i1⟩
  | .hbm, ⟨43, _⟩ => ⟨S512, .i1⟩
  | .hbm, ⟨44, _⟩ => ⟨S512, .i1⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S512, .f32⟩
  | .hbm, ⟨52, _⟩ => ⟨S1x512, .f32⟩
  | .hbm, ⟨53, _⟩ => ⟨S36864x4x96, .f32⟩
  | .hbm, ⟨54, _⟩ => ⟨S_, .i32⟩
  | .hbm, ⟨55, _⟩ => ⟨S_, .f32⟩
  | .hbm, ⟨56, _⟩ => ⟨S36864x4x128, .f32⟩
  | .hbm, ⟨57, _⟩ => ⟨S36864x512, .f32⟩
  | .hbm, ⟨58, _⟩ => ⟨S_, .f32⟩
  | .hbm, ⟨59, _⟩ => ⟨S36864x512, .f32⟩
  | .hbm, ⟨60, _⟩ => ⟨S36864x512, .f32⟩
  | .hbm, ⟨61, _⟩ => ⟨S36864x512, .bf16⟩
  | .hbm, ⟨62, _⟩ => ⟨S36864x4x96, .f32⟩
  | .hbm, ⟨63, _⟩ => ⟨S_, .i32⟩
  | .hbm, ⟨64, _⟩ => ⟨S_, .f32⟩
  | .hbm, ⟨65, _⟩ => ⟨S36864x4x128, .f32⟩
  | .hbm, ⟨66, _⟩ => ⟨S36864x512, .f32⟩
  | .hbm, ⟨67, _⟩ => ⟨S36864x512, .bf16⟩
  | .hbm, ⟨68, _⟩ => ⟨S36864x4x96, .f32⟩
  | .hbm, ⟨69, _⟩ => ⟨S_, .i32⟩
  | .hbm, ⟨70, _⟩ => ⟨S_, .f32⟩
  | .hbm, ⟨71, _⟩ => ⟨S36864x4x128, .f32⟩
  | .hbm, ⟨72, _⟩ => ⟨S36864x512, .f32⟩
  | .hbm, ⟨73, _⟩ => ⟨S36864x512, .f32⟩
  | .hbm, ⟨74, _⟩ => ⟨S36864x512, .f32⟩
  | .hbm, ⟨75, _⟩ => ⟨S36864x512, .bf16⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S32768x512, .bf16⟩
  | .local _ .vmem, ⟨0, _⟩ => ⟨S4x128, .f32⟩
  | .local _ .vmem, ⟨1, _⟩ => ⟨S1x128, .f32⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .bf16⟩
  | .local _ .vmem, ⟨7, _⟩ => ⟨S256x512, .bf16⟩
  | .local _ .vmem, ⟨8, _⟩ => ⟨S2048x512, .bf16⟩
  | .local _ .vmem, ⟨9, _⟩ => ⟨S2048x512, .bf16⟩
  | .local _ .vmem, ⟨10, _⟩ => ⟨S256x512, .bf16⟩
  | .local _ .vmem, ⟨11, _⟩ => ⟨S256x512, .bf16⟩
  | .local _ .vmem, ⟨12, _⟩ => ⟨S1024x512, .bf16⟩
  | .local _ .vmem, ⟨13, _⟩ => ⟨S1024x512, .bf16⟩
  | _, _ => ⟨S36864x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_call2_v0 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_call3_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_call4_v0 : Ref sig .tc := ⟨.hbm, 27, rfl⟩
abbrev main_call4_c : Ref sig .tc := ⟨.hbm, 28, rfl⟩
abbrev main_call4_v1 : Ref sig .tc := ⟨.hbm, 29, rfl⟩
abbrev main_call4_c_0 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_call4_c_1 : Ref sig .tc := ⟨.hbm, 34, rfl⟩
abbrev main_call4_v5 : Ref sig .tc := ⟨.hbm, 35, rfl⟩
abbrev main_call4_v6 : Ref sig .tc := ⟨.hbm, 36, rfl⟩
abbrev main_call4_c_2 : Ref sig .tc := ⟨.hbm, 37, rfl⟩
abbrev main_call4_v7 : Ref sig .tc := ⟨.hbm, 38, rfl⟩
abbrev main_call4_v8 : Ref sig .tc := ⟨.hbm, 39, rfl⟩
abbrev main_call4_c_3 : Ref sig .tc := ⟨.hbm, 40, rfl⟩
abbrev main_call4_v9 : Ref sig .tc := ⟨.hbm, 41, rfl⟩
abbrev main_call4_v10 : Ref sig .tc := ⟨.hbm, 42, rfl⟩
abbrev main_call4_v11 : Ref sig .tc := ⟨.hbm, 43, rfl⟩
abbrev main_call4_v12 : Ref sig .tc := ⟨.hbm, 44, rfl⟩
abbrev main_call4_v13 : Ref sig .tc := ⟨.hbm, 45, rfl⟩
abbrev main_call4_v14 : Ref sig .tc := ⟨.hbm, 46, rfl⟩
abbrev main_v10 : Ref sig .tc := ⟨.hbm, 47, rfl⟩
abbrev main_c_4 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_c_5 : Ref sig .tc := ⟨.hbm, 54, rfl⟩
abbrev main_call5_v0 : Ref sig .tc := ⟨.hbm, 55, rfl⟩
abbrev main_v16 : Ref sig .tc := ⟨.hbm, 56, rfl⟩
abbrev main_v17 : Ref sig .tc := ⟨.hbm, 57, rfl⟩
abbrev main_cst : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_c_6 : Ref sig .tc := ⟨.hbm, 63, rfl⟩
abbrev main_call6_v0 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_7 : Ref sig .tc := ⟨.hbm, 69, rfl⟩
abbrev main_call7_v0 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_c_8 : Ref sig .tc := ⟨.hbm, 76, rfl⟩
abbrev main_call8_v0 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DaLatIdeal.lean ====
variable {F : FTy → Type} [FloatOps F] [Named F]
def κ : String → Option EReal := fun
  | "inv_dv" => some ((1 / 96 : ℝ) : EReal)
  | _ => none
-- ==== DaLatRefIdeal.lean ====
abbrev S36864x384 : Shape := ⟨2, ![36864, 384]⟩
abbrev S48 : Shape := ⟨1, ![48]⟩
abbrev S96 : Shape := ⟨1, ![96]⟩
abbrev S32768x384 : Shape := ⟨2, ![32768, 384]⟩
abbrev S16x2048x4x2x48 : Shape := ⟨5, ![16, 2048, 4, 2, 48]⟩
abbrev S2x16x4x2048x48 : Shape := ⟨5, ![2, 16, 4, 2048, 48]⟩
abbrev S4096x384 : Shape := ⟨2, ![4096, 384]⟩
abbrev S16x256x4x2x48 : Shape := ⟨5, ![16, 256, 4, 2, 48]⟩
abbrev S2x16x4x256x48 : Shape := ⟨5, ![2, 16, 4, 256, 48]⟩
abbrev S2x16x4x2304x48 : Shape := ⟨5, ![2, 16, 4, 2304, 48]⟩
abbrev S16x256x4x96 : Shape := ⟨4, ![16, 256, 4, 96]⟩
abbrev S16x4x256x96 : Shape := ⟨4, ![16, 4, 256, 96]⟩
abbrev S16x2048x4x96 : Shape := ⟨4, ![16, 2048, 4, 96]⟩
abbrev S16x4x2048x96 : Shape := ⟨4, ![16, 4, 2048, 96]⟩
abbrev S16x4x2304x96 : Shape := ⟨4, ![16, 4, 2304, 96]⟩
abbrev S_ : Shape := ⟨0, ![]⟩
abbrev S1x16x4x2048x48 : Shape := ⟨5, ![1, 16, 4, 2048, 48]⟩
abbrev S16x4x2048x48 : Shape := ⟨4, ![16, 4, 2048, 48]⟩
abbrev S1x16x4x2304x48 : Shape := ⟨5, ![1, 16, 4, 2304, 48]⟩
abbrev S16x4x2304x48 : Shape := ⟨4, ![16, 4, 2304, 48]⟩
abbrev S16x4x2048x2304 : Shape := ⟨4, ![16, 4, 2048, 2304]⟩
abbrev S16x4x2048 : Shape := ⟨3, ![16, 4, 2048]⟩
abbrev S16x4x2048x1 : Shape := ⟨4, ![16, 4, 2048, 1]⟩
abbrev S1x1x1x96 : Shape := ⟨4, ![1, 1, 1, 96]⟩
abbrev S16x2048x4x128 : Shape := ⟨4, ![16, 2048, 4, 128]⟩
abbrev S32768x512 : Shape := ⟨2, ![32768, 512]⟩

abbrev nBuf : Space → Nat
  | .hbm => 109
  | .vmem => 0
  | .smem => 0
  | _ => 0

abbrev bufTy : (tb : Table) → Fin (tcTables nBuf tb) → BufTy
  | .hbm, ⟨0, _⟩ => ⟨S36864x384, .f32⟩
  | .hbm, ⟨1, _⟩ => ⟨S36864x384, .f32⟩
  | .hbm, ⟨2, _⟩ => ⟨S36864x384, .f32⟩
  | .hbm, ⟨3, _⟩ => ⟨S48, .f32⟩
  | .hbm, ⟨4, _⟩ => ⟨S48, .f32⟩
  | .hbm, ⟨5, _⟩ => ⟨S48, .f32⟩
  | .hbm, ⟨6, _⟩ => ⟨S48, .f32⟩
  | .hbm, ⟨7, _⟩ => ⟨S96, .f32⟩
  | .hbm, ⟨8, _⟩ => ⟨S32768x384, .f32⟩
  | .hbm, ⟨9, _⟩ => ⟨S16x2048x4x2x48, .f32⟩
  | .hbm, ⟨10, _⟩ => ⟨S2x16x4x2048x48, .f32⟩
  | .hbm, ⟨11, _⟩ => ⟨S4096x384, .f32⟩
  | .hbm, ⟨12, _⟩ => ⟨S16x256x4x2x48, .f32⟩
  | .hbm, ⟨13, _⟩ => ⟨S2x16x4x256x48, .f32⟩
  | .hbm, ⟨14, _⟩ => ⟨S32768x384, .f32⟩
  | .hbm, ⟨15, _⟩ => ⟨S16x2048x4x2x48, .f32⟩
  | .hbm, ⟨16, _⟩ => ⟨S2x16x4x2048x48, .f32⟩
  | .hbm, ⟨17, _⟩ => ⟨S2x16x4x2304x48, .f32⟩
  | .hbm, ⟨18, _⟩ => ⟨S4096x384, .f32⟩
  | .hbm, ⟨19, _⟩ => ⟨S16x256x4x96, .f32⟩
  | .hbm, ⟨20, _⟩ => ⟨S16x4x256x96, .f32⟩
  | .hbm, ⟨21, _⟩ => ⟨S32768x384, .f32⟩
  | .hbm, ⟨22, _⟩ => ⟨S16x2048x4x96, .f32⟩
  | .hbm, ⟨23, _⟩ => ⟨S16x4x2048x96, .f32⟩
  | .hbm, ⟨24, _⟩ => ⟨S16x4x2304x96, .f32⟩
  | .hbm, ⟨25, _⟩ => ⟨S48, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S48, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x16x4x2048x48, .f32⟩
  | .hbm, ⟨37, _⟩ => ⟨S16x4x2048x48, .f32⟩
  | .hbm, ⟨38, _⟩ => ⟨S1x16x4x2304x48, .f32⟩
  | .hbm, ⟨39, _⟩ => ⟨S16x4x2304x48, .f32⟩
  | .hbm, ⟨40, _⟩ => ⟨S16x4x2048x2304, .f32⟩
  | .hbm, ⟨41, _⟩ => ⟨S_, .f32⟩
  | .hbm, ⟨42, _⟩ => ⟨S16x4x2048x2304, .f32⟩
  | .hbm, ⟨43, _⟩ => ⟨S16x4x2048x2304, .f32⟩
  | .hbm, ⟨44, _⟩ => ⟨S_, .f32⟩
  | .hbm, ⟨45, _⟩ => ⟨S16x4x2048, .f32⟩
  | .hbm, ⟨46, _⟩ => ⟨S_, .f32⟩
  | .hbm, ⟨47, _⟩ => ⟨S16x4x2048, .f32⟩
  | .hbm, ⟨48, _⟩ => ⟨S16x4x2048, .f32⟩
  | .hbm, ⟨49, _⟩ => ⟨S16x4x2048x1, .f32⟩
  | .hbm, ⟨50, _⟩ => ⟨S16x4x2048x2304, .f32⟩
  | .hbm, ⟨51, _⟩ => ⟨S16x4x2048x2304, .f32⟩
  | .hbm, ⟨52, _⟩ => ⟨S16x4x2048x2304, .f32⟩
  | .hbm, ⟨53, _⟩ => ⟨S_, .f32⟩
  | .hbm, ⟨54, _⟩ => ⟨S16x4x2048, .f32⟩
  | .hbm, ⟨55, _⟩ => ⟨S16x4x2048x1, .f32⟩
  | .hbm, ⟨56, _⟩ => ⟨S16x4x2048x2304, .f32⟩
  | .hbm, ⟨57, _⟩ => ⟨S16x4x2048x2304, .f32⟩
  | .hbm, ⟨58, _⟩ => ⟨S1x16x4x2048x48, .f32⟩
  | .hbm, ⟨59, _⟩ => ⟨S16x4x2048x48, .f32⟩
  | .hbm, ⟨60, _⟩ => ⟨S1x16x4x2304x48, .f32⟩
  | .hbm, ⟨61, _⟩ => ⟨S16x4x2304x48, .f32⟩
  | .hbm, ⟨62, _⟩ => ⟨S16x4x2048x2304, .f32⟩
  | .hbm, ⟨63, _⟩ => ⟨S_, .f32⟩
  | .hbm, ⟨64, _⟩ => ⟨S16x4x2048x2304, .f32⟩
  | .hbm, ⟨65, _⟩ => ⟨S16x4x2048x2304, .f32⟩
  | .hbm, ⟨66, _⟩ => ⟨S_, .f32⟩
  | .hbm, ⟨67, _⟩ => ⟨S16x4x2048, .f32⟩
  | .hbm, ⟨68, _⟩ => ⟨S_, .f32⟩
  | .hbm, ⟨69, _⟩ => ⟨S16x4x2048, .f32⟩
  | .hbm, ⟨70, _⟩ => ⟨S16x4x2048, .f32⟩
  | .hbm, ⟨71, _⟩ => ⟨S16x4x2048x1, .f32⟩
  | .hbm, ⟨72, _⟩ => ⟨S16x4x2048x2304, .f32⟩
  | .hbm, ⟨73, _⟩ => ⟨S16x4x2048x2304, .f32⟩
  | .hbm, ⟨74, _⟩ => ⟨S16x4x2048x2304, .f32⟩
  | .hbm, ⟨75, _⟩ => ⟨S_, .f32⟩
  | .hbm, ⟨76, _⟩ => ⟨S16x4x2048, .f32⟩
  | .hbm, ⟨77, _⟩ => ⟨S16x4x2048x1, .f32⟩
  | .hbm, ⟨78, _⟩ => ⟨S16x4x2048x2304, .f32⟩
  | .hbm, ⟨79, _⟩ => ⟨S16x4x2048x2304, .f32⟩
  | .hbm, ⟨80, _⟩ => ⟨S16x4x2048x2304, .f32⟩
  | .hbm, ⟨81, _⟩ => ⟨S16x4x2048x2304, .f32⟩
  | .hbm, ⟨82, _⟩ => ⟨S16x4x2048x2304, .f32⟩
  | .hbm, ⟨83, _⟩ => ⟨S16x4x2048x96, .f32⟩
  | .hbm, ⟨84, _⟩ => ⟨S16x4x2048x96, .f32⟩
  | .hbm, ⟨85, _⟩ => ⟨S_, .f32⟩
  | .hbm, ⟨86, _⟩ => ⟨S16x4x2048, .f32⟩
  | .hbm, ⟨87, _⟩ => ⟨S16x4x2048x1, .f32⟩
  | .hbm, ⟨88, _⟩ => ⟨S_, .f32⟩
  | .hbm, ⟨89, _⟩ => ⟨S16x4x2048x1, .f32⟩
  | .hbm, ⟨90, _⟩ => ⟨S16x4x2048x1, .f32⟩
  | .hbm, ⟨91, _⟩ => ⟨S_, .f32⟩
  | .hbm, ⟨92, _⟩ => ⟨S16x4x2048x1, .f32⟩
  | .hbm, ⟨93, _⟩ => ⟨S16x4x2048x1, .f32⟩
  | .hbm, ⟨94, _⟩ => ⟨S16x4x2048x1, .f32⟩
  | .hbm, ⟨95, _⟩ => ⟨S16x4x2048x96, .f32⟩
  | .hbm, ⟨96, _⟩ => ⟨S16x4x2048x96, .f32⟩
  | .hbm, ⟨97, _⟩ => ⟨S1x1x1x96, .f32⟩
  | .hbm, ⟨98, _⟩ => ⟨S16x4x2048x96, .f32⟩
  | .hbm, ⟨99, _⟩ => ⟨S16x4x2048x96, .f32⟩
  | .hbm, ⟨100, _⟩ => ⟨S_, .f32⟩
  | .hbm, ⟨101, _⟩ => ⟨S16x4x2048x96, .f32⟩
  | .hbm, ⟨102, _⟩ => ⟨S16x4x2048x96, .f32⟩
  | .hbm, ⟨103, _⟩ => ⟨S16x2048x4x96, .f32⟩
  | .hbm, ⟨104, _⟩ => ⟨S_, .i32⟩
  | .hbm, ⟨105, _⟩ => ⟨S_, .f32⟩
  | .hbm, ⟨106, _⟩ => ⟨S16x2048x4x128, .f32⟩
  | .hbm, ⟨107, _⟩ => ⟨S32768x512, .f32⟩
  | .hbm, ⟨108, _⟩ => ⟨S32768x512, .bf16⟩
  | _, _ => ⟨S36864x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c : Ref sig .tc := ⟨.hbm, 104, rfl⟩
abbrev main_call0_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Ffn.lean ====
abbrev S36864x1024 : Shape := ⟨2, ![36864, 1024]⟩
abbrev S1x1024x2816 : Shape := ⟨3, ![1, 1024, 2816]⟩
abbrev S1x2816x1024 : Shape := ⟨3, ![1, 2816, 1024]⟩
abbrev S24x6x1024 : Shape := ⟨3, ![24, 6, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S512x2816 : Shape := ⟨2, ![512, 2816]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩
abbrev S6x1024 : Shape := ⟨2, ![6, 1024]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S36864x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S36864x1024, .f32⟩
  | .hbm, ⟨5, _⟩ => ⟨S24x6x1024, .f32⟩
  | .hbm, ⟨6, _⟩ => ⟨S1024, .f32⟩
  | .hbm, ⟨7, _⟩ => ⟨S1024, .f32⟩
  | .hbm, ⟨8, _⟩ => ⟨S36864x1024, .bf16⟩
  | .hbm, ⟨9, _⟩ => ⟨S1x1024x2816, .bf16⟩
  | .hbm, ⟨10, _⟩ => ⟨S1x1024x2816, .bf16⟩
  | .hbm, ⟨11, _⟩ => ⟨S1x2816x1024, .bf16⟩
  | .hbm, ⟨12, _⟩ => ⟨S1x1024, .f32⟩
  | .hbm, ⟨13, _⟩ => ⟨S1x1024, .f32⟩
  | .hbm, ⟨14, _⟩ => ⟨S36864x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c64_i32 : BitVec 32 := 64#32
  let v0 : BitVec 1 := Scalar.cmpi .slt arg0 c64_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.select v0 v17 c16_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S36864x1024 : Shape := ⟨2, ![36864, 1024]⟩
abbrev S1x1024x2816 : Shape := ⟨3, ![1, 1024, 2816]⟩
abbrev S1x2816x1024 : Shape := ⟨3, ![1, 2816, 1024]⟩
abbrev S24x6x1024 : Shape := ⟨3, ![24, 6, 1024]⟩
abbrev S1024 : Shape := ⟨1, ![1024]⟩
abbrev S1024x2816 : Shape := ⟨2, ![1024, 2816]⟩
abbrev S36864x2816 : Shape := ⟨2, ![36864, 2816]⟩
abbrev S_ : Shape := ⟨0, ![]⟩
abbrev S2816x1024 : Shape := ⟨2, ![2816, 1024]⟩
abbrev S16x1x1024 : Shape := ⟨3, ![16, 1, 1024]⟩
abbrev S16x1024 : Shape := ⟨2, ![16, 1024]⟩
abbrev S16x2048x1024 : Shape := ⟨3, ![16, 2048, 1024]⟩
abbrev S32768x1024 : Shape := ⟨2, ![32768, 1024]⟩
abbrev S1x1x1024 : Shape := ⟨3, ![1, 1, 1024]⟩
abbrev S1x1024 : Shape := ⟨2, ![1, 1024]⟩
abbrev S4096x1024 : Shape := ⟨2, ![4096, 1024]⟩
abbrev S36864 : Shape := ⟨1, ![36864]⟩
abbrev S36864x1 : Shape := ⟨2, ![36864, 1]⟩

abbrev nBuf : Space → Nat
  | .hbm => 68
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S36864x1024, .f32⟩
  | .hbm, ⟨5, _⟩ => ⟨S24x6x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S36864x2816, .f32⟩
  | .hbm, ⟨10, _⟩ => ⟨S36864x2816, .f32⟩
  | .hbm, ⟨11, _⟩ => ⟨S36864x2816, .f32⟩
  | .hbm, ⟨12, _⟩ => ⟨S_, .f32⟩
  | .hbm, ⟨13, _⟩ => ⟨S36864x2816, .f32⟩
  | .hbm, ⟨14, _⟩ => ⟨S36864x2816, .f32⟩
  | .hbm, ⟨15, _⟩ => ⟨S_, .f32⟩
  | .hbm, ⟨16, _⟩ => ⟨S36864x2816, .f32⟩
  | .hbm, ⟨17, _⟩ => ⟨S36864x2816, .f32⟩
  | .hbm, ⟨18, _⟩ => ⟨S36864x2816, .f32⟩
  | .hbm, ⟨19, _⟩ => ⟨S1024x2816, .f32⟩
  | .hbm, ⟨20, _⟩ => ⟨S36864x2816, .f32⟩
  | .hbm, ⟨21, _⟩ => ⟨S36864x2816, .f32⟩
  | .hbm, ⟨22, _⟩ => ⟨S2816x1024, .f32⟩
  | .hbm, ⟨23, _⟩ => ⟨S36864x1024, .f32⟩
  | .hbm, ⟨24, _⟩ => ⟨S16x1x1024, .f32⟩
  | .hbm, ⟨25, _⟩ => ⟨S16x1024, .f32⟩
  | .hbm, ⟨26, _⟩ => ⟨S16x1x1024, .f32⟩
  | .hbm, ⟨27, _⟩ => ⟨S16x2048x1024, .f32⟩
  | .hbm, ⟨28, _⟩ => ⟨S32768x1024, .f32⟩
  | .hbm, ⟨29, _⟩ => ⟨S1x1x1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S_, .f32⟩
  | .hbm, ⟨34, _⟩ => ⟨S36864x1024, .f32⟩
  | .hbm, ⟨35, _⟩ => ⟨S36864x1024, .f32⟩
  | .hbm, ⟨36, _⟩ => ⟨S36864x1024, .f32⟩
  | .hbm, ⟨37, _⟩ => ⟨S36864x1024, .f32⟩
  | .hbm, ⟨38, _⟩ => ⟨S36864x1024, .f32⟩
  | .hbm, ⟨39, _⟩ => ⟨S_, .f32⟩
  | .hbm, ⟨40, _⟩ => ⟨S36864, .f32⟩
  | .hbm, ⟨41, _⟩ => ⟨S36864x1, .f32⟩
  | .hbm, ⟨42, _⟩ => ⟨S_, .f32⟩
  | .hbm, ⟨43, _⟩ => ⟨S36864x1, .f32⟩
  | .hbm, ⟨44, _⟩ => ⟨S36864x1, .f32⟩
  | .hbm, ⟨45, _⟩ => ⟨S36864x1024, .f32⟩
  | .hbm, ⟨46, _⟩ => ⟨S36864x1024, .f32⟩
  | .hbm, ⟨47, _⟩ => ⟨S36864x1024, .f32⟩
  | .hbm, ⟨48, _⟩ => ⟨S_, .f32⟩
  | .hbm, ⟨49, _⟩ => ⟨S36864, .f32⟩
  | .hbm, ⟨50, _⟩ => ⟨S36864x1, .f32⟩
  | .hbm, ⟨51, _⟩ => ⟨S_, .f32⟩
  | .hbm, ⟨52, _⟩ => ⟨S36864x1, .f32⟩
  | .hbm, ⟨53, _⟩ => ⟨S36864x1, .f32⟩
  | .hbm, ⟨54, _⟩ => ⟨S36864x1024, .f32⟩
  | .hbm, ⟨55, _⟩ => ⟨S36864x1024, .f32⟩
  | .hbm, ⟨56, _⟩ => ⟨S_, .f32⟩
  | .hbm, ⟨57, _⟩ => ⟨S36864x1, .f32⟩
  | .hbm, ⟨58, _⟩ => ⟨S36864x1, .f32⟩
  | .hbm, ⟨59, _⟩ => ⟨S36864x1, .f32⟩
  | .hbm, ⟨60, _⟩ => ⟨S36864x1024, .f32⟩
  | .hbm, ⟨61, _⟩ => ⟨S36864x1024, .f32⟩
  | .hbm, ⟨62, _⟩ => ⟨S1x1024, .f32⟩
  | .hbm, ⟨63, _⟩ => ⟨S36864x1024, .f32⟩
  | .hbm, ⟨64, _⟩ => ⟨S36864x1024, .f32⟩
  | .hbm, ⟨65, _⟩ => ⟨S1x1024, .f32⟩
  | .hbm, ⟨66, _⟩ => ⟨S36864x1024, .f32⟩
  | .hbm, ⟨67, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== MlaLat.lean ====
abbrev S36864x576 : Shape := ⟨2, ![36864, 576]⟩
abbrev S36864x384 : Shape := ⟨2, ![36864, 384]⟩
abbrev S768 : Shape := ⟨1, ![768]⟩
abbrev S_ : Shape := ⟨0, ![]⟩
abbrev S1x768 : Shape := ⟨2, ![1, 768]⟩
abbrev S36864x6x96 : Shape := ⟨3, ![36864, 6, 96]⟩
abbrev S36864x6x128 : Shape := ⟨3, ![36864, 6, 128]⟩
abbrev S36864x768 : Shape := ⟨2, ![36864, 768]⟩
abbrev S36864x6x64 : Shape := ⟨3, ![36864, 6, 64]⟩
abbrev S32768x768 : Shape := ⟨2, ![32768, 768]⟩
abbrev S1024x768 : Shape := ⟨2, ![1024, 768]⟩
abbrev S2048x768 : Shape := ⟨2, ![2048, 768]⟩
abbrev S256x768 : Shape := ⟨2, ![256, 768]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S2048x128 : Shape := ⟨2, ![2048, 128]⟩
abbrev S1024x2048 : Shape := ⟨2, ![1024, 2048]⟩

abbrev nBuf : Space → Nat
  | .hbm => 55
  | .vmem => 12
  | .smem => 0
  | _ => 0

abbrev bufTy : (tb : Table) → Fin (tcTables nBuf tb) → BufTy
  | .hbm, ⟨0, _⟩ => ⟨S36864x576, .f32⟩
  | .hbm, ⟨1, _⟩ => ⟨S36864x576, .f32⟩
  | .hbm, ⟨2, _⟩ => ⟨S36864x384, .f32⟩
  | .hbm, ⟨3, _⟩ => ⟨S768, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S768, .i32⟩
  | .hbm, ⟨11, _⟩ => ⟨S768, .i32⟩
  | .hbm, ⟨12, _⟩ => ⟨S_, .i32⟩
  | .hbm, ⟨13, _⟩ => ⟨S768, .i32⟩
  | .hbm, ⟨14, _⟩ => ⟨S768, .i1⟩
  | .hbm, ⟨15, _⟩ => ⟨S_, .i32⟩
  | .hbm, ⟨16, _⟩ => ⟨S768, .i32⟩
  | .hbm, ⟨17, _⟩ => ⟨S768, .i1⟩
  | .hbm, ⟨18, _⟩ => ⟨S_, .i32⟩
  | .hbm, ⟨19, _⟩ => ⟨S_, .i1⟩
  | .hbm, ⟨20, _⟩ => ⟨S768, .i1⟩
  | .hbm, ⟨21, _⟩ => ⟨S768, .i1⟩
  | .hbm, ⟨22, _⟩ => ⟨S768, .i1⟩
  | .hbm, ⟨23, _⟩ => ⟨S768, .i32⟩
  | .hbm, ⟨24, _⟩ => ⟨S768, .i32⟩
  | .hbm, ⟨25, _⟩ => ⟨S768, .i32⟩
  | .hbm, ⟨26, _⟩ => ⟨S_, .i32⟩
  | .hbm, ⟨27, _⟩ => ⟨S768, .i32⟩
  | .hbm, ⟨28, _⟩ => ⟨S768, .i1⟩
  | .hbm, ⟨29, _⟩ => ⟨S768, .f32⟩
  | .hbm, ⟨30, _⟩ => ⟨S1x768, .f32⟩
  | .hbm, ⟨31, _⟩ => ⟨S36864x6x96, .f32⟩
  | .hbm, ⟨32, _⟩ => ⟨S_, .i32⟩
  | .hbm, ⟨33, _⟩ => ⟨S_, .f32⟩
  | .hbm, ⟨34, _⟩ => ⟨S36864x6x128, .f32⟩
  | .hbm, ⟨35, _⟩ => ⟨S36864x768, .f32⟩
  | .hbm, ⟨36, _⟩ => ⟨S_, .f32⟩
  | .hbm, ⟨37, _⟩ => ⟨S36864x768, .f32⟩
  | .hbm, ⟨38, _⟩ => ⟨S36864x768, .f32⟩
  | .hbm, ⟨39, _⟩ => ⟨S36864x768, .bf16⟩
  | .hbm, ⟨40, _⟩ => ⟨S36864x6x96, .f32⟩
  | .hbm, ⟨41, _⟩ => ⟨S_, .i32⟩
  | .hbm, ⟨42, _⟩ => ⟨S_, .f32⟩
  | .hbm, ⟨43, _⟩ => ⟨S36864x6x128, .f32⟩
  | .hbm, ⟨44, _⟩ => ⟨S36864x768, .f32⟩
  | .hbm, ⟨45, _⟩ => ⟨S36864x768, .bf16⟩
  | .hbm, ⟨46, _⟩ => ⟨S36864x6x64, .f32⟩
  | .hbm, ⟨47, _⟩ => ⟨S_, .i32⟩
  | .hbm, ⟨48, _⟩ => ⟨S_, .f32⟩
  | .hbm, ⟨49, _⟩ => ⟨S36864x6x128, .f32⟩
  | .hbm, ⟨50, _⟩ => ⟨S36864x768, .f32⟩
  | .hbm, ⟨51, _⟩ => ⟨S36864x768, .f32⟩
  | .hbm, ⟨52, _⟩ => ⟨S36864x768, .f32⟩
  | .hbm, ⟨53, _⟩ => ⟨S36864x768, .bf16⟩
  | .hbm, ⟨54, _⟩ => ⟨S32768x768, .bf16⟩
  | .local _ .vmem, ⟨0, _⟩ => ⟨S1024x768, .bf16⟩
  | .local _ .vmem, ⟨1, _⟩ => ⟨S1024x768, .bf16⟩
  | .local _ .vmem, ⟨2, _⟩ => ⟨S2048x768, .bf16⟩
  | .local _ .vmem, ⟨3, _⟩ => ⟨S2048x768, .bf16⟩
  | .local _ .vmem, ⟨4, _⟩ => ⟨S256x768, .bf16⟩
  | .local _ .vmem, ⟨5, _⟩ => ⟨S256x768, .bf16⟩
  | .local _ .vmem, ⟨6, _⟩ => ⟨S2048x768, .bf16⟩
  | .local _ .vmem, ⟨7, _⟩ => ⟨S2048x768, .bf16⟩
  | .local _ .vmem, ⟨8, _⟩ => ⟨S256x768, .bf16⟩
  | .local _ .vmem, ⟨9, _⟩ => ⟨S256x768, .bf16⟩
  | .local _ .vmem, ⟨10, _⟩ => ⟨S1024x768, .bf16⟩
  | .local _ .vmem, ⟨11, _⟩ => ⟨S1024x768, .bf16⟩
  | _, _ => ⟨S36864x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_call1_v0 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_call2_v0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_3 : Ref sig .tc := ⟨.hbm, 47, rfl⟩
abbrev main_call3_v0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlaLatRefIdeal.lean ====
abbrev S36864x576 : Shape := ⟨2, ![36864, 576]⟩
abbrev S36864x384 : Shape := ⟨2, ![36864, 384]⟩
abbrev S32768x576 : Shape := ⟨2, ![32768, 576]⟩
abbrev S16x2048x6x96 : Shape := ⟨4, ![16, 2048, 6, 96]⟩
abbrev S16x6x2048x96 : Shape := ⟨4, ![16, 6, 2048, 96]⟩
abbrev S4096x576 : Shape := ⟨2, ![4096, 576]⟩
abbrev S16x256x6x96 : Shape := ⟨4, ![16, 256, 6, 96]⟩
abbrev S16x6x256x96 : Shape := ⟨4, ![16, 6, 256, 96]⟩
abbrev S16x6x2304x96 : Shape := ⟨4, ![16, 6, 2304, 96]⟩
abbrev S4096x384 : Shape := ⟨2, ![4096, 384]⟩
abbrev S16x256x6x64 : Shape := ⟨4, ![16, 256, 6, 64]⟩
abbrev S16x6x256x64 : Shape := ⟨4, ![16, 6, 256, 64]⟩
abbrev S32768x384 : Shape := ⟨2, ![32768, 384]⟩
abbrev S16x2048x6x64 : Shape := ⟨4, ![16, 2048, 6, 64]⟩
abbrev S16x6x2048x64 : Shape := ⟨4, ![16, 6, 2048, 64]⟩
abbrev S16x6x2304x64 : Shape := ⟨4, ![16, 6, 2304, 64]⟩
abbrev S16x6x2048x2304 : Shape := ⟨4, ![16, 6, 2048, 2304]⟩
abbrev S_ : Shape := ⟨0, ![]⟩
abbrev S16x6x2048 : Shape := ⟨3, ![16, 6, 2048]⟩
abbrev S16x6x2048x1 : Shape := ⟨4, ![16, 6, 2048, 1]⟩
abbrev S16x2048x6x128 : Shape := ⟨4, ![16, 2048, 6, 128]⟩
abbrev S32768x768 : Shape := ⟨2, ![32768, 768]⟩

abbrev nBuf : Space → Nat
  | .hbm => 45
  | .vmem => 0
  | .smem => 0
  | _ => 0

abbrev bufTy : (tb : Table) → Fin (tcTables nBuf tb) → BufTy
  | .hbm, ⟨0, _⟩ => ⟨S36864x576, .f32⟩
  | .hbm, ⟨1, _⟩ => ⟨S36864x576, .f32⟩
  | .hbm, ⟨2, _⟩ => ⟨S36864x384, .f32⟩
  | .hbm, ⟨3, _⟩ => ⟨S32768x576, .f32⟩
  | .hbm, ⟨4, _⟩ => ⟨S16x2048x6x96, .f32⟩
  | .hbm, ⟨5, _⟩ => ⟨S16x6x2048x96, .f32⟩
  | .hbm, ⟨6, _⟩ => ⟨S4096x576, .f32⟩
  | .hbm, ⟨7, _⟩ => ⟨S16x256x6x96, .f32⟩
  | .hbm, ⟨8, _⟩ => ⟨S16x6x256x96, .f32⟩
  | .hbm, ⟨9, _⟩ => ⟨S32768x576, .f32⟩
  | .hbm, ⟨10, _⟩ => ⟨S16x2048x6x96, .f32⟩
  | .hbm, ⟨11, _⟩ => ⟨S16x6x2048x96, .f32⟩
  | .hbm, ⟨12, _⟩ => ⟨S16x6x2304x96, .f32⟩
  | .hbm, ⟨13, _⟩ => ⟨S4096x384, .f32⟩
  | .hbm, ⟨14, _⟩ => ⟨S16x256x6x64, .f32⟩
  | .hbm, ⟨15, _⟩ => ⟨S16x6x256x64, .f32⟩
  | .hbm, ⟨16, _⟩ => ⟨S32768x384, .f32⟩
  | .hbm, ⟨17, _⟩ => ⟨S16x2048x6x64, .f32⟩
  | .hbm, ⟨18, _⟩ => ⟨S16x6x2048x64, .f32⟩
  | .hbm, ⟨19, _⟩ => ⟨S16x6x2304x64, .f32⟩
  | .hbm, ⟨20, _⟩ => ⟨S16x6x2048x2304, .f32⟩
  | .hbm, ⟨21, _⟩ => ⟨S_, .f32⟩
  | .hbm, ⟨22, _⟩ => ⟨S16x6x2048x2304, .f32⟩
  | .hbm, ⟨23, _⟩ => ⟨S16x6x2048x2304, .f32⟩
  | .hbm, ⟨24, _⟩ => ⟨S_, .f32⟩
  | .hbm, ⟨25, _⟩ => ⟨S16x6x2048, .f32⟩
  | .hbm, ⟨26, _⟩ => ⟨S_, .f32⟩
  | .hbm, ⟨27, _⟩ => ⟨S16x6x2048, .f32⟩
  | .hbm, ⟨28, _⟩ => ⟨S16x6x2048, .f32⟩
  | .hbm, ⟨29, _⟩ => ⟨S16x6x2048x1, .f32⟩
  | .hbm, ⟨30, _⟩ => ⟨S16x6x2048x2304, .f32⟩
  | .hbm, ⟨31, _⟩ => ⟨S16x6x2048x2304, .f32⟩
  | .hbm, ⟨32, _⟩ => ⟨S16x6x2048x2304, .f32⟩
  | .hbm, ⟨33, _⟩ => ⟨S_, .f32⟩
  | .hbm, ⟨34, _⟩ => ⟨S16x6x2048, .f32⟩
  | .hbm, ⟨35, _⟩ => ⟨S16x6x2048x1, .f32⟩
  | .hbm, ⟨36, _⟩ => ⟨S16x6x2048x2304, .f32⟩
  | .hbm, ⟨37, _⟩ => ⟨S16x6x2048x2304, .f32⟩
  | .hbm, ⟨38, _⟩ => ⟨S16x6x2048x64, .f32⟩
  | .hbm, ⟨39, _⟩ => ⟨S16x2048x6x64, .f32⟩
  | .hbm, ⟨40, _⟩ => ⟨S_, .i32⟩
  | .hbm, ⟨41, _⟩ => ⟨S_, .f32⟩
  | .hbm, ⟨42, _⟩ => ⟨S16x2048x6x128, .f32⟩
  | .hbm, ⟨43, _⟩ => ⟨S32768x768, .f32⟩
  | .hbm, ⟨44, _⟩ => ⟨S32768x768, .bf16⟩
  | _, _ => ⟨S36864x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_call0_v0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Experts.lean ====
abbrev S152 : Shape := ⟨1, ![152]⟩
abbrev S1 : Shape := ⟨1, ![1]⟩
abbrev S622592x128 : Shape := ⟨2, ![622592, 128]⟩
abbrev S16x1024x2816 : Shape := ⟨3, ![16, 1024, 2816]⟩
abbrev S16x2816x1024 : Shape := ⟨3, ![16, 2816, 1024]⟩
abbrev S4096x128 : Shape := ⟨2, ![4096, 128]⟩
abbrev S1x1024x2816 : Shape := ⟨3, ![1, 1024, 2816]⟩
abbrev S1x2816x1024 : Shape := ⟨3, ![1, 2816, 1024]⟩
abbrev S512x2816 : Shape := ⟨2, ![512, 2816]⟩
abbrev S512x128 : Shape := ⟨2, ![512, 128]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 5
  | .vmem => 11
  | .smem => 2
  | _ => 0

abbrev bufTy : (tb : Table) → Fin (tcTables nBuf tb) → BufTy
  | .hbm, ⟨0, _⟩ => ⟨S622592x128, .f32⟩
  | .hbm, ⟨1, _⟩ => ⟨S16x1024x2816, .bf16⟩
  | .hbm, ⟨2, _⟩ => ⟨S16x1024x2816, .bf16⟩
  | .hbm, ⟨3, _⟩ => ⟨S16x2816x1024, .bf16⟩
  | .hbm, ⟨4, _⟩ => ⟨S622592x128, .f32⟩
  | .local _ .vmem, ⟨0, _⟩ => ⟨S4096x128, .f32⟩
  | .local _ .vmem, ⟨1, _⟩ => ⟨S4096x128, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S4096x128, .f32⟩
  | .local _ .vmem, ⟨9, _⟩ => ⟨S4096x128, .f32⟩
  | .local _ .vmem, ⟨10, _⟩ => ⟨S512x2816, .bf16⟩
  | .local _ .smem, ⟨0, _⟩ => ⟨S152, .i32⟩
  | .local _ .smem, ⟨1, _⟩ => ⟨S1, .i32⟩
  | _, _ => ⟨S622592x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![152], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S152 : Shape := ⟨1, ![152]⟩
abbrev S1 : Shape := ⟨1, ![1]⟩
abbrev S622592x128 : Shape := ⟨2, ![622592, 128]⟩
abbrev S16x1024x2816 : Shape := ⟨3, ![16, 1024, 2816]⟩
abbrev S16x2816x1024 : Shape := ⟨3, ![16, 2816, 1024]⟩
abbrev S152x512x1024 : Shape := ⟨3, ![152, 512, 1024]⟩
abbrev S_ : Shape := ⟨0, ![]⟩
abbrev S152x1 : Shape := ⟨2, ![152, 1]⟩
abbrev S152x1024x2816 : Shape := ⟨3, ![152, 1024, 2816]⟩
abbrev S152x512x2816 : Shape := ⟨3, ![152, 512, 2816]⟩
abbrev S152x2816x1024 : Shape := ⟨3, ![152, 2816, 1024]⟩
abbrev S152x1x1 : Shape := ⟨3, ![152, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S152, .i32⟩
  | .hbm, ⟨1, _⟩ => ⟨S1, .i32⟩
  | .hbm, ⟨2, _⟩ => ⟨S622592x128, .f32⟩
  | .hbm, ⟨3, _⟩ => ⟨S16x1024x2816, .bf16⟩
  | .hbm, ⟨4, _⟩ => ⟨S16x1024x2816, .bf16⟩
  | .hbm, ⟨5, _⟩ => ⟨S16x2816x1024, .bf16⟩
  | .hbm, ⟨6, _⟩ => ⟨S16x1024x2816, .f32⟩
  | .hbm, ⟨7, _⟩ => ⟨S16x1024x2816, .f32⟩
  | .hbm, ⟨8, _⟩ => ⟨S16x2816x1024, .f32⟩
  | .hbm, ⟨9, _⟩ => ⟨S152x512x1024, .f32⟩
  | .hbm, ⟨10, _⟩ => ⟨S_, .i32⟩
  | .hbm, ⟨11, _⟩ => ⟨S152, .i32⟩
  | .hbm, ⟨12, _⟩ => ⟨S152, .i1⟩
  | .hbm, ⟨13, _⟩ => ⟨S_, .i32⟩
  | .hbm, ⟨14, _⟩ => ⟨S152, .i32⟩
  | .hbm, ⟨15, _⟩ => ⟨S152, .i32⟩
  | .hbm, ⟨16, _⟩ => ⟨S152, .i32⟩
  | .hbm, ⟨17, _⟩ => ⟨S152x1, .i32⟩
  | .hbm, ⟨18, _⟩ => ⟨S152x1024x2816, .f32⟩
  | .hbm, ⟨19, _⟩ => ⟨S152x512x2816, .f32⟩
  | .hbm, ⟨20, _⟩ => ⟨S_, .i32⟩
  | .hbm, ⟨21, _⟩ => ⟨S152, .i32⟩
  | .hbm, ⟨22, _⟩ => ⟨S152, .i1⟩
  | .hbm, ⟨23, _⟩ => ⟨S_, .i32⟩
  | .hbm, ⟨24, _⟩ => ⟨S152, .i32⟩
  | .hbm, ⟨25, _⟩ => ⟨S152, .i32⟩
  | .hbm, ⟨26, _⟩ => ⟨S152, .i32⟩
  | .hbm, ⟨27, _⟩ => ⟨S152x1, .i32⟩
  | .hbm, ⟨28, _⟩ => ⟨S152x1024x2816, .f32⟩
  | .hbm, ⟨29, _⟩ => ⟨S152x512x2816, .f32⟩
  | .hbm, ⟨30, _⟩ => ⟨S152x512x2816, .f32⟩
  | .hbm, ⟨31, _⟩ => ⟨S152x512x2816, .f32⟩
  | .hbm, ⟨32, _⟩ => ⟨S_, .f32⟩
  | .hbm, ⟨33, _⟩ => ⟨S152x512x2816, .f32⟩
  | .hbm, ⟨34, _⟩ => ⟨S152x512x2816, .f32⟩
  | .hbm, ⟨35, _⟩ => ⟨S_, .f32⟩
  | .hbm, ⟨36, _⟩ => ⟨S152x512x2816, .f32⟩
  | .hbm, ⟨37, _⟩ => ⟨S152x512x2816, .f32⟩
  | .hbm, ⟨38, _⟩ => ⟨S152x512x2816, .f32⟩
  | .hbm, ⟨39, _⟩ => ⟨S152x512x2816, .f32⟩
  | .hbm, ⟨40, _⟩ => ⟨S_, .i32⟩
  | .hbm, ⟨41, _⟩ => ⟨S152, .i32⟩
  | .hbm, ⟨42, _⟩ => ⟨S152, .i1⟩
  | .hbm, ⟨43, _⟩ => ⟨S_, .i32⟩
  | .hbm, ⟨44, _⟩ => ⟨S152, .i32⟩
  | .hbm, ⟨45, _⟩ => ⟨S152, .i32⟩
  | .hbm, ⟨46, _⟩ => ⟨S152, .i32⟩
  | .hbm, ⟨47, _⟩ => ⟨S152x1, .i32⟩
  | .hbm, ⟨48, _⟩ => ⟨S152x2816x1024, .f32⟩
  | .hbm, ⟨49, _⟩ => ⟨S152x512x1024, .f32⟩
  | .hbm, ⟨50, _⟩ => ⟨S152, .i32⟩
  | .hbm, ⟨51, _⟩ => ⟨S_, .i32⟩
  | .hbm, ⟨52, _⟩ => ⟨S152, .i32⟩
  | .hbm, ⟨53, _⟩ => ⟨S152, .i1⟩
  | .hbm, ⟨54, _⟩ => ⟨S152x1x1, .i1⟩
  | .hbm, ⟨55, _⟩ => ⟨S_, .f32⟩
  | .hbm, ⟨56, _⟩ => ⟨S_, .f32⟩
  | .hbm, ⟨57, _⟩ => ⟨S152x512x1024, .i1⟩
  | .hbm, ⟨58, _⟩ => ⟨S152x512x1024, .f32⟩
  | .hbm, ⟨59, _⟩ => ⟨S152x512x1024, .f32⟩
  | .hbm, ⟨60, _⟩ => ⟨S622592x128, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== InProj.lean ====
abbrev S36864x1024 : Shape := ⟨2, ![36864, 1024]⟩
abbrev S24x6x1024 : Shape := ⟨3, ![24, 6, 1024]⟩
abbrev S1024x2336 : Shape := ⟨2, ![1024, 2336]⟩
abbrev S2560x640 : Shape := ⟨2, ![2560, 640]⟩
abbrev S256 : Shape := ⟨1, ![256]⟩
abbrev S128 : Shape := ⟨1, ![128]⟩
abbrev S256x768 : Shape := ⟨2, ![256, 768]⟩
abbrev S128x1536 : Shape := ⟨2, ![128, 1536]⟩
abbrev S1024x1152 : Shape := ⟨2, ![1024, 1152]⟩
abbrev S1024x384 : Shape := ⟨2, ![1024, 384]⟩
abbrev S1024x768 : Shape := ⟨2, ![1024, 768]⟩
abbrev S1024x416 : Shape := ⟨2, ![1024, 416]⟩
abbrev S1024x256 : Shape := ⟨2, ![1024, 256]⟩
abbrev S1024x128 : Shape := ⟨2, ![1024, 128]⟩
abbrev S1024x32 : Shape := ⟨2, ![1024, 32]⟩
abbrev S1024x2x2x8 : Shape := ⟨4, ![1024, 2, 2, 8]⟩
abbrev S1024x2x1x8 : Shape := ⟨4, ![1024, 2, 1, 8]⟩
abbrev S1024x64 : Shape := ⟨2, ![1024, 64]⟩
abbrev S_ : Shape := ⟨0, ![]⟩
abbrev S1024x4x96 : Shape := ⟨3, ![1024, 4, 96]⟩
abbrev S1024x4x128 : Shape := ⟨3, ![1024, 4, 128]⟩
abbrev S1024x512 : Shape := ⟨2, ![1024, 512]⟩
abbrev S1024x2816 : Shape := ⟨2, ![1024, 2816]⟩
abbrev S512 : Shape := ⟨1, ![512]⟩
abbrev S1x512 : Shape := ⟨2, ![1, 512]⟩
abbrev S768 : Shape := ⟨1, ![768]⟩
abbrev S1x768 : Shape := ⟨2, ![1, 768]⟩
abbrev S1x256 : Shape := ⟨2, ![1, 256]⟩
abbrev S1x128 : Shape := ⟨2, ![1, 128]⟩
abbrev S36864x512 : Shape := ⟨2, ![36864, 512]⟩
abbrev S36864x768 : Shape := ⟨2, ![36864, 768]⟩
abbrev S512x1024 : Shape := ⟨2, ![512, 1024]⟩
abbrev S1x6x1024 : Shape := ⟨3, ![1, 6, 1024]⟩
abbrev S512x640 : Shape := ⟨2, ![512, 640]⟩
abbrev S512x512 : Shape := ⟨2, ![512, 512]⟩
abbrev S512x768 : Shape := ⟨2, ![512, 768]⟩
abbrev S6x1024 : Shape := ⟨2, ![6, 1024]⟩
abbrev S1x1024 : Shape := ⟨2, ![1, 1024]⟩
abbrev S512x128 : Shape := ⟨2, ![512, 128]⟩
abbrev S512x256 : Shape := ⟨2, ![512, 256]⟩
abbrev S512x1 : Shape := ⟨2, ![512, 1]⟩
abbrev S512x1536 : Shape := ⟨2, ![512, 1536]⟩

abbrev nBuf : Space → Nat
  | .hbm => 109
  | .vmem => 27
  | .smem => 0
  | _ => 0

abbrev bufTy : (tb : Table) → Fin (tcTables nBuf tb) → BufTy
  | .hbm, ⟨0, _⟩ => ⟨S36864x1024, .f32⟩
  | .hbm, ⟨1, _⟩ => ⟨S24x6x1024, .f32⟩
  | .hbm, ⟨2, _⟩ => ⟨S1024x2336, .f32⟩
  | .hbm, ⟨3, _⟩ => ⟨S2560x640, .f32⟩
  | .hbm, ⟨4, _⟩ => ⟨S256, .f32⟩
  | .hbm, ⟨5, _⟩ => ⟨S128, .f32⟩
  | .hbm, ⟨6, _⟩ => ⟨S256x768, .bf16⟩
  | .hbm, ⟨7, _⟩ => ⟨S128x1536, .bf16⟩
  | .hbm, ⟨8, _⟩ => ⟨S1024x1152, .f32⟩
  | .hbm, ⟨9, _⟩ => ⟨S1024x384, .f32⟩
  | .hbm, ⟨10, _⟩ => ⟨S1024x384, .f32⟩
  | .hbm, ⟨11, _⟩ => ⟨S1024x384, .f32⟩
  | .hbm, ⟨12, _⟩ => ⟨S1024x768, .f32⟩
  | .hbm, ⟨13, _⟩ => ⟨S1024x416, .f32⟩
  | .hbm, ⟨14, _⟩ => ⟨S1024x256, .f32⟩
  | .hbm, ⟨15, _⟩ => ⟨S1024x128, .f32⟩
  | .hbm, ⟨16, _⟩ => ⟨S1024x32, .f32⟩
  | .hbm, ⟨17, _⟩ => ⟨S1024x2x2x8, .f32⟩
  | .hbm, ⟨18, _⟩ => ⟨S1024x2x1x8, .f32⟩
  | .hbm, ⟨19, _⟩ => ⟨S1024x2x1x8, .f32⟩
  | .hbm, ⟨20, _⟩ => ⟨S1024x2x1x8, .f32⟩
  | .hbm, ⟨21, _⟩ => ⟨S1024x2x2x8, .f32⟩
  | .hbm, ⟨22, _⟩ => ⟨S1024x32, .f32⟩
  | .hbm, ⟨23, _⟩ => ⟨S1024x64, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x4x96, .f32⟩
  | .hbm, ⟨28, _⟩ => ⟨S_, .i32⟩
  | .hbm, ⟨29, _⟩ => ⟨S_, .f32⟩
  | .hbm, ⟨30, _⟩ => ⟨S1024x4x128, .f32⟩
  | .hbm, ⟨31, _⟩ => ⟨S1024x512, .f32⟩
  | .hbm, ⟨32, _⟩ => ⟨S1024x4x96, .f32⟩
  | .hbm, ⟨33, _⟩ => ⟨S_, .i32⟩
  | .hbm, ⟨34, _⟩ => ⟨S_, .f32⟩
  | .hbm, ⟨35, _⟩ => ⟨S1024x4x128, .f32⟩
  | .hbm, ⟨36, _⟩ => ⟨S1024x512, .f32⟩
  | .hbm, ⟨37, _⟩ => ⟨S1024x4x96, .f32⟩
  | .hbm, ⟨38, _⟩ => ⟨S_, .i32⟩
  | .hbm, ⟨39, _⟩ => ⟨S_, .f32⟩
  | .hbm, ⟨40, _⟩ => ⟨S1024x4x128, .f32⟩
  | .hbm, ⟨41, _⟩ => ⟨S1024x512, .f32⟩
  | .hbm, ⟨42, _⟩ => ⟨S1024x2816, .f32⟩
  | .hbm, ⟨43, _⟩ => ⟨S1024x2816, .bf16⟩
  | .hbm, ⟨44, _⟩ => ⟨S512, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S_, .i32⟩
  | .hbm, ⟨54, _⟩ => ⟨S512, .i32⟩
  | .hbm, ⟨55, _⟩ => ⟨S512, .i1⟩
  | .hbm, ⟨56, _⟩ => ⟨S_, .i32⟩
  | .hbm, ⟨57, _⟩ => ⟨S512, .i32⟩
  | .hbm, ⟨58, _⟩ => ⟨S512, .i1⟩
  | .hbm, ⟨59, _⟩ => ⟨S_, .i32⟩
  | .hbm, ⟨60, _⟩ => ⟨S_, .i1⟩
  | .hbm, ⟨61, _⟩ => ⟨S512, .i1⟩
  | .hbm, ⟨62, _⟩ => ⟨S512, .i1⟩
  | .hbm, ⟨63, _⟩ => ⟨S512, .i1⟩
  | .hbm, ⟨64, _⟩ => ⟨S512, .i32⟩
  | .hbm, ⟨65, _⟩ => ⟨S512, .i32⟩
  | .hbm, ⟨66, _⟩ => ⟨S512, .i32⟩
  | .hbm, ⟨67, _⟩ => ⟨S_, .i32⟩
  | .hbm, ⟨68, _⟩ => ⟨S512, .i32⟩
  | .hbm, ⟨69, _⟩ => ⟨S512, .i1⟩
  | .hbm, ⟨70, _⟩ => ⟨S512, .f32⟩
  | .hbm, ⟨71, _⟩ => ⟨S1x512, .f32⟩
  | .hbm, ⟨72, _⟩ => ⟨S768, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S768, .i32⟩
  | .hbm, ⟨80, _⟩ => ⟨S768, .i32⟩
  | .hbm, ⟨81, _⟩ => ⟨S_, .i32⟩
  | .hbm, ⟨82, _⟩ => ⟨S768, .i32⟩
  | .hbm, ⟨83, _⟩ => ⟨S768, .i1⟩
  | .hbm, ⟨84, _⟩ => ⟨S_, .i32⟩
  | .hbm, ⟨85, _⟩ => ⟨S768, .i32⟩
  | .hbm, ⟨86, _⟩ => ⟨S768, .i1⟩
  | .hbm, ⟨87, _⟩ => ⟨S_, .i32⟩
  | .hbm, ⟨88, _⟩ => ⟨S_, .i1⟩
  | .hbm, ⟨89, _⟩ => ⟨S768, .i1⟩
  | .hbm, ⟨90, _⟩ => ⟨S768, .i1⟩
  | .hbm, ⟨91, _⟩ => ⟨S768, .i1⟩
  | .hbm, ⟨92, _⟩ => ⟨S768, .i32⟩
  | .hbm, ⟨93, _⟩ => ⟨S768, .i32⟩
  | .hbm, ⟨94, _⟩ => ⟨S768, .i32⟩
  | .hbm, ⟨95, _⟩ => ⟨S_, .i32⟩
  | .hbm, ⟨96, _⟩ => ⟨S768, .i32⟩
  | .hbm, ⟨97, _⟩ => ⟨S768, .i1⟩
  | .hbm, ⟨98, _⟩ => ⟨S768, .f32⟩
  | .hbm, ⟨99, _⟩ => ⟨S1x768, .f32⟩
  | .hbm, ⟨100, _⟩ => ⟨S1x256, .f32⟩
  | .hbm, ⟨101, _⟩ => ⟨S1x128, .f32⟩
  | .hbm, ⟨102, _⟩ => ⟨S36864x512, .bf16⟩
  | .hbm, ⟨103, _⟩ => ⟨S36864x512, .bf16⟩
  | .hbm, ⟨104, _⟩ => ⟨S36864x512, .bf16⟩
  | .hbm, ⟨105, _⟩ => ⟨S36864x768, .f32⟩
  | .hbm, ⟨106, _⟩ => ⟨S36864x768, .bf16⟩
  | .hbm, ⟨107, _⟩ => ⟨S36864x768, .bf16⟩
  | .hbm, ⟨108, _⟩ => ⟨S36864x768, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2816, .bf16⟩
  | .local _ .vmem, ⟨5, _⟩ => ⟨S512x640, .f32⟩
  | .local _ .vmem, ⟨6, _⟩ => ⟨S512x640, .f32⟩
  | .local _ .vmem, ⟨7, _⟩ => ⟨S1x256, .f32⟩
  | .local _ .vmem, ⟨8, _⟩ => ⟨S1x128, .f32⟩
  | .local _ .vmem, ⟨9, _⟩ => ⟨S256x768, .bf16⟩
  | .local _ .vmem, ⟨10, _⟩ => ⟨S128x1536, .bf16⟩
  | .local _ .vmem, ⟨11, _⟩ => ⟨S1x512, .f32⟩
  | .local _ .vmem, ⟨12, _⟩ => ⟨S1x768, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x768, .f32⟩
  | .local _ .vmem, ⟨20, _⟩ => ⟨S512x768, .f32⟩
  | .local _ .vmem, ⟨21, _⟩ => ⟨S512x768, .bf16⟩
  | .local _ .vmem, ⟨22, _⟩ => ⟨S512x768, .bf16⟩
  | .local _ .vmem, ⟨23, _⟩ => ⟨S512x768, .bf16⟩
  | .local _ .vmem, ⟨24, _⟩ => ⟨S512x768, .bf16⟩
  | .local _ .vmem, ⟨25, _⟩ => ⟨S512x768, .bf16⟩
  | .local _ .vmem, ⟨26, _⟩ => ⟨S512x768, .bf16⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_call2_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_call3_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_call4_v0 : Ref sig .tc := ⟨.hbm, 46, rfl⟩
abbrev main_call4_c : Ref sig .tc := ⟨.hbm, 47, rfl⟩
abbrev main_call4_v1 : Ref sig .tc := ⟨.hbm, 48, rfl⟩
abbrev main_call4_c_0 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_c_1 : Ref sig .tc := ⟨.hbm, 53, rfl⟩
abbrev main_call4_v5 : Ref sig .tc := ⟨.hbm, 54, rfl⟩
abbrev main_call4_v6 : Ref sig .tc := ⟨.hbm, 55, rfl⟩
abbrev main_call4_c_2 : Ref sig .tc := ⟨.hbm, 56, rfl⟩
abbrev main_call4_v7 : Ref sig .tc := ⟨.hbm, 57, rfl⟩
abbrev main_call4_v8 : Ref sig .tc := ⟨.hbm, 58, rfl⟩
abbrev main_call4_c_3 : Ref sig .tc := ⟨.hbm, 59, rfl⟩
abbrev main_call4_v9 : Ref sig .tc := ⟨.hbm, 60, rfl⟩
abbrev main_call4_v10 : Ref sig .tc := ⟨.hbm, 61, rfl⟩
abbrev main_call4_v11 : Ref sig .tc := ⟨.hbm, 62, rfl⟩
abbrev main_call4_v12 : Ref sig .tc := ⟨.hbm, 63, rfl⟩
abbrev main_call4_v13 : Ref sig .tc := ⟨.hbm, 64, rfl⟩
abbrev main_call4_v14 : Ref sig .tc := ⟨.hbm, 65, rfl⟩
abbrev main_v29 : Ref sig .tc := ⟨.hbm, 66, rfl⟩
abbrev main_c_4 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_5 : Ref sig .tc := ⟨.hbm, 73, rfl⟩
abbrev main_call5_v0 : Ref sig .tc := ⟨.hbm, 74, rfl⟩
abbrev main_call5_c : Ref sig .tc := ⟨.hbm, 75, rfl⟩
abbrev main_call5_v1 : Ref sig .tc := ⟨.hbm, 76, rfl⟩
abbrev main_call5_c_0 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_c_1 : Ref sig .tc := ⟨.hbm, 81, rfl⟩
abbrev main_call5_v5 : Ref sig .tc := ⟨.hbm, 82, rfl⟩
abbrev main_call5_v6 : Ref sig .tc := ⟨.hbm, 83, rfl⟩
abbrev main_call5_c_2 : Ref sig .tc := ⟨.hbm, 84, rfl⟩
abbrev main_call5_v7 : Ref sig .tc := ⟨.hbm, 85, rfl⟩
abbrev main_call5_v8 : Ref sig .tc := ⟨.hbm, 86, rfl⟩
abbrev main_call5_c_3 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_v12 : Ref sig .tc := ⟨.hbm, 91, rfl⟩
abbrev main_call5_v13 : Ref sig .tc := ⟨.hbm, 92, rfl⟩
abbrev main_call5_v14 : Ref sig .tc := ⟨.hbm, 93, rfl⟩
abbrev main_v35 : Ref sig .tc := ⟨.hbm, 94, rfl⟩
abbrev main_c_6 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42_0 : Ref sig .tc := ⟨.hbm, 102, rfl⟩
abbrev main_v42_1 : Ref sig .tc := ⟨.hbm, 103, rfl⟩
abbrev main_v42_2 : Ref sig .tc := ⟨.hbm, 104, rfl⟩
abbrev main_v42_3 : Ref sig .tc := ⟨.hbm, 105, rfl⟩
abbrev main_v42_4 : Ref sig .tc := ⟨.hbm, 106, rfl⟩
abbrev main_v42_5 : Ref sig .tc := ⟨.hbm, 107, rfl⟩
abbrev main_v42_6 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.select v0 v17 c16_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c64_i32 : BitVec 32 := 64#32
  let v0 : BitVec 1 := Scalar.cmpi .slt arg0 c64_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InProjRefIdeal.lean ====
abbrev S36864x1024 : Shape := ⟨2, ![36864, 1024]⟩
abbrev S24x6x1024 : Shape := ⟨3, ![24, 6, 1024]⟩
abbrev S1024x2336 : Shape := ⟨2, ![1024, 2336]⟩
abbrev S2560x640 : Shape := ⟨2, ![2560, 640]⟩
abbrev S256 : Shape := ⟨1, ![256]⟩
abbrev S128 : Shape := ⟨1, ![128]⟩
abbrev S256x768 : Shape := ⟨2, ![256, 768]⟩
abbrev S128x1536 : Shape := ⟨2, ![128, 1536]⟩
abbrev S16x1x1024 : Shape := ⟨3, ![16, 1, 1024]⟩
abbrev S16x1024 : Shape := ⟨2, ![16, 1024]⟩
abbrev S16x2048x1024 : Shape := ⟨3, ![16, 2048, 1024]⟩
abbrev S32768x1024 : Shape := ⟨2, ![32768, 1024]⟩
abbrev S1x1x1024 : Shape := ⟨3, ![1, 1, 1024]⟩
abbrev S1024 : Shape := ⟨1, ![1024]⟩
abbrev S1x1024 : Shape := ⟨2, ![1, 1024]⟩
abbrev S4096x1024 : Shape := ⟨2, ![4096, 1024]⟩
abbrev S_ : Shape := ⟨0, ![]⟩
abbrev S36864x2336 : Shape := ⟨2, ![36864, 2336]⟩
abbrev S36864x384 : Shape := ⟨2, ![36864, 384]⟩
abbrev S36864x4x96 : Shape := ⟨3, ![36864, 4, 96]⟩
abbrev S36864x4x97 : Shape := ⟨3, ![36864, 4, 97]⟩
abbrev S36864x4x128 : Shape := ⟨3, ![36864, 4, 128]⟩
abbrev S36864x512 : Shape := ⟨2, ![36864, 512]⟩
abbrev S36864x768 : Shape := ⟨2, ![36864, 768]⟩

abbrev nBuf : Space → Nat
  | .hbm => 45
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S24x6x1024, .f32⟩
  | .hbm, ⟨2, _⟩ => ⟨S1024x2336, .f32⟩
  | .hbm, ⟨3, _⟩ => ⟨S2560x640, .f32⟩
  | .hbm, ⟨4, _⟩ => ⟨S256, .f32⟩
  | .hbm, ⟨5, _⟩ => ⟨S128, .f32⟩
  | .hbm, ⟨6, _⟩ => ⟨S256x768, .bf16⟩
  | .hbm, ⟨7, _⟩ => ⟨S128x1536, .bf16⟩
  | .hbm, ⟨8, _⟩ => ⟨S16x1x1024, .f32⟩
  | .hbm, ⟨9, _⟩ => ⟨S16x1024, .f32⟩
  | .hbm, ⟨10, _⟩ => ⟨S16x1x1024, .f32⟩
  | .hbm, ⟨11, _⟩ => ⟨S16x2048x1024, .f32⟩
  | .hbm, ⟨12, _⟩ => ⟨S32768x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S36864x1024, .f32⟩
  | .hbm, ⟨18, _⟩ => ⟨S_, .f32⟩
  | .hbm, ⟨19, _⟩ => ⟨S36864x1024, .f32⟩
  | .hbm, ⟨20, _⟩ => ⟨S36864x1024, .f32⟩
  | .hbm, ⟨21, _⟩ => ⟨S36864x1024, .f32⟩
  | .hbm, ⟨22, _⟩ => ⟨S16x1x1024, .f32⟩
  | .hbm, ⟨23, _⟩ => ⟨S16x1024, .f32⟩
  | .hbm, ⟨24, _⟩ => ⟨S16x1x1024, .f32⟩
  | .hbm, ⟨25, _⟩ => ⟨S16x2048x1024, .f32⟩
  | .hbm, ⟨26, _⟩ => ⟨S32768x1024, .f32⟩
  | .hbm, ⟨27, _⟩ => ⟨S1x1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S36864x1024, .f32⟩
  | .hbm, ⟨32, _⟩ => ⟨S36864x1024, .f32⟩
  | .hbm, ⟨33, _⟩ => ⟨S36864x2336, .f32⟩
  | .hbm, ⟨34, _⟩ => ⟨S36864x384, .f32⟩
  | .hbm, ⟨35, _⟩ => ⟨S36864x4x96, .f32⟩
  | .hbm, ⟨36, _⟩ => ⟨S_, .f32⟩
  | .hbm, ⟨37, _⟩ => ⟨S_, .f32⟩
  | .hbm, ⟨38, _⟩ => ⟨S36864x4x97, .f32⟩
  | .hbm, ⟨39, _⟩ => ⟨S_, .i32⟩
  | .hbm, ⟨40, _⟩ => ⟨S_, .f32⟩
  | .hbm, ⟨41, _⟩ => ⟨S36864x4x128, .f32⟩
  | .hbm, ⟨42, _⟩ => ⟨S36864x512, .f32⟩
  | .hbm, ⟨43, _⟩ => ⟨S36864x512, .bf16⟩
  | .hbm, ⟨44, _⟩ => ⟨S36864x768, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_call0_v0 : Ref sig .tc := ⟨.hbm, 37, rfl⟩
abbrev main_v27 : Ref sig .tc := ⟨.hbm, 38, rfl⟩
abbrev main_c : Ref sig .tc := ⟨.hbm, 39, rfl⟩
abbrev main_call1_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Softmax.lean ====
/- Facts about sums, maxima and quotients over the extended reals that a softmax needs: a maximum and a sum over two
   joined ranges, a real factor taken out of a sum, and the mixture of two softmaxes applied to values. -/
module

public import Idealize.ShloMosaic.PureOps.Ideal
public import Idealize.ShloMosaic.PureOps.Ideal.Laws
public import Idealize.ShloMosaic.PureOps.IdealRules

@[expose] public section

noncomputable section

namespace Cert.Softmax

open Idealize.ShloMosaic
open scoped BigOperators

/-! ## Finiteness -/

/-- A value that is an ordinary real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.exp {x : EReal} (hx : IsReal x) : IsReal (Ideal.exp x) := by
  obtain ⟨a, rfl⟩ := hx
  exact ⟨Real.exp a, rfl⟩

/-- A sum of real numbers is the sum taken among the reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem IsReal.sum {ι : Type*} (s : Finset ι) {f : ι → EReal} (hf : ∀ i, IsReal (f i)) : IsReal (∑ i ∈ s, f i) := by
  choose g hg using hf
  exact ⟨∑ i ∈ s, g i, by rw [← sum_coe]; exact Finset.sum_congr rfl fun i _ => hg i⟩

/-- An extended real whose absolute value lies below infinity is a real number. -/
theorem IsReal.of_abs_lt {x : EReal} (h : max x (-x) < ⊤) : IsReal x := by
  induction x using EReal.rec with
  | bot => simp at h
  | top => simp at h
  | coe r => exact ⟨r, rfl⟩

/-- The largest of finitely many, and at least one, real numbers is a real number. -/
theorem IsReal.fold_max {n : ℕ} (hn : 0 < n) {f : Fin n → EReal} (hf : ∀ i, IsReal (f i)) :
    IsReal ((Finset.univ : Finset (Fin n)).fold max ⊥ f) := by
  have hb : (Finset.univ : Finset (Fin n)).fold max ⊥ f ≠ ⊥ := by
    intro h
    have h1 := (Finset.fold_max_le (s := Finset.univ) (b := ⊥) (f := f) (c := ⊥)).mp h.le
    obtain ⟨r, hr⟩ := hf ⟨0, hn⟩
    have h2 := h1.2 ⟨0, hn⟩ (Finset.mem_univ _)
    rw [hr] at h2
    exact absurd (le_bot_iff.mp h2) (EReal.coe_ne_bot r)
  have ht : (Finset.univ : Finset (Fin n)).fold max ⊥ f < ⊤ := by
    rw [Finset.fold_max_lt]
    refine ⟨bot_lt_top, fun i _ => ?_⟩
    obtain ⟨r, hr⟩ := hf i
    rw [hr]; exact EReal.coe_lt_top r
  exact ⟨_, (EReal.coe_toReal ht.ne hb).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-! ## Two ranges joined -/

/-- Context entries first, latent entries after them. -/
def join {α : Type*} {C L : ℕ} (c : Fin C → α) (l : Fin L → α) (k : Fin (C + L)) : α :=
  if h : k.val < C then c ⟨k.val, h⟩ else l ⟨k.val - C, by have := k.isLt; omega⟩

theorem join_castAdd {α : Type*} {C L : ℕ} (c : Fin C → α) (l : Fin L → α) (k : Fin C) :
    join c l (Fin.castAdd L k) = c k := by
  have h : (Fin.castAdd L k).val < C := k.isLt
  unfold join; rw [dif_pos h]; rfl

theorem join_natAdd {α : Type*} {C L : ℕ} (c : Fin C → α) (l : Fin L → α) (k : Fin L) :
    join c l (Fin.natAdd C k) = l k := by
  have h : ¬ (Fin.natAdd C k).val < C := by simp
  unfold join; rw [dif_neg h]; congr 1; apply Fin.ext; simp

theorem sum_join {C L : ℕ} (f : Fin (C + L) → EReal) :
    ∑ k, f k = (∑ k : Fin L, f (Fin.natAdd C k)) + ∑ k : Fin C, f (Fin.castAdd L k) := by
  rw [Fin.sum_univ_add, add_comm]

theorem fold_join {C L : ℕ} (f : Fin (C + L) → EReal) :
    (Finset.univ : Finset (Fin (C + L))).fold max ⊥ f =
      max ((Finset.univ : Finset (Fin C)).fold max ⊥ fun k => f (Fin.castAdd L k))
        ((Finset.univ : Finset (Fin L)).fold max ⊥ fun k => f (Fin.natAdd C k)) := by
  apply le_antisymm
  · rw [Finset.fold_max_le]
    refine ⟨bot_le, fun k _ => ?_⟩
    induction k using Fin.addCases with
    | left k => exact le_max_of_le_left ((Finset.le_fold_max _).mpr (Or.inr ⟨k, Finset.mem_univ _, le_rfl⟩))
    | right k => exact le_max_of_le_right ((Finset.le_fold_max _).mpr (Or.inr ⟨k, Finset.mem_univ _, le_rfl⟩))
  · refine max_le ?_ ?_
    · rw [Finset.fold_max_le]
      exact ⟨bot_le, fun k _ => (Finset.le_fold_max _).mpr (Or.inr ⟨_, Finset.mem_univ _, le_rfl⟩)⟩
    · rw [Finset.fold_max_le]
      exact ⟨bot_le, fun k _ => (Finset.le_fold_max _).mpr (Or.inr ⟨_, Finset.mem_univ _, le_rfl⟩)⟩

/-! ## Factors and cleared lanes -/

/-- A real factor that is not negative comes out of a sum. -/
theorem sum_mul_coe {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s h ih =>
    rw [Finset.sum_insert h, Finset.sum_insert h, ih,
      EReal.right_distrib_of_nonneg_of_ne_top (EReal.coe_nonneg.mpr hc) (EReal.coe_ne_top c)]

/-- A sum over `n + p` lanes of which the last `p` are zero is the sum over the first `n`. -/
theorem sum_pad {n p : ℕ} (f : Fin (n + p) → EReal) (h : ∀ k : Fin p, f (Fin.natAdd n k) = 0) :
    ∑ k, f k = ∑ k : Fin n, f (Fin.castAdd p k) := by
  rw [Fin.sum_univ_add, Finset.sum_eq_zero (s := Finset.univ) (f := fun k : Fin p => f (Fin.natAdd n k)) (fun k _ => h k),
    add_zero]

/-! ## The softmax and its mixture -/

/-- The sum of the exponentials of at least one real number is a positive real number. -/
theorem expSum_pos {n : ℕ} (hn : 0 < n) {s : Fin n → EReal} {mx : EReal} (hs : ∀ k, IsReal (s k)) (hm : IsReal mx) :
    ∃ d : ℝ, 0 < d ∧ ∑ k, Ideal.exp (s k - mx) = (d : EReal) := by
  choose g hg using hs
  obtain ⟨μ, rfl⟩ := hm
  refine ⟨∑ k, Real.exp (g k - μ), ?_, ?_⟩
  · exact Finset.sum_pos (fun k _ => Real.exp_pos _) ⟨⟨0, hn⟩, Finset.mem_univ _⟩
  · rw [← sum_coe]
    refine Finset.sum_congr rfl fun k _ => ?_
    rw [hg k, ← EReal.coe_sub]; rfl

/-- Dividing every weight before the weighted sum is dividing the weighted sum. -/
theorem div_sum {n : ℕ} {d : ℝ} (hd : 0 < d) (e v : Fin n → EReal) :
    ∑ k, Ideal.div (e k) (d : EReal) * v k = Ideal.div (∑ k, e k * v k) (d : EReal) := by
  rw [Ideal.div_coe hd.ne', ← sum_mul_coe _ _ (by positivity)]
  refine Finset.sum_congr rfl fun k _ => ?_
  rw [Ideal.div_coe hd.ne', mul_right_comm]

/-- One softmax less a multiple of another, applied to real values, is the one applied less the multiple of the other
    applied. -/
theorem mix {n : ℕ} {d₁ d₂ : ℝ} (h₁ : 0 < d₁) (h₂ : 0 < d₂) {e₁ e₂ v : Fin n → EReal} {lam : EReal}
    (he₁ : ∀ k, IsReal (e₁ k)) (he₂ : ∀ k, IsReal (e₂ k)) (hv : ∀ k, IsReal (v k)) (hl : IsReal lam) :
    ∑ k, (Ideal.div (e₁ k) (d₁ : EReal) - lam * Ideal.div (e₂ k) (d₂ : EReal)) * v k =
      Ideal.div (∑ k, e₁ k * v k) (d₁ : EReal) - lam * Ideal.div (∑ k, e₂ k * v k) (d₂ : EReal) := by
  choose a ha using he₁
  choose b hb using he₂
  choose w hw using hv
  obtain ⟨l, rfl⟩ := hl
  obtain rfl : e₁ = fun k => (a k : EReal) := funext ha
  obtain rfl : e₂ = fun k => (b k : EReal) := funext hb
  obtain rfl : v = fun k => (w k : EReal) := funext hw
  simp only [Ideal.div_coe h₁.ne', Ideal.div_coe h₂.ne', ← EReal.coe_mul, ← EReal.coe_sub, sum_coe]
  congr 1
  rw [Finset.sum_mul, Finset.sum_mul, Finset.mul_sum, ← Finset.sum_sub_distrib]
  exact Finset.sum_congr rfl fun k _ => by ring

/-! ## Constants -/

theorem scale48 : ∃ c : ℝ, 0 ≤ c ∧ Ideal.ofBits .f32 0x3E13CD3A#32 = (c : EReal) := by
  refine ⟨_, ?_, by simp [Ideal.ofBits, Ideal.ieee]; rfl⟩
  positivity

theorem lambdaInit : IsReal (Ideal.ofBits .f32 0x3E4CCCCD#32) := by
  refine ⟨_, by simp [Ideal.ofBits, Ideal.ieee]; rfl⟩

theorem negInf : Ideal.ofBits .f32 0xFF800000#32 = ⊥ := by
  simp [Ideal.ofBits, Ideal.ieee]

theorem posInf : Ideal.ofBits .f32 0x7F800000#32 = ⊤ := by
  simp [Ideal.ofBits, Ideal.ieee]

theorem ninetySix : Ideal.ofBits .f32 0x42C00000#32 = ((96 : ℝ) : EReal) := by
  simp [Ideal.ofBits, Ideal.ieee, -EReal.coe_mul]
  norm_num

end Cert.Softmax
-- ==== Proof.Attend.lean ====
/- What one block of a latent attention computes, as functions of the blocks it reads: the scores against the
   context keys and the latent keys, the row maximum, the weighted sum of the values, the denominator read from the
   lane of ones, and the normalised rows; and each of them read at one row and one lane over the extended reals. -/
module

public import proofs.«01_k».proof.Proof.Gen.DaLatIdeal.Skeleton
public import proofs.«01_k».proof.Proof.Softmax
public import Idealize.ShloMosaic.Lib.Pointwise
public import Idealize.ShloMosaic.Lib.MatmulPlain

@[expose] public section

set_option maxRecDepth 16384

noncomputable section

namespace Cert.Attend

open Cert.DaLatIdeal Cert.DaLatIdeal.Gen Idealize.ShloMosaic
open scoped BigOperators

/-! ## The vectors -/

/-- The lane number of every entry of a block of rows. -/
def lane : IVec S1024x128 32 := iota .tc S1024x128 32 [1] iota_S1024x128_d1_w32

/-- The rows with their lanes from 48 on cleared. -/
def lowHalf (q : FVec Ideal S1024x128 .bf16) : FVec Ideal S1024x128 .bf16 :=
  select (cmpi .slt lane (broadcast S1024x128 48#32)) q (broadcast S1024x128 (Scalar.ofBits .bf16 0x0000#16))

/-- The rows with their first 48 lanes cleared. -/
def highHalf (q : FVec Ideal S1024x128 .bf16) : FVec Ideal S1024x128 .bf16 :=
  select (cmpi .slt lane (broadcast S1024x128 48#32)) (broadcast S1024x128 (Scalar.ofBits .bf16 0x0000#16)) q

/-- The scores against the context keys. -/
def scoreC (q : FVec Ideal S1024x128 .bf16) (k : FVec Ideal S256x128 .bf16) : FVec Ideal S1024x256 .f32 :=
  matmul dot_S1024x128_S256x128_S1024x256_1_1_0_0_n_n none q
    (shapeCast S256x128 k shapeCasts_S256x128_S256x128) (constant S1024x256 .f32 0x00000000#32)

/-- The scores against the latent keys. -/
def scoreL (q : FVec Ideal S1024x128 .bf16) (k : FVec Ideal S2048x128 .bf16) : FVec Ideal S1024x2048 .f32 :=
  matmul dot_S1024x128_S2048x128_S1024x2048_1_1_0_0_n_n none q
    (shapeCast S2048x128 k shapeCasts_S2048x128_S2048x128) (constant S1024x2048 .f32 0x00000000#32)

/-- The largest context score of each row. -/
def maxC (c : FVec Ideal S1024x256 .f32) : FVec Ideal S1024x1 .f32 :=
  shapeCast S1024x1 (multiReduction .maximumf [1] S1024 c 0xFF800000#32 reduces_S1024x256_S1024 (.inl rfl) rfl)
    shapeCasts_S1024_S1024x1

/-- The largest latent score of each row. -/
def maxL (l : FVec Ideal S1024x2048 .f32) : FVec Ideal S1024x1 .f32 :=
  shapeCast S1024x1 (multiReduction .maximumf [1] S1024 l 0xFF800000#32 reduces_S1024x2048_S1024 (.inl rfl) rfl)
    shapeCasts_S1024_S1024x1

/-- The largest score of each row. -/
def rowMax (c : FVec Ideal S1024x256 .f32) (l : FVec Ideal S1024x2048 .f32) : FVec Ideal S1024x1 .f32 :=
  maximumf (maxC c) (maxL l)

/-- The weights of the latent tokens, before the division. -/
def weightL (l : FVec Ideal S1024x2048 .f32) (mx : FVec Ideal S1024x1 .f32) : FVec Ideal S1024x2048 .bf16 :=
  truncf .bf16 (exp (subf l (broadcastTo S1024x2048 mx broadcasts_S1024x1_S1024x2048))) bitsLt_bf16_f32

/-- The weights of the context tokens, before the division. -/
def weightC (c : FVec Ideal S1024x256 .f32) (mx : FVec Ideal S1024x1 .f32) : FVec Ideal S1024x256 .bf16 :=
  truncf .bf16 (exp (subf c (broadcastTo S1024x256 mx broadcasts_S1024x1_S1024x256))) bitsLt_bf16_f32

/-- The weighted sum of the values. -/
def blend (wl : FVec Ideal S1024x2048 .bf16) (wc : FVec Ideal S1024x256 .bf16)
    (vl : FVec Ideal S2048x128 .bf16) (vc : FVec Ideal S256x128 .bf16) : FVec Ideal S1024x128 .f32 :=
  addf
    (matmul dot_S1024x2048_S2048x128_S1024x128_1_0_0_1_n_n none wl
      (shapeCast S2048x128 vl shapeCasts_S2048x128_S2048x128) (constant S1024x128 .f32 0x00000000#32))
    (matmul dot_S1024x256_S256x128_S1024x128_1_0_0_1_n_n none wc
      (shapeCast S256x128 vc shapeCasts_S256x128_S256x128) (constant S1024x128 .f32 0x00000000#32))

/-- The weighted sums of one block of queries. -/
def accum (q : FVec Ideal S1024x128 .bf16) (kl : FVec Ideal S2048x128 .bf16) (kc : FVec Ideal S256x128 .bf16)
    (vl : FVec Ideal S2048x128 .bf16) (vc : FVec Ideal S256x128 .bf16) : FVec Ideal S1024x128 .f32 :=
  blend (weightL (scoreL q kl) (rowMax (scoreC q kc) (scoreL q kl)))
    (weightC (scoreC q kc) (rowMax (scoreC q kc) (scoreL q kl))) vl vc

/-- One lane of every row, as a column: the sum of the row with all other lanes cleared. -/
def laneOf (one : BitVec 32) (a : FVec Ideal S1024x128 .f32) : FVec Ideal S1024x1 .f32 :=
  shapeCast S1024x1
    (multiReduction .add [1] S1024
      (select (cmpi .eq lane (broadcast S1024x128 one)) a (broadcast S1024x128 (Scalar.ofBits .f32 0x00000000#32)))
      0x00000000#32 reduces_S1024x128_S1024 (.inl rfl) rfl) shapeCasts_S1024_S1024x1

/-- The rows divided by their denominator, which sits in the lane `one`. -/
def normal (one : BitVec 32) (a : FVec Ideal S1024x128 .f32) : FVec Ideal S1024x128 .f32 :=
  divf a (broadcastTo S1024x128 (laneOf one a) broadcasts_S1024x1_S1024x128)

/-! ## Read at one row and one lane -/

theorem lane_apply (r : Fin 1024) (l : Fin 128) : lane (ix2 r l) = BitVec.ofNat 32 l.val := by
  pointwise [lane]

/-- The comparison of a lane number with a literal bound. -/
theorem slt_lane (l : Fin 128) (n : Nat) (hn : n < 128) :
    IntOp.cmpi .slt (BitVec.ofNat 32 l.val) (BitVec.ofNat 32 n) = if l.val < n then 1#1 else 0#1 := by
  have hl := l.isLt
  have h1 : (BitVec.ofNat 32 l.val).toInt = (l.val : Int) := by
    rw [BitVec.toInt_eq_toNat_of_lt (by rw [BitVec.toNat_ofNat]; omega), BitVec.toNat_ofNat, Nat.mod_eq_of_lt (by omega)]
  have h2 : (BitVec.ofNat 32 n).toInt = (n : Int) := by
    rw [BitVec.toInt_eq_toNat_of_lt (by rw [BitVec.toNat_ofNat]; omega), BitVec.toNat_ofNat, Nat.mod_eq_of_lt (by omega)]
  simp only [IntOp.cmpi, BitVec.slt, h1, h2]
  by_cases h : l.val < n
  · simp [h]
  · simp [h]

theorem eq_lane (l m : Fin 128) :
    IntOp.cmpi .eq (BitVec.ofNat 32 l.val) (BitVec.ofNat 32 m.val) = if l = m then 1#1 else 0#1 := by
  have hl := l.isLt
  have hm := m.isLt
  by_cases h : l = m
  · subst h; simp [IntOp.cmpi]
  · have : BitVec.ofNat 32 l.val ≠ BitVec.ofNat 32 m.val := by
      intro e
      have e' := congrArg BitVec.toNat e
      simp only [BitVec.toNat_ofNat] at e'
      rw [Nat.mod_eq_of_lt (by omega), Nat.mod_eq_of_lt (by omega)] at e'
      exact h (Fin.ext e')
    simp only [IntOp.cmpi, if_neg h, beq_eq_false_iff_ne.mpr this]; rfl

theorem select_ite {α : Type} (p : Prop) [Decidable p] (x y : α) :
    Scalar.select (if p then 1#1 else 0#1) x y = if p then x else y := by
  by_cases h : p <;> simp [h, Scalar.select]

theorem lowHalf_apply (q : FVec Ideal S1024x128 .bf16) (r : Fin 1024) (l : Fin 128) :
    lowHalf q (ix2 r l) = if l.val < 48 then q (ix2 r l) else 0 := by
  pointwise [lowHalf, lane]
  exact (congrArg (fun b => Scalar.select b _ _) (slt_lane l 48 (by decide))).trans (select_ite _ _ _)

theorem highHalf_apply (q : FVec Ideal S1024x128 .bf16) (r : Fin 1024) (l : Fin 128) :
    highHalf q (ix2 r l) = if l.val < 48 then 0 else q (ix2 r l) := by
  pointwise [highHalf, lane]
  exact (congrArg (fun b => Scalar.select b _ _) (slt_lane l 48 (by decide))).trans (select_ite _ _ _)

theorem scoreC_apply (q : FVec Ideal S1024x128 .bf16) (k : FVec Ideal S256x128 .bf16) (r : Fin 1024) (c : Fin 256) :
    scoreC q k (ix2 r c) = ∑ d : Fin 128, q (ix2 r d) * k (ix2 c d) := by
  pointwise [scoreC]

theorem scoreL_apply (q : FVec Ideal S1024x128 .bf16) (k : FVec Ideal S2048x128 .bf16) (r : Fin 1024) (c : Fin 2048) :
    scoreL q k (ix2 r c) = ∑ d : Fin 128, q (ix2 r d) * k (ix2 c d) := by
  pointwise [scoreL]

theorem maxC_apply (c : FVec Ideal S1024x256 .f32) (r : Fin 1024) :
    maxC c (ix2 r (0 : Fin 1)) =
      (Finset.univ : Finset (Fin 256)).fold max (Ideal.ofBits .f32 0xFF800000#32) fun k => c (ix2 r k) := by
  pointwise [maxC]

theorem maxL_apply (l : FVec Ideal S1024x2048 .f32) (r : Fin 1024) :
    maxL l (ix2 r (0 : Fin 1)) =
      (Finset.univ : Finset (Fin 2048)).fold max (Ideal.ofBits .f32 0xFF800000#32) fun k => l (ix2 r k) := by
  pointwise [maxL]

theorem max_apply (x y : FVec Ideal S1024x1 .f32) (j : S1024x1.Idx) : maximumf x y j = max (x j) (y j) := rfl

theorem rowMax_apply (c : FVec Ideal S1024x256 .f32) (l : FVec Ideal S1024x2048 .f32) (r : Fin 1024) :
    rowMax c l (ix2 r (0 : Fin 1)) =
      max ((Finset.univ : Finset (Fin 256)).fold max ⊥ fun k => c (ix2 r k))
        ((Finset.univ : Finset (Fin 2048)).fold max ⊥ fun k => l (ix2 r k)) := by
  rw [rowMax, max_apply, maxC_apply, maxL_apply, Softmax.negInf]

theorem weightL_apply (l : FVec Ideal S1024x2048 .f32) (mx : FVec Ideal S1024x1 .f32) (r : Fin 1024) (k : Fin 2048) :
    weightL l mx (ix2 r k) = Ideal.exp (l (ix2 r k) - mx (ix2 r 0)) := by
  pointwise [weightL]

theorem weightC_apply (l : FVec Ideal S1024x256 .f32) (mx : FVec Ideal S1024x1 .f32) (r : Fin 1024) (k : Fin 256) :
    weightC l mx (ix2 r k) = Ideal.exp (l (ix2 r k) - mx (ix2 r 0)) := by
  pointwise [weightC]

theorem blend_apply (wl : FVec Ideal S1024x2048 .bf16) (wc : FVec Ideal S1024x256 .bf16)
    (vl : FVec Ideal S2048x128 .bf16) (vc : FVec Ideal S256x128 .bf16) (r : Fin 1024) (l : Fin 128) :
    blend wl wc vl vc (ix2 r l) =
      (∑ k : Fin 2048, wl (ix2 r k) * vl (ix2 k l)) + ∑ k : Fin 256, wc (ix2 r k) * vc (ix2 k l) := by
  pointwise [blend]

theorem laneOf_apply (one : Fin 128) (a : FVec Ideal S1024x128 .f32) (r : Fin 1024) :
    laneOf (BitVec.ofNat 32 one.val) a (ix2 r (0 : Fin 1)) = a (ix2 r one) := by
  pointwise [laneOf, lane]
  refine (Finset.sum_congr rfl fun x _ =>
    (congrArg (fun b => Scalar.select b _ _) (eq_lane x one)).trans (select_ite _ _ _)).trans ?_
  rw [Finset.sum_ite_eq' Finset.univ one]
  simp

theorem normal_apply (one : Fin 128) (a : FVec Ideal S1024x128 .f32) (r : Fin 1024) (l : Fin 128) :
    normal (BitVec.ofNat 32 one.val) a (ix2 r l) = Ideal.div (a (ix2 r l)) (a (ix2 r one)) := by
  pointwise [normal]
  rw [laneOf_apply]

/-! ## One row against the joined tokens -/

/-- The scores of one row of queries against the context keys and then the latent keys. -/
def dots (q : Fin 128 → EReal) (kc : Fin 256 → Fin 128 → EReal) (kl : Fin 2048 → Fin 128 → EReal) :
    Fin (256 + 2048) → EReal :=
  Softmax.join (fun t => ∑ d, q d * kc t d) (fun t => ∑ d, q d * kl t d)

/-- The values weighted by the exponentials of the scores less their maximum. -/
def mixed (s v : Fin (256 + 2048) → EReal) : EReal :=
  ∑ k, Ideal.exp (s k - (Finset.univ : Finset (Fin (256 + 2048))).fold max ⊥ s) * v k

theorem accum_apply (q : FVec Ideal S1024x128 .bf16) (kl : FVec Ideal S2048x128 .bf16) (kc : FVec Ideal S256x128 .bf16)
    (vl : FVec Ideal S2048x128 .bf16) (vc : FVec Ideal S256x128 .bf16) (r : Fin 1024) (l : Fin 128) :
    accum q kl kc vl vc (ix2 r l) =
      mixed (dots (fun d => q (ix2 r d)) (fun t d => kc (ix2 t d)) (fun t d => kl (ix2 t d)))
        (Softmax.join (fun t => vc (ix2 t l)) (fun t => vl (ix2 t l))) := by
  unfold mixed
  rw [Softmax.sum_join, Softmax.fold_join]
  simp only [dots, Softmax.join_castAdd, Softmax.join_natAdd]
  unfold accum
  rw [blend_apply]
  simp only [weightL_apply, weightC_apply, rowMax_apply, scoreC_apply, scoreL_apply]

end Cert.Attend
-- ==== Proof.Head.lean ====
/- What one head of one block of the differential attention computes: the two attentions, their difference, and its
   normalised rows; and the four heads side by side as the block that is stored. -/
module

public import proofs.«01_k».proof.Proof.Attend
public import proofs.«01_k».proof.Proof.Gen.DaLatIdeal.Frame

@[expose] public section

set_option maxRecDepth 16384

noncomputable section

namespace Cert.Head

open Cert.DaLatIdeal Cert.DaLatIdeal.Gen Cert.Attend Idealize.ShloMosaic
open scoped BigOperators

/-! ## The vectors -/

/-- The first attention less `lam` times the second, on the lanes that hold values. -/
def centred (lam : FVec Ideal S1x1 .f32) (a b : FVec Ideal S1024x128 .f32) : FVec Ideal S1024x128 .f32 :=
  select (cmpi .slt lane (broadcast S1024x128 96#32))
    (subf a (mulf (broadcastTo S1024x128 lam broadcasts_S1x1_S1024x128) b))
    (broadcast S1024x128 (Scalar.ofBits .f32 0x00000000#32))

/-- The mean square of every row, over 96 lanes. -/
def meanSq (d : FVec Ideal S1024x128 .f32) : FVec Ideal S1024x1 .f32 :=
  mulf
    (shapeCast S1024x1 (multiReduction .add [1] S1024 (mulf d d) 0x00000000#32 reduces_S1024x128_S1024 (.inl rfl) rfl)
      shapeCasts_S1024_S1024x1)
    (broadcast S1024x1 (Named.named κ "inv_dv" 0x3C2AAAAB#32))

/-- The rows over their root mean square, times the gain, times a constant. -/
def scaled (gain : FVec Ideal S1x128 .f32) (d : FVec Ideal S1024x128 .f32) : FVec Ideal S1024x128 .f32 :=
  mulf
    (mulf
      (mulf d
        (broadcastTo S1024x128 (rsqrt (addf (meanSq d) (broadcast S1024x1 (Scalar.ofBits .f32 0x358637BD#32))))
          broadcasts_S1024x1_S1024x128))
      (broadcastTo S1024x128 (shapeCast S1x128 gain shapeCasts_S1x128_S1x128) broadcasts_S1x128_S1024x128))
    (broadcast S1024x128 (Scalar.ofBits .f32 0x3F4CCCCD#32))

/-- The difference of the two attentions of one head. -/
def diff (lam : FVec Ideal S1x1 .f32) (q : FVec Ideal S1024x128 .bf16) (kl : FVec Ideal S2048x128 .bf16)
    (kc : FVec Ideal S256x128 .bf16) (vl : FVec Ideal S2048x128 .bf16) (vc : FVec Ideal S256x128 .bf16) :
    FVec Ideal S1024x128 .f32 :=
  centred lam (normal 96#32 (accum (lowHalf (shapeCast S1024x128 q shapeCasts_S1024x128_S1024x128)) kl kc vl vc))
    (normal 96#32 (accum (highHalf (shapeCast S1024x128 q shapeCasts_S1024x128_S1024x128)) kl kc vl vc))

/-- One head. -/
def head (lam : FVec Ideal S1x1 .f32) (gain : FVec Ideal S1x128 .f32) (q : FVec Ideal S1024x128 .bf16)
    (kl : FVec Ideal S2048x128 .bf16) (kc : FVec Ideal S256x128 .bf16) (vl : FVec Ideal S2048x128 .bf16)
    (vc : FVec Ideal S256x128 .bf16) : FVec Ideal S1024x128 .f32 :=
  scaled gain (diff lam q kl kc vl vc)

/-- Four heads side by side. -/
def joined (a b c d : FVec Ideal S1024x128 .f32) : FVec Ideal S1024x512 .bf16 :=
  truncf .bf16
    (concatenate S1024x512 1 [⟨S1024x128, a⟩, ⟨S1024x128, b⟩, ⟨S1024x128, c⟩, ⟨S1024x128, d⟩]
      concatenates_S1024x128_S1024x128_S1024x128_S1024x128_S1024x512_d1) bitsLt_bf16_f32

/-! ## The stored block is the four heads -/

theorem head_zero (x0 : FVec Ideal S4x128 .f32) (g : FVec Ideal S1x128 .f32) (q : FVec Ideal S1024x128 .bf16)
    (kl : FVec Ideal S2048x128 .bf16) (kc : FVec Ideal S256x128 .bf16) (vl : FVec Ideal S2048x128 .bf16)
    (vc : FVec Ideal S256x128 .bf16) :
    k0_pay16 (F := Ideal) lane (k0_pay5 x0)
        (k0_pay10 lane (k0_pay6 q kc) (k0_pay7 q kc) (k0_pay8 q kl) (k0_pay9 q kl) vl vc)
        (k0_pay11 (k0_pay4 q) kc) (k0_pay13 (k0_pay4 q) kc kl) (k0_pay14 (k0_pay4 q) kc kl) (k0_pay15 vl) vc g =
      head (k0_pay5 x0) g q kl kc vl vc := rfl

theorem head_one (x0 : FVec Ideal S4x128 .f32) (g : FVec Ideal S1x128 .f32) (q : FVec Ideal S1024x128 .bf16)
    (kl : FVec Ideal S2048x128 .bf16) (kc : FVec Ideal S256x128 .bf16) (vl : FVec Ideal S2048x128 .bf16)
    (vc : FVec Ideal S256x128 .bf16) :
    k0_pay32 (F := Ideal) lane (k0_pay20 x0)
        (k0_pay26 lane (k0_pay21 lane (k0_pay17 q) 48#32 kc) (k0_pay23 lane (k0_pay17 q) 48#32 kc kl)
          (k0_pay24 lane (k0_pay17 q) 48#32 kc kl) (k0_pay25 vl) vc)
        (k0_pay30 (k0_pay19 lane (k0_pay17 q)) kc kl vl) (k0_pay31 (k0_pay19 lane (k0_pay17 q)) kc kl) vc g =
      head (k0_pay5 x0) g q kl kc vl vc := rfl

theorem head_two (x0 : FVec Ideal S4x128 .f32) (g : FVec Ideal S1x128 .f32) (q : FVec Ideal S1024x128 .bf16)
    (kl : FVec Ideal S2048x128 .bf16) (kc : FVec Ideal S256x128 .bf16) (vl : FVec Ideal S2048x128 .bf16)
    (vc : FVec Ideal S256x128 .bf16) :
    k0_pay47 (F := Ideal) lane (k0_pay37 x0)
        (k0_pay43 lane (k0_pay41 (k0_pay34 lane q) kc kl vl) (k0_pay42 (k0_pay34 lane q) kc kl) vc)
        (k0_pay44 (k0_pay36 (k0_pay33 q) (k0_pay35 lane) (Scalar.ofBits .bf16 0x0000#16)) kc kl vl vc)
        (k0_pay45 lane) (k0_pay46 (F := Ideal)) g =
      head (k0_pay5 x0) g q kl kc vl vc := rfl

theorem head_three (x0 : FVec Ideal S4x128 .f32) (a b c : FVec Ideal S1024x128 .f32) (g : FVec Ideal S1x128 .f32)
    (q : FVec Ideal S1024x128 .bf16) (kl : FVec Ideal S2048x128 .bf16) (kc : FVec Ideal S256x128 .bf16)
    (vl : FVec Ideal S2048x128 .bf16) (vc : FVec Ideal S256x128 .bf16) :
    k0_pay1 (F := Ideal) lane a b c
        (k0_pay57 lane (k0_pay50 lane q) (k0_pay53 (k0_pay51 x0) (k0_pay52 x0)) (k0_pay54 (k0_pay49 lane q) kc kl vl vc)
          (k0_pay55 lane) (k0_pay56 (F := Ideal)) kc kl vl vc) g =
      joined a b c (head (k0_pay5 x0) g q kl kc vl vc) := rfl

end Cert.Head
-- ==== Proof.Entry.lean ====
/- The arrays the blocks are cut from, as the host lines prepare them: queries, keys and values laid out 128 lanes to a
   head, the four vectors of the mixing factor and the gain padded to 128 lanes; each read at one element. -/
module

public import proofs.«01_k».proof.Proof.Softmax
public import proofs.«01_k».proof.Proof.Gen.DaLatIdeal.Frame
public import Idealize.ShloMosaic.Lib.Pipeline.ValueKit
public import Idealize.ShloMosaic.Lib.Pointwise

@[expose] public section

set_option maxRecDepth 16384

noncomputable section

namespace Cert.Entry

open Cert.DaLatIdeal Cert.DaLatIdeal.Gen Idealize.ShloMosaic Idealize.ShloMosaic.TcCoe
open scoped BigOperators

/-! ## The arrays -/

/-- Four heads of 96 lanes laid out 128 lanes to a head, the added lanes zero. -/
def slots (x : FVec Ideal S36864x384 .f32) : FVec Ideal S36864x512 .f32 :=
  shapeCast S36864x512
    (pad S36864x4x128 ![0, 0, 0] ![0, 0, 32] ![0, 0, 0] (shapeCast S36864x4x96 x shapeCasts_S36864x384_S36864x4x96)
      (sitofp .f32 (constantI S_ 32 0#32)) pads_S36864x4x96_S36864x4x128_000_000_0320 h_S_)
    shapeCasts_S36864x4x128_S36864x512

/-- The queries, times a constant. -/
def queries (x : FVec Ideal S36864x384 .f32) : FVec Ideal S36864x512 .bf16 :=
  truncf .bf16 (mulf (slots x) (broadcastInDim S36864x512 ![] bcast_S_S36864x512 (constant S_ .f32 0x3E13CD3A#32)))
    bitsLt_bf16_f32

/-- The keys. -/
def keys (x : FVec Ideal S36864x384 .f32) : FVec Ideal S36864x512 .bf16 := truncf .bf16 (slots x) bitsLt_bf16_f32

/-- The divisor of the lane numbers. -/
def period : IVec S_ 32 :=
  select (cmpi .eq (constantI S_ 32 128#32) (constantI S_ 32 0#32)) (constantI S_ 32 1#32) (constantI S_ 32 128#32)

/-- The remainder of the column number as the hardware takes it. -/
def remRaw : IVec S512 32 := Host.remsi (iotaInDim S512 32 0) (broadcastInDim S512 ![] bcast_S_S512 period)

/-- The remainder with the sign of the divisor. -/
def rem : IVec S512 32 :=
  select
    (andi
      (cmpi .ne (cmpi .slt remRaw (broadcastInDim S512 ![] bcast_S_S512 (constantI S_ 32 0#32)))
        (broadcastInDim S512 ![] bcast_S_S512 (cmpi .slt period (constantI S_ 32 0#32))))
      (cmpi .ne remRaw (broadcastInDim S512 ![] bcast_S_S512 (constantI S_ 32 0#32))))
    (addi remRaw (broadcastInDim S512 ![] bcast_S_S512 period)) remRaw

/-- One in lane 96 of every head and zero elsewhere. -/
def ones : FVec Ideal S512 .f32 :=
  uitofp .f32 (cmpi .eq rem (broadcastInDim S512 ![] bcast_S_S512 (constantI S_ 32 96#32)))

/-- The values, with a one in lane 96 of every head. -/
def values (x : FVec Ideal S36864x384 .f32) : FVec Ideal S36864x512 .bf16 :=
  truncf .bf16
    (addf (slots x)
      (broadcastInDim S36864x512 ![0, 1] bcast_S1x512_S36864x512_0_1
        (broadcastInDim S1x512 ![1] bcast_S512_S1x512_1 ones)))
    bitsLt_bf16_f32

/-- A vector of 48 padded to 128 lanes. -/
def padFlat (x : FVec Ideal S48 .f32) : FVec Ideal S128 .f32 :=
  pad S128 ![0] ![80] ![0] x (sitofp .f32 (constantI S_ 32 0#32)) pads_S48_S128_0800 h_S_

/-- A vector of 48 padded to 128 lanes, as a row. -/
def padded (x : FVec Ideal S48 .f32) : FVec Ideal S1x128 .f32 :=
  broadcastInDim S1x128 ![1] bcast_S128_S1x128_1 (padFlat x)

/-- The four vectors of the mixing factor, one above the other. -/
def mixRows (a b d e : FVec Ideal S48 .f32) : FVec Ideal S4x128 .f32 :=
  concatenate S4x128 0 [⟨S1x128, padded a⟩, ⟨S1x128, padded b⟩, ⟨S1x128, padded d⟩, ⟨S1x128, padded e⟩]
    concatenates_S1x128_S1x128_S1x128_S1x128_S4x128_d0

/-- The gain padded to 128 lanes, as a row. -/
def gainRow (g : FVec Ideal S96 .f32) : FVec Ideal S1x128 .f32 :=
  broadcastInDim S1x128 ![1] bcast_S128_S1x128_1
    (pad S128 ![0] ![32] ![0] g (sitofp .f32 (constantI S_ 32 0#32)) pads_S96_S128_0320 h_S_)

/-! ## Read at one element -/

/-- The column of lane `l` of head `h`. -/
abbrev col (h : Fin 4) (l : Fin 128) : Fin 512 := ⟨128 * h.val + l.val, by omega⟩

/-- The column of lane `l` of head `h` before the layout. -/
abbrev col96 (h : Fin 4) (l : Fin 96) : Fin 384 := ⟨96 * h.val + l.val, by omega⟩

theorem zero_word : (FloatOps.sitofp .f32 0#32 : Ideal .f32) = (0 : EReal) := by
  change (((0#32 : BitVec 32).toInt : ℝ) : EReal) = 0
  simp

theorem slots_apply (x : FVec Ideal S36864x384 .f32) (r : Fin 36864) (h : Fin 4) (l : Fin 128) :
    slots x (ix2 r (col h l)) = if hl : l.val < 96 then x (ix2 r (col96 h ⟨l.val, hl⟩)) else 0 := by
  have hh := h.isLt
  have hl' := l.isLt
  have hd : (128 * h.val + l.val) / 128 = h.val := by omega
  have hm : (128 * h.val + l.val) % 128 = l.val := by omega
  pointwise [slots]
  by_cases hl : l.val < 96
  · rw [dif_pos (by rw [hd, hm]; exact ⟨hh, hl⟩), dif_pos hl]
    congr 2
    exact Fin.ext (by simp only [hd, hm]; omega)
  · rw [dif_neg (by rw [hm]; exact fun e => hl e.2), dif_neg hl, zero_word]

theorem queries_apply (x : FVec Ideal S36864x384 .f32) (j : S36864x512.Idx) :
    queries x j = slots x j * Ideal.ofBits .f32 0x3E13CD3A#32 := by
  pointwise [queries]

theorem keys_apply (x : FVec Ideal S36864x384 .f32) (j : S36864x512.Idx) : keys x j = slots x j := by
  pointwise [keys]

theorem rem_apply : ∀ k : Fin 512, rem (ix1 k) = BitVec.ofNat 32 (k.val % 128) := by
  decide +kernel

theorem ones_apply (h : Fin 4) (l : Fin 128) : ones (ix1 (col h l)) = (if l.val = 96 then 1 else 0 : EReal) := by
  have hl := l.isLt
  have hm : (128 * h.val + l.val) % 128 = l.val := by omega
  pointwise [ones]
  rw [rem_apply, hm]
  by_cases e : l.val = 96
  · rw [if_pos e, e]
    change ((((1#1 : BitVec 1)).toNat : ℝ) : EReal) = 1
    simp
  · rw [if_neg e]
    have : BitVec.ofNat 32 l.val ≠ 96#32 := by
      intro e2
      have e' := congrArg BitVec.toNat e2
      simp only [BitVec.toNat_ofNat] at e'
      rw [Nat.mod_eq_of_lt (by omega)] at e'
      exact e e'
    simp only [IntOp.cmpi, beq_eq_false_iff_ne.mpr this]
    change ((((0#1 : BitVec 1)).toNat : ℝ) : EReal) = 0
    simp

theorem values_apply (x : FVec Ideal S36864x384 .f32) (r : Fin 36864) (h : Fin 4) (l : Fin 128) :
    values x (ix2 r (col h l)) = slots x (ix2 r (col h l)) + (if l.val = 96 then 1 else 0 : EReal) := by
  pointwise [values]
  exact congrArg (slots x (ix2 r (col h l)) + ·) (ones_apply h l)

theorem padded_apply (x : FVec Ideal S48 .f32) (l : Fin 128) :
    padded x (ix2 (0 : Fin 1) l) = if hl : l.val < 48 then x (ix1 ⟨l.val, hl⟩) else 0 := by
  pointwise [padded, padFlat]
  rw [zero_word]

theorem mixRows_apply (a b d e : FVec Ideal S48 .f32) (l : Fin 128) :
    mixRows a b d e (ix2 (0 : Fin 4) l) = padded a (ix2 (0 : Fin 1) l) ∧
      mixRows a b d e (ix2 (1 : Fin 4) l) = padded b (ix2 (0 : Fin 1) l) ∧
      mixRows a b d e (ix2 (2 : Fin 4) l) = padded d (ix2 (0 : Fin 1) l) ∧
      mixRows a b d e (ix2 (3 : Fin 4) l) = padded e (ix2 (0 : Fin 1) l) := by
  refine ⟨?_, ?_, ?_, ?_⟩ <;> pointwise [mixRows] <;> rfl

theorem gainRow_apply (g : FVec Ideal S96 .f32) (l : Fin 128) :
    gainRow g (ix2 (0 : Fin 1) l) = if hl : l.val < 96 then g (ix1 ⟨l.val, hl⟩) else 0 := by
  pointwise [gainRow]
  rw [zero_word]

end Cert.Entry
-- ==== Proof.Block.lean ====
/- One block of the differential attention read at one row and one lane: a function of the row's queries, of the keys and
   values, of the four vectors of the mixing weight, and of the gain. -/
module

public import proofs.«01_k».proof.Proof.Head
public import proofs.«01_k».proof.Proof.Entry
public import Idealize.ShloMosaic.Lib.Pipeline.ValueKit

@[expose] public section

set_option maxRecDepth 16384

noncomputable section

namespace Cert.Head

open Cert.DaLatIdeal Cert.DaLatIdeal.Gen Cert.Attend Idealize.ShloMosaic
open scoped BigOperators

/-! ## One head -/

theorem centred_apply (lam : FVec Ideal S1x1 .f32) (a b : FVec Ideal S1024x128 .f32) (r : Fin 1024) (l : Fin 128) :
    centred lam a b (ix2 r l) =
      if l.val < 96 then a (ix2 r l) - lam (ix2 (0 : Fin 1) (0 : Fin 1)) * b (ix2 r l) else 0 := by
  pointwise [centred, lane]
  exact (congrArg (fun b => Scalar.select b _ _) (slt_lane l 96 (by decide))).trans (select_ite _ _ _)

theorem meanSq_apply (d : FVec Ideal S1024x128 .f32) (r : Fin 1024) :
    meanSq d (ix2 r (0 : Fin 1)) =
      (∑ l : Fin 128, d (ix2 r l) * d (ix2 r l)) * (((1 / 96 : ℝ) : ℝ) : EReal) := by
  have hk : (Named.named κ "inv_dv" 0x3C2AAAAB#32 : Ideal .f32) = (((1 / 96 : ℝ) : ℝ) : EReal) :=
    IdealRules.named_const.ideal_named_scalar _ _ _ _ rfl
  pointwise [meanSq]
  rw [hk]

theorem scaled_apply (g : FVec Ideal S1x128 .f32) (d : FVec Ideal S1024x128 .f32) (r : Fin 1024) (l : Fin 128) :
    scaled g d (ix2 r l) =
      d (ix2 r l) * Ideal.rsqrt (meanSq d (ix2 r (0 : Fin 1)) + Ideal.ofBits .f32 0x358637BD#32) *
        g (ix2 (0 : Fin 1) l) * Ideal.ofBits .f32 0x3F4CCCCD#32 := by
  pointwise [scaled]

/-- One attention of a head: the weights of the scores, applied to the values, over what they sum to. -/
def attention (q : Fin 128 → EReal) (kc : Fin 256 → Fin 128 → EReal) (kl : Fin 2048 → Fin 128 → EReal)
    (vc : Fin 256 → Fin 128 → EReal) (vl : Fin 2048 → Fin 128 → EReal) (l : Fin 128) : EReal :=
  Ideal.div (mixed (dots q kc kl) (Softmax.join (fun t => vc t l) (fun t => vl t l)))
    (mixed (dots q kc kl) (Softmax.join (fun t => vc t 96) (fun t => vl t 96)))

/-- The difference of the two attentions of one row: the queries' first 48 lanes, and the others. -/
def contrast (lam : EReal) (q : Fin 128 → EReal) (kc : Fin 256 → Fin 128 → EReal) (kl : Fin 2048 → Fin 128 → EReal)
    (vc : Fin 256 → Fin 128 → EReal) (vl : Fin 2048 → Fin 128 → EReal) (l : Fin 128) : EReal :=
  if l.val < 96 then
    attention (fun d => if d.val < 48 then q d else 0) kc kl vc vl l -
      lam * attention (fun d => if d.val < 48 then 0 else q d) kc kl vc vl l
  else 0

/-- A row over its root mean square, times the gain, times a constant. -/
def normed (g : Fin 128 → EReal) (d : Fin 128 → EReal) (l : Fin 128) : EReal :=
  d l * Ideal.rsqrt ((∑ l : Fin 128, d l * d l) * (((1 / 96 : ℝ) : ℝ) : EReal) + Ideal.ofBits .f32 0x358637BD#32) *
    g l * Ideal.ofBits .f32 0x3F4CCCCD#32

theorem cast_apply (q : FVec Ideal S1024x128 .bf16) (r : Fin 1024) (l : Fin 128) :
    shapeCast S1024x128 q shapeCasts_S1024x128_S1024x128 (ix2 r l) = q (ix2 r l) := by
  pointwise

theorem normal_accum (q : FVec Ideal S1024x128 .bf16)
    (kl : FVec Ideal S2048x128 .bf16) (kc : FVec Ideal S256x128 .bf16) (vl : FVec Ideal S2048x128 .bf16)
    (vc : FVec Ideal S256x128 .bf16) (r : Fin 1024) (l : Fin 128) :
    normal 96#32 (accum q kl kc vl vc) (ix2 r l) =
      attention (fun d => q (ix2 r d)) (fun t d => kc (ix2 t d)) (fun t d => kl (ix2 t d)) (fun t d => vc (ix2 t d))
        (fun t d => vl (ix2 t d)) l := by
  refine (normal_apply (one := 96) (accum q kl kc vl vc) r l).trans ?_
  rw [accum_apply, accum_apply]
  rfl

theorem diff_apply (lam : FVec Ideal S1x1 .f32) (q : FVec Ideal S1024x128 .bf16)
    (kl : FVec Ideal S2048x128 .bf16) (kc : FVec Ideal S256x128 .bf16) (vl : FVec Ideal S2048x128 .bf16)
    (vc : FVec Ideal S256x128 .bf16) (r : Fin 1024) (l : Fin 128) :
    diff lam q kl kc vl vc (ix2 r l) =
      contrast (lam (ix2 (0 : Fin 1) (0 : Fin 1))) (fun d => q (ix2 r d)) (fun t d => kc (ix2 t d))
        (fun t d => kl (ix2 t d)) (fun t d => vc (ix2 t d)) (fun t d => vl (ix2 t d)) l := by
  rw [diff, centred_apply, normal_accum, normal_accum, contrast]
  simp only [lowHalf_apply, highHalf_apply, cast_apply]

theorem head_apply (lam : FVec Ideal S1x1 .f32) (g : FVec Ideal S1x128 .f32) (q : FVec Ideal S1024x128 .bf16)
    (kl : FVec Ideal S2048x128 .bf16) (kc : FVec Ideal S256x128 .bf16) (vl : FVec Ideal S2048x128 .bf16)
    (vc : FVec Ideal S256x128 .bf16) (r : Fin 1024) (l : Fin 128) :
    head lam g q kl kc vl vc (ix2 r l) =
      normed (fun l => g (ix2 (0 : Fin 1) l))
        (contrast (lam (ix2 (0 : Fin 1) (0 : Fin 1))) (fun d => q (ix2 r d)) (fun t d => kc (ix2 t d))
          (fun t d => kl (ix2 t d)) (fun t d => vc (ix2 t d)) (fun t d => vl (ix2 t d))) l := by
  rw [head, scaled_apply, meanSq_apply, normed]
  simp only [diff_apply]

theorem lam_apply (x0 : FVec Ideal S4x128 .f32) :
    k0_pay5 (F := Ideal) x0 (ix2 (0 : Fin 1) (0 : Fin 1)) =
      Ideal.exp (∑ l : Fin 128, x0 (ix2 (0 : Fin 4) l) * x0 (ix2 (1 : Fin 4) l)) -
        Ideal.exp (∑ l : Fin 128, x0 (ix2 (2 : Fin 4) l) * x0 (ix2 (3 : Fin 4) l)) +
        Ideal.ofBits .f32 0x3E4CCCCD#32 := by
  pointwise [k0_pay5]

/-! ## The four heads of a block -/

theorem joined_apply (a b c d : FVec Ideal S1024x128 .f32) (r : Fin 1024) (h : Fin 4) (l : Fin 128) :
    joined a b c d (ix2 r (Entry.col h l)) = (![a, b, c, d] h) (ix2 r l) := by
  have hl := l.isLt
  pointwise [joined]
  fin_cases h
  · rw [dif_pos (by show 128 * 0 + l.val < 128; omega)]
    exact congrArg a (congrArg (ix2 r) (Fin.ext (by show 128 * 0 + l.val = l.val; omega)))
  · rw [dif_neg (by show ¬ 128 * 1 + l.val < 128; omega), dif_pos (by show 128 * 1 + l.val - 128 < 128; omega)]
    exact congrArg b (congrArg (ix2 r) (Fin.ext (by show 128 * 1 + l.val - 128 = l.val; omega)))
  · rw [dif_neg (by show ¬ 128 * 2 + l.val < 128; omega), dif_neg (by show ¬ 128 * 2 + l.val - 128 < 128; omega),
      dif_pos (by show 128 * 2 + l.val - 128 - 128 < 128; omega)]
    exact congrArg c (congrArg (ix2 r) (Fin.ext (by show 128 * 2 + l.val - 128 - 128 = l.val; omega)))
  · rw [dif_neg (by show ¬ 128 * 3 + l.val < 128; omega), dif_neg (by show ¬ 128 * 3 + l.val - 128 < 128; omega),
      dif_neg (by show ¬ 128 * 3 + l.val - 128 - 128 < 128; omega)]
    exact congrArg d (congrArg (ix2 r) (Fin.ext (by show 128 * 3 + l.val - 128 - 128 - 128 = l.val; omega)))

theorem joined_congr {a a' b b' c c' d : FVec Ideal S1024x128 .f32} (ha : a = a') (hb : b = b') (hc : c = c') :
    joined a b c d = joined a' b' c' d := by rw [ha, hb, hc]

/-- The entries of an operand under a rectangle. -/
def under {s : Shape} (x : FVec Ideal s .bf16) (R : Rect s) : FVec Ideal R.shape .bf16 :=
  View.ld (Val := Elt Ideal) (e' := .bf16) x R

/-- The same, for an operand in f32. -/
def underF {s : Shape} (x : FVec Ideal s .f32) (R : Rect s) : FVec Ideal R.shape .f32 :=
  View.ld (Val := Elt Ideal) (e' := .f32) x R

theorem under_q0 (x : FVec Ideal S1024x512 .bf16) (r : Fin 1024) (d : Fin 128) :
    under x r0_0 (ix2 r d) = x (ix2 r (Entry.col 0 d)) := by
  refine congrArg x (funext fun a => Fin.ext ?_)
  have hr := r.isLt
  have hd := d.isLt
  fin_cases a
  · show 0 + 1 * r.val = r.val
    omega
  · show 0 + 1 * d.val = 128 * 0 + d.val
    omega

theorem under_q1 (x : FVec Ideal S1024x512 .bf16) (r : Fin 1024) (d : Fin 128) :
    under x r0_5 (ix2 r d) = x (ix2 r (Entry.col 1 d)) := by
  refine congrArg x (funext fun a => Fin.ext ?_)
  have hr := r.isLt
  have hd := d.isLt
  fin_cases a
  · show 0 + 1 * r.val = r.val
    omega
  · show 128 + 1 * d.val = 128 * 1 + d.val
    omega

theorem under_q2 (x : FVec Ideal S1024x512 .bf16) (r : Fin 1024) (d : Fin 128) :
    under x r0_8 (ix2 r d) = x (ix2 r (Entry.col 2 d)) := by
  refine congrArg x (funext fun a => Fin.ext ?_)
  have hr := r.isLt
  have hd := d.isLt
  fin_cases a
  · show 0 + 1 * r.val = r.val
    omega
  · show 256 + 1 * d.val = 128 * 2 + d.val
    omega

theorem under_q3 (x : FVec Ideal S1024x512 .bf16) (r : Fin 1024) (d : Fin 128) :
    under x r0_11 (ix2 r d) = x (ix2 r (Entry.col 3 d)) := by
  refine congrArg x (funext fun a => Fin.ext ?_)
  have hr := r.isLt
  have hd := d.isLt
  fin_cases a
  · show 0 + 1 * r.val = r.val
    omega
  · show 384 + 1 * d.val = 128 * 3 + d.val
    omega

theorem under_c0 (x : FVec Ideal S256x512 .bf16) (r : Fin 256) (d : Fin 128) :
    under x r0_2 (ix2 r d) = x (ix2 r (Entry.col 0 d)) := by
  refine congrArg x (funext fun a => Fin.ext ?_)
  have hr := r.isLt
  have hd := d.isLt
  fin_cases a
  · show 0 + 1 * r.val = r.val
    omega
  · show 0 + 1 * d.val = 128 * 0 + d.val
    omega

theorem under_c1 (x : FVec Ideal S256x512 .bf16) (r : Fin 256) (d : Fin 128) :
    under x r0_6 (ix2 r d) = x (ix2 r (Entry.col 1 d)) := by
  refine congrArg x (funext fun a => Fin.ext ?_)
  have hr := r.isLt
  have hd := d.isLt
  fin_cases a
  · show 0 + 1 * r.val = r.val
    omega
  · show 128 + 1 * d.val = 128 * 1 + d.val
    omega

theorem under_c2 (x : FVec Ideal S256x512 .bf16) (r : Fin 256) (d : Fin 128) :
    under x r0_9 (ix2 r d) = x (ix2 r (Entry.col 2 d)) := by
  refine congrArg x (funext fun a => Fin.ext ?_)
  have hr := r.isLt
  have hd := d.isLt
  fin_cases a
  · show 0 + 1 * r.val = r.val
    omega
  · show 256 + 1 * d.val = 128 * 2 + d.val
    omega

theorem under_c3 (x : FVec Ideal S256x512 .bf16) (r : Fin 256) (d : Fin 128) :
    under x r0_12 (ix2 r d) = x (ix2 r (Entry.col 3 d)) := by
  refine congrArg x (funext fun a => Fin.ext ?_)
  have hr := r.isLt
  have hd := d.isLt
  fin_cases a
  · show 0 + 1 * r.val = r.val
    omega
  · show 384 + 1 * d.val = 128 * 3 + d.val
    omega

theorem under_k0 (x : FVec Ideal S2048x512 .bf16) (r : Fin 2048) (d : Fin 128) :
    under x r0_3 (ix2 r d) = x (ix2 r (Entry.col 0 d)) := by
  refine congrArg x (funext fun a => Fin.ext ?_)
  have hr := r.isLt
  have hd := d.isLt
  fin_cases a
  · show 0 + 1 * r.val = r.val
    omega
  · show 0 + 1 * d.val = 128 * 0 + d.val
    omega

theorem under_k1 (x : FVec Ideal S2048x512 .bf16) (r : Fin 2048) (d : Fin 128) :
    under x r0_7 (ix2 r d) = x (ix2 r (Entry.col 1 d)) := by
  refine congrArg x (funext fun a => Fin.ext ?_)
  have hr := r.isLt
  have hd := d.isLt
  fin_cases a
  · show 0 + 1 * r.val = r.val
    omega
  · show 128 + 1 * d.val = 128 * 1 + d.val
    omega

theorem under_k2 (x : FVec Ideal S2048x512 .bf16) (r : Fin 2048) (d : Fin 128) :
    under x r0_10 (ix2 r d) = x (ix2 r (Entry.col 2 d)) := by
  refine congrArg x (funext fun a => Fin.ext ?_)
  have hr := r.isLt
  have hd := d.isLt
  fin_cases a
  · show 0 + 1 * r.val = r.val
    omega
  · show 256 + 1 * d.val = 128 * 2 + d.val
    omega

theorem under_k3 (x : FVec Ideal S2048x512 .bf16) (r : Fin 2048) (d : Fin 128) :
    under x r0_13 (ix2 r d) = x (ix2 r (Entry.col 3 d)) := by
  refine congrArg x (funext fun a => Fin.ext ?_)
  have hr := r.isLt
  have hd := d.isLt
  fin_cases a
  · show 0 + 1 * r.val = r.val
    omega
  · show 384 + 1 * d.val = 128 * 3 + d.val
    omega

theorem under_gain (x : FVec Ideal S1x128 .f32) : underF x r0_4 = x :=
  View.ld_unit_lit (Val := Elt Ideal) (e := .f32) _ x (by decide)

theorem under_rows (x : FVec Ideal S4x128 .f32) : underF x r0_1 = x :=
  View.ld_unit_lit (Val := Elt Ideal) (e := .f32) _ x (by decide)

set_option maxHeartbeats 1000000 in
/-- The block that is stored, as the four heads over their columns of the operands. -/
theorem stored (x0 : FVec Ideal S4x128 .f32) (x1 : FVec Ideal S1x128 .f32) (x2 : FVec Ideal S1024x512 .bf16)
    (x3 : FVec Ideal S2048x512 .bf16) (x4 : FVec Ideal S256x512 .bf16) (x5 : FVec Ideal S2048x512 .bf16)
    (x6 : FVec Ideal S256x512 .bf16) :
    out0_7 (F := Ideal) x0 x1 x2 x3 x4 x5 x6 =
      View.canon [⟨r0_14, joined
        (head (k0_pay5 (underF x0 r0_1)) (underF x1 r0_4) (under x2 r0_0) (under x3 r0_3) (under x4 r0_2) (under x5 r0_3) (under x6 r0_2))
        (head (k0_pay5 (underF x0 r0_1)) (underF x1 r0_4) (under x2 r0_5) (under x3 r0_7) (under x4 r0_6) (under x5 r0_7) (under x6 r0_6))
        (head (k0_pay5 (underF x0 r0_1)) (underF x1 r0_4) (under x2 r0_8) (under x3 r0_10) (under x4 r0_9) (under x5 r0_10) (under x6 r0_9))
        (head (k0_pay5 (underF x0 r0_1)) (underF x1 r0_4) (under x2 r0_11) (under x3 r0_13) (under x4 r0_12) (under x5 r0_13) (under x6 r0_12))⟩] := by
  unfold_out out0_7
  exact congrArg (fun p => View.canon [⟨r0_14, p⟩])
    ((head_three (underF x0 r0_1) _ _ _ (underF x1 r0_4) (under x2 r0_11) (under x3 r0_13) (under x4 r0_12) (under x5 r0_13) (under x6 r0_12)).trans
      (joined_congr (head_zero (underF x0 r0_1) (underF x1 r0_4) (under x2 r0_0) (under x3 r0_3) (under x4 r0_2) (under x5 r0_3) (under x6 r0_2)) (head_one (underF x0 r0_1) (underF x1 r0_4) (under x2 r0_5) (under x3 r0_7) (under x4 r0_6) (under x5 r0_7) (under x6 r0_6))
        (head_two (underF x0 r0_1) (underF x1 r0_4) (under x2 r0_8) (under x3 r0_10) (under x4 r0_9) (under x5 r0_10) (under x6 r0_9))))

/-- One row and lane of the block that is stored. -/
theorem stored_apply (x0 : FVec Ideal S4x128 .f32) (x1 : FVec Ideal S1x128 .f32) (x2 : FVec Ideal S1024x512 .bf16)
    (x3 : FVec Ideal S2048x512 .bf16) (x4 : FVec Ideal S256x512 .bf16) (x5 : FVec Ideal S2048x512 .bf16)
    (x6 : FVec Ideal S256x512 .bf16) (r : Fin 1024) (h : Fin 4) (l : Fin 128) :
    out0_7 (F := Ideal) x0 x1 x2 x3 x4 x5 x6 (ix2 r (Entry.col h l)) =
      normed (fun l => x1 (ix2 (0 : Fin 1) l))
        (contrast (k0_pay5 (F := Ideal) x0 (ix2 (0 : Fin 1) (0 : Fin 1))) (fun d => x2 (ix2 r (Entry.col h d)))
          (fun t d => x4 (ix2 t (Entry.col h d))) (fun t d => x3 (ix2 t (Entry.col h d)))
          (fun t d => x6 (ix2 t (Entry.col h d))) (fun t d => x5 (ix2 t (Entry.col h d)))) l := by
  rw [stored]
  frame_out
  refine (joined_apply _ _ _ _ r h l).trans ?_
  fin_cases h
  all_goals refine (head_apply _ _ _ _ _ _ _ r l).trans ?_
  · simp only [under_gain, under_rows, under_q0, under_c0, under_k0]; rfl
  · simp only [under_gain, under_rows, under_q1, under_c1, under_k1]; rfl
  · simp only [under_gain, under_rows, under_q2, under_c2, under_k2]; rfl
  · simp only [under_gain, under_rows, under_q3, under_c3, under_k3]; rfl

end Cert.Head
-- ==== Proof.Found.lean ====
/- The arrays the blocks are cut from are what the host lines leave: each is the function of the arguments stated for it. -/
module

public import proofs.«01_k».proof.Proof.Entry
public import proofs.«01_k».proof.Proof.Gen.DaLatIdeal.Frame
public import Idealize.ShloMosaic.Lib.Pipeline.ValueKit
public import Idealize.ShloMosaic.Lib.Pointwise

@[expose] public section

set_option maxRecDepth 16384

noncomputable section

namespace Cert.Entry

open Cert.DaLatIdeal Cert.DaLatIdeal.Gen Idealize.ShloMosaic Idealize.ShloMosaic.TcCoe
open scoped BigOperators

/-! ## They are what the call finds -/

section
variable (m : (ℓ : Loc nD τ sig) → Buf (Elt Ideal) ℓ) (c : Dev nD)

set_option maxHeartbeats 1000000 in
theorem entry_queries : V m c main_v20 = queries (m ((c : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.append_nil, List.cons_append, List.nil_append]
  entry_read
  simp only [StableHlo.TRef.ofBuf_toBuf]
  rfl

set_option maxHeartbeats 1000000 in
theorem entry_keys : V m c main_v24 = keys (m ((c : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.append_nil, List.cons_append, List.nil_append]
  entry_read
  simp only [StableHlo.TRef.ofBuf_toBuf]
  rfl

set_option maxHeartbeats 1000000 in
theorem entry_values : V m c main_v30 = values (m ((c : Thread nD τ).loc main_arg2)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.append_nil, List.cons_append, List.nil_append]
  entry_read
  simp only [StableHlo.TRef.ofBuf_toBuf]
  rfl

/-- The host lines before the four vectors are set one above the other. -/
abbrev before8 : List (HloOp τ sig (Elt Ideal)) :=
  (hostOps0) ++ (hostOps0_1) ++ (hostOps0_2) ++ (hostOps0_3) ++ (hostOps0_4) ++ (hostOps0_5) ++ (hostOps0_6) ++ (hostOps0_7)

/-- The host lines after that. -/
abbrev after8 : List (HloOp τ sig (Elt Ideal)) :=
  (hostOps0_9) ++ (hostOps0_10) ++ (hostOps0_11) ++ (hostOps0_12) ++ (hostOps0_13) ++ (hostOps0_14) ++ (hostOps0_15) ++ (hostOps0_16) ++ (hostOps0_17) ++ (hostOps0_18)

theorem split8 : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] : List (List (HloOp τ sig (Elt Ideal)))).flatten =
    before8 ++ (hostOps0_8 ++ after8) := by
  simp only [List.flatten_cons, List.flatten_nil, List.append_nil, List.append_assoc]

set_option maxHeartbeats 1000000 in
theorem kept8 (σ : Valuation τ sig (Elt Ideal)) : StableHlo.after after8 σ main_v8 = σ main_v8 :=
  StableHlo.after_of_forall_not_mem (b := Proc.devRef .tc main_v8) _ _ (List.forall_iff_forall_mem.mp (by
    simp only [after8, hostOps0_9, hostOps0_10, hostOps0_11, hostOps0_12, hostOps0_13, hostOps0_14, hostOps0_15, hostOps0_16, hostOps0_17, hostOps0_18, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 1000000 in
theorem entry_mixRows : V m c main_v8 = mixRows (m ((c : Thread nD τ).loc main_arg3)) (m ((c : Thread nD τ).loc main_arg4)) (m ((c : Thread nD τ).loc main_arg5)) (m ((c : Thread nD τ).loc main_arg6)) := by
  have h0 : V m c main_v8 = StableHlo.after hostOps0_8 (StableHlo.after before8 (fun b => m (c, b))) main_v8 := by
    unfold V
    rw [split8, StableHlo.after_append, StableHlo.after_append]
    exact kept8 _
  have h1 : StableHlo.after before8 (fun b => m (c, b)) main_v1 = padded (m ((c : Thread nD τ).loc main_arg3)) := by
    simp only [before8, hostOps0, hostOps0_1, hostOps0_2, hostOps0_3, hostOps0_4, hostOps0_5, hostOps0_6, hostOps0_7, List.cons_append, List.nil_append]
    entry_read
    simp only [StableHlo.TRef.ofBuf_toBuf]
    rfl
  have h3 : StableHlo.after before8 (fun b => m (c, b)) main_v3 = padded (m ((c : Thread nD τ).loc main_arg4)) := by
    simp only [before8, hostOps0, hostOps0_1, hostOps0_2, hostOps0_3, hostOps0_4, hostOps0_5, hostOps0_6, hostOps0_7, List.cons_append, List.nil_append]
    entry_read
    simp only [StableHlo.TRef.ofBuf_toBuf]
    rfl
  have h5 : StableHlo.after before8 (fun b => m (c, b)) main_v5 = padded (m ((c : Thread nD τ).loc main_arg5)) := by
    simp only [before8, hostOps0, hostOps0_1, hostOps0_2, hostOps0_3, hostOps0_4, hostOps0_5, hostOps0_6, hostOps0_7, List.cons_append, List.nil_append]
    entry_read
    simp only [StableHlo.TRef.ofBuf_toBuf]
    rfl
  have h6 : StableHlo.after before8 (fun b => m (c, b)) main_v6 = padFlat (m ((c : Thread nD τ).loc main_arg6)) := by
    simp only [before8, hostOps0, hostOps0_1, hostOps0_2, hostOps0_3, hostOps0_4, hostOps0_5, hostOps0_6, hostOps0_7, List.cons_append, List.nil_append]
    entry_read
    simp only [StableHlo.TRef.ofBuf_toBuf]
    rfl
  rw [h0]
  generalize StableHlo.after before8 (fun b => m (c, b)) = σ at h1 h3 h5 h6
  simp only [hostOps0_8, StableHlo.after_cons, StableHlo.after_nil]
  rw [StableHlo.nullary_result_ne, StableHlo.nullary_result_ne, StableHlo.nary4_result]
  rotate_left
  · decide
  · decide
  rw [StableHlo.unary_result, StableHlo.unary_result_ne, StableHlo.unary_result_ne, StableHlo.unary_result_ne, h1, h3, h5, h6]
  · rfl
  all_goals decide

set_option maxHeartbeats 1000000 in
theorem entry_gainRow : V m c main_v32 = gainRow (m ((c : Thread nD τ).loc main_arg7)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.append_nil, List.cons_append, List.nil_append]
  entry_read
  simp only [StableHlo.TRef.ofBuf_toBuf]
  rfl

end

end Cert.Entry
-- ==== Proof.Array.lean ====
/- The array the differential attention leaves: every row, head and lane of it as one function of the prepared queries,
   keys, values, mixing vectors and gain. -/
module

public import proofs.«01_k».proof.Proof.Block
public import proofs.«01_k».proof.Proof.Found

@[expose] public section

set_option maxRecDepth 16384

noncomputable section

namespace Cert.Array

open Cert.DaLatIdeal Cert.DaLatIdeal.Gen Cert.Head Idealize.ShloMosaic Idealize.ShloMosaic.TcCoe Idealize.SL.Sem
open Idealize.ShloMosaic.Pipeline (Dat)
open scoped BigOperators

/-- The row of the latent `t` of the sequence that row `R` belongs to. -/
def latRow (R : Fin 32768) (t : Fin 2048) : Fin 36864 := ⟨2048 * (R.val / 2048) + t.val, by omega⟩

/-- The row of the context `t` of the sequence that row `R` belongs to. -/
def ctxRow (R : Fin 32768) (t : Fin 256) : Fin 36864 := ⟨32768 + 256 * (R.val / 2048) + t.val, by omega⟩

/-- The row itself, among all the rows. -/
def ownRow (R : Fin 32768) : Fin 36864 := ⟨R.val, by omega⟩

/-- What is stored at lane `l` of head `h` of row `R`. -/
def rowOut (M : FVec Ideal S4x128 .f32) (g : FVec Ideal S1x128 .f32) (Q K W : FVec Ideal S36864x512 .bf16)
    (R : Fin 32768) (h : Fin 4) (l : Fin 128) : EReal :=
  normed (fun l => g (ix2 (0 : Fin 1) l))
    (contrast (k0_pay5 (F := Ideal) M (ix2 (0 : Fin 1) (0 : Fin 1))) (fun d => Q (ix2 (ownRow R) (Entry.col h d)))
      (fun t d => K (ix2 (ctxRow R t) (Entry.col h d))) (fun t d => K (ix2 (latRow R t) (Entry.col h d)))
      (fun t d => W (ix2 (ctxRow R t) (Entry.col h d))) (fun t d => W (ix2 (latRow R t) (Entry.col h d)))) l

/-- A block whose operands are the rows' own gives the rows' own entries. -/
theorem rowOut_of (M x0 : FVec Ideal S4x128 .f32) (g x1 : FVec Ideal S1x128 .f32) (Q K W : FVec Ideal S36864x512 .bf16)
    (x2 : FVec Ideal S1024x512 .bf16) (x3 : FVec Ideal S2048x512 .bf16) (x4 : FVec Ideal S256x512 .bf16)
    (x5 : FVec Ideal S2048x512 .bf16) (x6 : FVec Ideal S256x512 .bf16) (R : Fin 32768) (r : Fin 1024)
    (h0 : ∀ a l, x0 (ix2 a l) = M (ix2 a l)) (h1 : ∀ a l, x1 (ix2 a l) = g (ix2 a l))
    (h2 : ∀ k, x2 (ix2 r k) = Q (ix2 (ownRow R) k)) (h3 : ∀ s k, x3 (ix2 s k) = K (ix2 (latRow R s) k))
    (h4 : ∀ s k, x4 (ix2 s k) = K (ix2 (ctxRow R s) k)) (h5 : ∀ s k, x5 (ix2 s k) = W (ix2 (latRow R s) k))
    (h6 : ∀ s k, x6 (ix2 s k) = W (ix2 (ctxRow R s) k)) (h : Fin 4) (l : Fin 128) :
    out0_7 (F := Ideal) x0 x1 x2 x3 x4 x5 x6 (ix2 r (Entry.col h l)) = rowOut M g Q K W R h l := by
  rw [stored_apply, rowOut, lam_apply, lam_apply]
  simp only [h0, h1, h2, h3, h4, h5, h6]

/-- The whole array. -/
def whole (M : FVec Ideal S4x128 .f32) (g : FVec Ideal S1x128 .f32) (Q K W : FVec Ideal S36864x512 .bf16) :
    FVec Ideal S32768x512 .bf16 := fun i =>
  rowOut M g Q K W (i 0) ⟨(i 1).val / 128, by have := (i 1).isLt; change (i 1).val < 512 at this; omega⟩
    ⟨(i 1).val % 128, by omega⟩

variable (m : (ℓ : Loc nD τ sig) → Buf (Elt Ideal) ℓ)

/-- Which block each window takes at a grid point. -/
theorem idx : ∀ t : Fin cfg0.N, win0_0.index t = ![0, 0] ∧ win0_1.index t = ![0, 0] ∧ win0_2.index t = ![t.val, 0] ∧
    win0_3.index t = ![t.val / 2, 0] ∧ win0_4.index t = ![128 + t.val / 2, 0] ∧ win0_5.index t = ![t.val / 2, 0] ∧
    win0_6.index t = ![128 + t.val / 2, 0] ∧ win0_7.index t = ![t.val, 0] ∧ t.val < 32 :=
  (by decide +kernel : ∀ t : Fin grid0.N, _)

/-- The row of the array at row `r` of block `t`. -/
def rowAt (t : Fin cfg0.N) (r : Fin 1024) : Fin 32768 :=
  ⟨1024 * t.val + r.val, by have := (idx t).2.2.2.2.2.2.2.2; omega⟩

theorem blk0 (c : Dev nD) (t : Fin cfg0.N) (a : Fin 4) (l : Fin 128) :
    (show FVec Ideal S4x128 .f32 from iblk m c 0 t) (ix2 a l) = (show FVec Ideal S4x128 .f32 from V m c main_v8) (ix2 a l) := by
  blk_ext [iblk, idx t]

theorem blk1 (c : Dev nD) (t : Fin cfg0.N) (a : Fin 1) (l : Fin 128) :
    (show FVec Ideal S1x128 .f32 from iblk m c 1 t) (ix2 a l) = (show FVec Ideal S1x128 .f32 from V m c main_v32) (ix2 a l) := by
  blk_ext [iblk, idx t]

theorem blk2 (c : Dev nD) (t : Fin cfg0.N) (r : Fin 1024) (k : Fin 512) :
    (show FVec Ideal S1024x512 .bf16 from iblk m c 2 t) (ix2 r k) =
      (show FVec Ideal S36864x512 .bf16 from V m c main_v20) (ix2 (ownRow (rowAt t r)) k) := by
  blk_ext [iblk, idx t, ownRow, rowAt]

theorem blk3 (c : Dev nD) (t : Fin cfg0.N) (r : Fin 1024) (s : Fin 2048) (k : Fin 512) :
    (show FVec Ideal S2048x512 .bf16 from iblk m c 3 t) (ix2 s k) =
      (show FVec Ideal S36864x512 .bf16 from V m c main_v24) (ix2 (latRow (rowAt t r) s) k) := by
  blk_ext [iblk, idx t, latRow, rowAt]

theorem blk4 (c : Dev nD) (t : Fin cfg0.N) (r : Fin 1024) (s : Fin 256) (k : Fin 512) :
    (show FVec Ideal S256x512 .bf16 from iblk m c 4 t) (ix2 s k) =
      (show FVec Ideal S36864x512 .bf16 from V m c main_v24) (ix2 (ctxRow (rowAt t r) s) k) := by
  blk_ext [iblk, idx t, ctxRow, rowAt]

theorem blk5 (c : Dev nD) (t : Fin cfg0.N) (r : Fin 1024) (s : Fin 2048) (k : Fin 512) :
    (show FVec Ideal S2048x512 .bf16 from iblk m c 5 t) (ix2 s k) =
      (show FVec Ideal S36864x512 .bf16 from V m c main_v30) (ix2 (latRow (rowAt t r) s) k) := by
  blk_ext [iblk, idx t, latRow, rowAt]

theorem blk6 (c : Dev nD) (t : Fin cfg0.N) (r : Fin 1024) (s : Fin 256) (k : Fin 512) :
    (show FVec Ideal S256x512 .bf16 from iblk m c 6 t) (ix2 s k) =
      (show FVec Ideal S36864x512 .bf16 from V m c main_v30) (ix2 (ctxRow (rowAt t r) s) k) := by
  blk_ext [iblk, idx t, ctxRow, rowAt]

theorem point (c : Dev nD) (t : Fin cfg0.N) (r : Fin 1024) (h : Fin 4) (l : Fin 128) :
    out0_7 (F := Ideal) (iblk m c 0 t) (iblk m c 1 t) (iblk m c 2 t) (iblk m c 3 t) (iblk m c 4 t) (iblk m c 5 t)
        (iblk m c 6 t) (ix2 r (Entry.col h l)) =
      rowOut (V m c main_v8) (V m c main_v32) (V m c main_v20) (V m c main_v24) (V m c main_v30) (rowAt t r) h l :=
  rowOut_of _ _ _ _ _ _ _ _ _ _ _ _ (rowAt t r) r (blk0 m c t) (blk1 m c t) (blk2 m c t r) (blk3 m c t r)
    (blk4 m c t r) (blk5 m c t r) (blk6 m c t r) h l

theorem split (k : Fin 512) :
    k = Entry.col ⟨k.val / 128, by omega⟩ ⟨k.val % 128, by omega⟩ := Fin.ext (by show k.val = 128 * (k.val / 128) + k.val % 128; omega)

theorem point' (c : Dev nD) (t : Fin cfg0.N) (r : Fin 1024) (k : Fin 512) :
    out0_7 (F := Ideal) (iblk m c 0 t) (iblk m c 1 t) (iblk m c 2 t) (iblk m c 3 t) (iblk m c 4 t) (iblk m c 5 t)
        (iblk m c 6 t) (ix2 r k) =
      whole (V m c main_v8) (V m c main_v32) (V m c main_v20) (V m c main_v24) (V m c main_v30) (ix2 (rowAt t r) k) :=
  (congrArg (fun k => out0_7 (F := Ideal) (iblk m c 0 t) (iblk m c 1 t) (iblk m c 2 t) (iblk m c 3 t) (iblk m c 4 t)
    (iblk m c 5 t) (iblk m c 6 t) (ix2 r k)) (split k)).trans (point m c t r _ _)

/-- The array after the run. -/
theorem final (c : Dev nD) : (dats m 0 c).arrAt 7 (cfgs 0).N =
    whole (V m c main_v8) (V m c main_v32) (V m c main_v20) (V m c main_v24) (V m c main_v30) := by
  refine (dats m 0 c).arrAt_eq_of_covers 7 _ (by decide +kernel) fun t _ y => ?_
  blk_simp
  rw [after0_7]
  have e : ((cfg0.win 7).blk t).view.emb y = ix2 (rowAt t (y 0)) (y 1) := by
    blk_ext [idx t, rowAt]
  have ey : y = ix2 (y 0) (y 1) := by blk_ext
  rw [e]
  exact (congrArg (out0_7 (F := Ideal) (iblk m c 0 t) (iblk m c 1 t) (iblk m c 2 t) (iblk m c 3 t) (iblk m c 4 t)
    (iblk m c 5 t) (iblk m c 6 t)) ey).trans (point' m c t (y 0) (y 1))

/-- The array after the run, from the arguments. -/
theorem final_args (c : Dev nD) : (dats m 0 c).arrAt 7 (cfgs 0).N =
    whole (Entry.mixRows (m ((c : Thread nD τ).loc main_arg3)) (m ((c : Thread nD τ).loc main_arg4))
        (m ((c : Thread nD τ).loc main_arg5)) (m ((c : Thread nD τ).loc main_arg6)))
      (Entry.gainRow (m ((c : Thread nD τ).loc main_arg7))) (Entry.queries (m ((c : Thread nD τ).loc main_arg0)))
      (Entry.keys (m ((c : Thread nD τ).loc main_arg1))) (Entry.values (m ((c : Thread nD τ).loc main_arg2))) := by
  rw [final, Entry.entry_mixRows, Entry.entry_gainRow, Entry.entry_queries, Entry.entry_keys, Entry.entry_values]

end Cert.Array
-- ==== Proof.Rows.lean ====
/- One row's attention in plain terms: the products over 128 lanes, of which only one half of a head counts, as
   products over 48 lanes; the division by the sum kept in the lane of ones as a softmax; the difference of two of
   them; and the root mean square of a padded row. -/
module

public import proofs.«01_k».proof.Proof.Block
public import proofs.«01_k».proof.Proof.Softmax

@[expose] public section

set_option maxRecDepth 16384

noncomputable section

namespace Cert.Rows

open Idealize.ShloMosaic Cert.Attend Cert.Head
open scoped BigOperators

/-- A sum over 128 lanes in three runs: 48, 48 and 32. -/
theorem sum_runs (f : Fin 128 → EReal) :
    ∑ d, f d = (∑ d : Fin 48, f ⟨d.val, by omega⟩) + ((∑ d : Fin 48, f ⟨48 + d.val, by omega⟩) + ∑ d : Fin 32, f ⟨96 + d.val, by omega⟩) := by
  have h1 : ∑ d, f d = (∑ d : Fin 48, f ⟨d.val, by omega⟩) + ∑ d : Fin 80, f ⟨48 + d.val, by omega⟩ :=
    Fin.sum_univ_add (a := 48) (b := 80) f
  have h2 : (∑ d : Fin 80, f ⟨48 + d.val, by omega⟩) =
      (∑ d : Fin 48, f ⟨48 + d.val, by omega⟩) + ∑ d : Fin 32, f ⟨48 + (48 + d.val), by omega⟩ :=
    Fin.sum_univ_add (a := 48) (b := 32) fun d : Fin 80 => f ⟨48 + d.val, by omega⟩
  rw [h1, h2]
  congr 2

/-- The product with the lanes from 48 on cleared. -/
theorem dot_lo (q k : Fin 128 → EReal) (a b : Fin 96 → EReal) {c : ℝ} (hc : 0 ≤ c)
    (hq : ∀ (d : Fin 128) (hd : d.val < 96), q d = a ⟨d.val, hd⟩ * (c : EReal))
    (hk : ∀ (d : Fin 128) (hd : d.val < 96), k d = b ⟨d.val, hd⟩) :
    ∑ d : Fin 128, (if d.val < 48 then q d else 0) * k d =
      (∑ d : Fin 48, a ⟨d.val, by omega⟩ * b ⟨d.val, by omega⟩) * (c : EReal) := by
  rw [sum_runs, ← Softmax.sum_mul_coe _ _ hc]
  have h2 : (∑ d : Fin 48, (if 48 + d.val < 48 then q ⟨48 + d.val, by omega⟩ else 0) * k ⟨48 + d.val, by omega⟩) = 0 :=
    Finset.sum_eq_zero fun d _ => by rw [if_neg (by omega), zero_mul]
  have h3 : (∑ d : Fin 32, (if 96 + d.val < 48 then q ⟨96 + d.val, by omega⟩ else 0) * k ⟨96 + d.val, by omega⟩) = 0 :=
    Finset.sum_eq_zero fun d _ => by rw [if_neg (by omega), zero_mul]
  refine (congrArg₂ (· + ·) rfl (congrArg₂ (· + ·) h2 h3)).trans ?_
  rw [add_zero, add_zero]
  refine Finset.sum_congr rfl fun d _ => ?_
  have hd : d.val < 48 := d.isLt
  show (if d.val < 48 then q ⟨d.val, by omega⟩ else 0) * k ⟨d.val, by omega⟩ = _
  rw [if_pos hd, hq ⟨d.val, by omega⟩ (by show d.val < 96; omega), hk ⟨d.val, by omega⟩ (by show d.val < 96; omega),
    mul_right_comm]

/-- The product with the first 48 lanes cleared, of rows whose lanes from 96 on are zero. -/
theorem dot_hi (q k : Fin 128 → EReal) (a b : Fin 96 → EReal) {c : ℝ} (hc : 0 ≤ c)
    (hq : ∀ (d : Fin 128) (hd : d.val < 96), q d = a ⟨d.val, hd⟩ * (c : EReal))
    (hz : ∀ d : Fin 128, 96 ≤ d.val → q d = 0)
    (hk : ∀ (d : Fin 128) (hd : d.val < 96), k d = b ⟨d.val, hd⟩) :
    ∑ d : Fin 128, (if d.val < 48 then 0 else q d) * k d =
      (∑ d : Fin 48, a ⟨48 + d.val, by omega⟩ * b ⟨48 + d.val, by omega⟩) * (c : EReal) := by
  rw [sum_runs, ← Softmax.sum_mul_coe _ _ hc]
  have h1 : (∑ d : Fin 48, (if d.val < 48 then 0 else q ⟨d.val, by omega⟩) * k ⟨d.val, by omega⟩) = 0 :=
    Finset.sum_eq_zero fun d _ => by rw [if_pos d.isLt, zero_mul]
  have h3 : (∑ d : Fin 32, (if 96 + d.val < 48 then 0 else q ⟨96 + d.val, by omega⟩) * k ⟨96 + d.val, by omega⟩) = 0 :=
    Finset.sum_eq_zero fun d _ => by rw [if_neg (by omega), hz _ (by show 96 ≤ 96 + d.val; omega), zero_mul]
  refine (congrArg₂ (· + ·) h1 (congrArg₂ (· + ·) rfl h3)).trans ?_
  rw [zero_add, add_zero]
  refine Finset.sum_congr rfl fun d _ => ?_
  have hd : d.val < 48 := d.isLt
  show (if 48 + d.val < 48 then 0 else q ⟨48 + d.val, by omega⟩) * k ⟨48 + d.val, by omega⟩ = _
  rw [if_neg (by omega), hq ⟨48 + d.val, by omega⟩ (by show 48 + d.val < 96; omega),
    hk ⟨48 + d.val, by omega⟩ (by show 48 + d.val < 96; omega), mul_right_comm]

/-- The greatest of a row's scores. -/
def top (s : Fin (256 + 2048) → EReal) : EReal := (Finset.univ : Finset (Fin (256 + 2048))).fold max ⊥ s

/-- A joined row of ones is one everywhere. -/
theorem join_one (k : Fin (256 + 2048)) : Softmax.join (C := 256) (L := 2048) (fun _ => (1 : EReal)) (fun _ => 1) k = 1 := by
  unfold Softmax.join
  split <;> rfl

/-- With ones in lane 96 the attention is the weighted sum of the values over the sum of the weights. -/
theorem attention_eq (q : Fin 128 → EReal) (kc : Fin 256 → Fin 128 → EReal) (kl : Fin 2048 → Fin 128 → EReal)
    (vc : Fin 256 → Fin 128 → EReal) (vl : Fin 2048 → Fin 128 → EReal) (l : Fin 128) {s v : Fin (256 + 2048) → EReal}
    (hs : dots q kc kl = s) (hv : Softmax.join (fun t => vc t l) (fun t => vl t l) = v)
    (h1 : ∀ t, vc t 96 = 1) (h2 : ∀ t, vl t 96 = 1) :
    attention q kc kl vc vl l =
      Ideal.div (∑ k, Ideal.exp (s k - top s) * v k) (∑ k, Ideal.exp (s k - top s)) := by
  unfold attention mixed
  rw [hs, hv, funext h1, funext h2]
  refine congrArg (Ideal.div _) (Finset.sum_congr rfl fun k _ => ?_)
  rw [join_one, mul_one]
  rfl

/-- The difference of two softmaxes applied to values is the difference of the two attentions. -/
theorem difference {s₁ s₂ v : Fin (256 + 2048) → EReal} {lam : EReal} (h₁ : ∀ k, Softmax.IsReal (s₁ k))
    (h₂ : ∀ k, Softmax.IsReal (s₂ k)) (hv : ∀ k, Softmax.IsReal (v k)) (hl : Softmax.IsReal lam) :
    Ideal.div (∑ k, Ideal.exp (s₁ k - top s₁) * v k) (∑ k, Ideal.exp (s₁ k - top s₁)) -
        lam * Ideal.div (∑ k, Ideal.exp (s₂ k - top s₂) * v k) (∑ k, Ideal.exp (s₂ k - top s₂)) =
      ∑ k, (Ideal.div (Ideal.exp (s₁ k - top s₁)) (∑ k, Ideal.exp (s₁ k - top s₁)) -
        lam * Ideal.div (Ideal.exp (s₂ k - top s₂)) (∑ k, Ideal.exp (s₂ k - top s₂))) * v k := by
  have m₁ : Softmax.IsReal (top s₁) := Softmax.IsReal.fold_max (by decide) h₁
  have m₂ : Softmax.IsReal (top s₂) := Softmax.IsReal.fold_max (by decide) h₂
  obtain ⟨d₁, p₁, e₁⟩ := Softmax.expSum_pos (by decide) h₁ m₁
  obtain ⟨d₂, p₂, e₂⟩ := Softmax.expSum_pos (by decide) h₂ m₂
  rw [e₁, e₂]
  exact (Softmax.mix p₁ p₂ (fun k => ((h₁ k).sub m₁).exp) (fun k => ((h₂ k).sub m₂).exp) hv hl).symm

/-- A padded row over its root mean square is the row over its own. -/
theorem normed_eq (g d : Fin 128 → EReal) (g' d' : Fin 96 → EReal)
    (hg : ∀ (l : Fin 128) (hl : l.val < 96), g l = g' ⟨l.val, hl⟩)
    (hd : ∀ l : Fin 128, d l = if hl : l.val < 96 then d' ⟨l.val, hl⟩ else 0) (l : Fin 128) :
    normed g d l = if hl : l.val < 96 then
      d' ⟨l.val, hl⟩ * Ideal.rsqrt (Ideal.div (∑ l, d' l * d' l) (Ideal.ofBits .f32 0x42C00000#32) +
        Ideal.ofBits .f32 0x358637BD#32) * g' ⟨l.val, hl⟩ * Ideal.ofBits .f32 0x3F4CCCCD#32 else 0 := by
  have hsum : ∑ l : Fin 128, d l * d l = ∑ l : Fin 96, d' l * d' l := by
    refine (Softmax.sum_pad (n := 96) (p := 32) (fun l => d l * d l) fun k => ?_).trans ?_
    · show d _ * d _ = 0
      rw [hd, dif_neg (by simp), zero_mul]
    · refine Finset.sum_congr rfl fun k _ => ?_
      show d _ * d _ = _
      rw [hd, dif_pos (show (Fin.castAdd 32 k).val < 96 from k.isLt)]
      rfl
  unfold normed
  rw [hsum, Softmax.ninetySix, Ideal.div_coe (by norm_num : (96 : ℝ) ≠ 0), hd]
  by_cases hl : l.val < 96
  · rw [dif_pos hl, dif_pos hl, hg l hl]
  · rw [dif_neg hl, dif_neg hl, zero_mul, zero_mul, zero_mul]

end Cert.Rows
-- ==== Proof.RefReads.lean ====
/- The reference's differential attention, read at one batch, head, position and lane: its queries, keys and values from
   the arguments, and its scores. -/
module

public import proofs.«01_k».proof.Proof.Entry
public import proofs.«01_k».proof.Proof.Gen.DaLatRefIdeal.Read

@[expose] public section

set_option maxRecDepth 16384

noncomputable section

namespace Cert.RefReads

open Cert.DaLatRefIdeal Cert.DaLatRefIdeal.Gen Cert.DaLatRefIdeal.Read Idealize.ShloMosaic Cert.Entry
open scoped BigOperators

/-- Position `s` of sequence `b`, as a row. -/
def lat (b : Fin 16) (s : Fin 2048) : Fin 36864 := ⟨2048 * b.val + s.val, by omega⟩

/-- Context position `s` of sequence `b`, as a row. -/
def ctx (b : Fin 16) (s : Fin 256) : Fin 36864 := ⟨32768 + 256 * b.val + s.val, by omega⟩

/-- Lane `d` of the first half of a head. -/
def lo (d : Fin 48) : Fin 96 := ⟨d.val, by omega⟩

/-- Lane `d` of the second half of a head. -/
def hi (d : Fin 48) : Fin 96 := ⟨48 + d.val, by omega⟩

theorem at2 {a b : ℕ} (x : FVec Ideal ⟨2, ![a, b]⟩ .f32) {i i' : Fin a} {j j' : Fin b} (hi : i.val = i'.val) (hj : j.val = j'.val) :
    x (ix2 i j) = x (ix2 i' j') := by
  rw [Fin.ext hi, Fin.ext hj]

theorem at_join {C L : ℕ} {α : Type} {c c' : Fin C → α} {l l' : Fin L → α} {t : Fin (C + L)} (hc : ∀ k, c k = c' k)
    (hl : ∀ k, l k = l' k) :
    (if h : t.val < C then c ⟨t.val, h⟩ else l ⟨t.val - C, by omega⟩) = Softmax.join c' l' t := by
  rw [← funext hc, ← funext hl]; rfl

theorem q_lo (x : FVec Ideal S36864x384 .f32) (b : Fin 16) (h : Fin 4) (s : Fin 2048) (d : Fin 48) :
    val_main_v26 (F := Ideal) x (ix4 b h s d) = x (ix2 (lat b s) (col96 h (lo d))) := by
  pointwise [val_main_v26, val_main_v25, val_main_v2, val_main_v1, val_main_v0]
  exact at2 x (by show b.val * 2048 + s.val = 2048 * b.val + s.val; omega) (by show h.val * 96 + d.val = 96 * h.val + d.val; omega)

theorem q_hi (x : FVec Ideal S36864x384 .f32) (b : Fin 16) (h : Fin 4) (s : Fin 2048) (d : Fin 48) :
    val_main_v44 (F := Ideal) x (ix4 b h s d) = x (ix2 (lat b s) (col96 h (hi d))) := by
  pointwise [val_main_v44, val_main_v43, val_main_v2, val_main_v1, val_main_v0]
  exact at2 x (by show b.val * 2048 + s.val = 2048 * b.val + s.val; omega)
    (by show h.val * 96 + 48 + d.val = 96 * h.val + (48 + d.val); omega)

theorem k_lo (x : FVec Ideal S36864x384 .f32) (b : Fin 16) (h : Fin 4) (t : Fin 2304) (d : Fin 48) :
    val_main_v28 (F := Ideal) x (ix4 b h t d) =
      Softmax.join (C := 256) (L := 2048) (fun t => x (ix2 (ctx b t) (col96 h (lo d)))) (fun t => x (ix2 (lat b t) (col96 h (lo d)))) t := by
  pointwise [val_main_v28, val_main_v27, val_main_v9, val_main_v8, val_main_v7, val_main_v6, val_main_v5, val_main_v4, val_main_v3]
  exact at_join
    (c := fun t : Fin 256 => x (ix2 ⟨32768 + (b.val * 256 + t.val), by omega⟩ ⟨h.val * 96 + d.val, by omega⟩))
    (l := fun t : Fin 2048 => x (ix2 ⟨b.val * 2048 + t.val, by omega⟩ ⟨h.val * 96 + d.val, by omega⟩)) (t := t)
    (fun k => at2 x (by show 32768 + (b.val * 256 + k.val) = 32768 + 256 * b.val + k.val; omega) (by show h.val * 96 + d.val = 96 * h.val + d.val; omega))
    (fun k => at2 x (by show b.val * 2048 + k.val = 2048 * b.val + k.val; omega) (by show h.val * 96 + d.val = 96 * h.val + d.val; omega))

theorem k_hi (x : FVec Ideal S36864x384 .f32) (b : Fin 16) (h : Fin 4) (t : Fin 2304) (d : Fin 48) :
    val_main_v46 (F := Ideal) x (ix4 b h t d) =
      Softmax.join (C := 256) (L := 2048) (fun t => x (ix2 (ctx b t) (col96 h (hi d)))) (fun t => x (ix2 (lat b t) (col96 h (hi d)))) t := by
  pointwise [val_main_v46, val_main_v45, val_main_v9, val_main_v8, val_main_v7, val_main_v6, val_main_v5, val_main_v4, val_main_v3]
  exact at_join
    (c := fun t : Fin 256 => x (ix2 ⟨32768 + (b.val * 256 + t.val), by omega⟩ ⟨h.val * 96 + 48 + d.val, by omega⟩))
    (l := fun t : Fin 2048 => x (ix2 ⟨b.val * 2048 + t.val, by omega⟩ ⟨h.val * 96 + 48 + d.val, by omega⟩)) (t := t)
    (fun k => at2 x (by show 32768 + (b.val * 256 + k.val) = 32768 + 256 * b.val + k.val; omega) (by show h.val * 96 + 48 + d.val = 96 * h.val + (48 + d.val); omega))
    (fun k => at2 x (by show b.val * 2048 + k.val = 2048 * b.val + k.val; omega) (by show h.val * 96 + 48 + d.val = 96 * h.val + (48 + d.val); omega))

theorem v_all (x : FVec Ideal S36864x384 .f32) (b : Fin 16) (h : Fin 4) (t : Fin 2304) (l : Fin 96) :
    val_main_v16 (F := Ideal) x (ix4 b h t l) =
      Softmax.join (C := 256) (L := 2048) (fun t => x (ix2 (ctx b t) (col96 h l))) (fun t => x (ix2 (lat b t) (col96 h l))) t := by
  pointwise [val_main_v16, val_main_v15, val_main_v14, val_main_v13, val_main_v12, val_main_v11, val_main_v10]
  exact at_join
    (c := fun t : Fin 256 => x (ix2 ⟨32768 + (b.val * 256 + t.val), by omega⟩ ⟨h.val * 96 + l.val, by omega⟩))
    (l := fun t : Fin 2048 => x (ix2 ⟨b.val * 2048 + t.val, by omega⟩ ⟨h.val * 96 + l.val, by omega⟩)) (t := t)
    (fun k => at2 x (by show 32768 + (b.val * 256 + k.val) = 32768 + 256 * b.val + k.val; omega) (by show h.val * 96 + l.val = 96 * h.val + l.val; omega))
    (fun k => at2 x (by show b.val * 2048 + k.val = 2048 * b.val + k.val; omega) (by show h.val * 96 + l.val = 96 * h.val + l.val; omega))

theorem s_lo (x0 x1 : FVec Ideal S36864x384 .f32) (b : Fin 16) (h : Fin 4) (s : Fin 2048) (t : Fin 2304) :
    val_main_v31 (F := Ideal) x0 x1 (ix4 b h s t) =
      (∑ d : Fin 48, val_main_v26 (F := Ideal) x0 (ix4 b h s d) * val_main_v28 (F := Ideal) x1 (ix4 b h t d)) *
        Ideal.ofBits .f32 0x3E13CD3A#32 := by
  pointwise [val_main_v31, val_main_v29, val_main_v30, val_main_cst_2]

theorem s_hi (x0 x1 : FVec Ideal S36864x384 .f32) (b : Fin 16) (h : Fin 4) (s : Fin 2048) (t : Fin 2304) :
    val_main_v49 (F := Ideal) x0 x1 (ix4 b h s t) =
      (∑ d : Fin 48, val_main_v44 (F := Ideal) x0 (ix4 b h s d) * val_main_v46 (F := Ideal) x1 (ix4 b h t d)) *
        Ideal.ofBits .f32 0x3E13CD3A#32 := by
  pointwise [val_main_v49, val_main_v47, val_main_v48, val_main_cst_6]

end Cert.RefReads
-- ==== Proof.RefSoftmax.lean ====
/- The reference's differential attention after its scores, read at one batch, head, position and lane: the weights, their
   difference, the values under it, the normalised rows, and the result's layout. -/
module

public import proofs.«01_k».proof.Proof.RefReads

@[expose] public section

set_option maxRecDepth 16384

noncomputable section

namespace Cert.RefReads

open Cert.DaLatRefIdeal Cert.DaLatRefIdeal.Gen Cert.DaLatRefIdeal.Read Idealize.ShloMosaic Cert.Entry
open scoped BigOperators

variable (x0 x1 x2 : FVec Ideal S36864x384 .f32) (x3 x4 x5 x6 : FVec Ideal S48 .f32) (x7 : FVec Ideal S96 .f32)
variable (b : Fin 16) (h : Fin 4) (s : Fin 2048)

/-- A fold by an operation equal to the maximum is the fold by the maximum. -/
theorem fold_of_eq {n : Nat} (f : EReal → EReal → EReal) [Std.Commutative f] [Std.Associative f] (hf : f = max) (c : EReal)
    (g : Fin n → EReal) : (Finset.univ : Finset (Fin n)).fold f c g = (Finset.univ : Finset (Fin n)).fold max c g := by
  subst hf
  rfl

/-- The host's maximum along the positions is the fold of the maximum over them, from its initial value. -/
theorem reduce_max (v : FVec Ideal S16x4x2048x2304 .f32) (c : FVec Ideal S_ .f32) :
    Host.reduce (FloatOps.maximumf (F := Ideal) (φ := .f32)) v c reducesTo_S16x4x2048x2304_S16x4x2048_d3 h_S_ (ix3 b h s) =
      (Finset.univ : Finset (Fin 2304)).fold max (c (Shape.Idx.first h_S_)) fun t => v (ix4 b h s t) := by
  rw [Host.reduce_eq_fold (FloatOps.maximumf (F := Ideal) (φ := .f32)), Shape.ReducesTo.fold_fiber_r4_a3]
  exact fold_of_eq (FloatOps.maximumf (F := Ideal) (φ := .f32)) rfl _ _

/-- The greatest score of a row, in the first half of the lanes. -/
theorem max_lo :
    val_main_v34 (F := Ideal) x0 x1 (ix3 b h s) =
      max (Ideal.ofBits .f32 0xFF800000#32) ((Finset.univ : Finset (Fin 2304)).fold max (Ideal.ofBits .f32 0xFF800000#32)
        fun t => val_main_v31 (F := Ideal) x0 x1 (ix4 b h s t)) := by
  rw [val_main_v34_apply, val_main_v32, reduce_max]
  rfl

/-- Each weight before division: the exponential of a score less the greatest. -/
theorem exp_lo (t : Fin 2304) :
    val_main_v38 (F := Ideal) x0 x1 (ix4 b h s t) =
      Ideal.exp (val_main_v31 (F := Ideal) x0 x1 (ix4 b h s t) - val_main_v34 (F := Ideal) x0 x1 (ix3 b h s)) := by
  pointwise [val_main_v38, val_main_v37, val_main_v36, val_main_v35]

/-- The sum of a row's exponentials. -/
theorem sum_lo :
    val_main_v39 (F := Ideal) x0 x1 (ix3 b h s) = ∑ t : Fin 2304, val_main_v38 (F := Ideal) x0 x1 (ix4 b h s t) := by
  pointwise [val_main_v39, val_main_cst_5]

/-- Each weight: an exponential over their sum. -/
theorem weight_lo (t : Fin 2304) :
    val_main_v42 (F := Ideal) x0 x1 (ix4 b h s t) =
      Ideal.div (val_main_v38 (F := Ideal) x0 x1 (ix4 b h s t)) (val_main_v39 (F := Ideal) x0 x1 (ix3 b h s)) := by
  pointwise [val_main_v42, val_main_v41, val_main_v40]

/-- The greatest score of a row, in the second half of the lanes. -/
theorem max_hi :
    val_main_v52 (F := Ideal) x0 x1 (ix3 b h s) =
      max (Ideal.ofBits .f32 0xFF800000#32) ((Finset.univ : Finset (Fin 2304)).fold max (Ideal.ofBits .f32 0xFF800000#32)
        fun t => val_main_v49 (F := Ideal) x0 x1 (ix4 b h s t)) := by
  rw [val_main_v52_apply, val_main_v50, reduce_max]
  rfl

/-- The exponentials of the second half. -/
theorem exp_hi (t : Fin 2304) :
    val_main_v56 (F := Ideal) x0 x1 (ix4 b h s t) =
      Ideal.exp (val_main_v49 (F := Ideal) x0 x1 (ix4 b h s t) - val_main_v52 (F := Ideal) x0 x1 (ix3 b h s)) := by
  pointwise [val_main_v56, val_main_v55, val_main_v54, val_main_v53]

/-- Their sum. -/
theorem sum_hi :
    val_main_v57 (F := Ideal) x0 x1 (ix3 b h s) = ∑ t : Fin 2304, val_main_v56 (F := Ideal) x0 x1 (ix4 b h s t) := by
  pointwise [val_main_v57, val_main_cst_9]

/-- The second half's weights. -/
theorem weight_hi (t : Fin 2304) :
    val_main_v60 (F := Ideal) x0 x1 (ix4 b h s t) =
      Ideal.div (val_main_v56 (F := Ideal) x0 x1 (ix4 b h s t)) (val_main_v57 (F := Ideal) x0 x1 (ix3 b h s)) := by
  pointwise [val_main_v60, val_main_v59, val_main_v58]

/-- The factor on the second map, from the four vectors. -/
theorem lam_apply (i : S_.Idx) :
    val_main_v24 (F := Ideal) x3 x4 x5 x6 i =
      Ideal.exp (∑ d : Fin 48, x3 (ix1 d) * x4 (ix1 d)) - Ideal.exp (∑ d : Fin 48, x5 (ix1 d) * x6 (ix1 d)) +
        Ideal.ofBits .f32 0x3E4CCCCD#32 := by
  pointwise [val_main_v24, val_main_v23, val_main_v22, val_main_v21, val_main_v20, val_main_v19, val_main_v18, val_main_v17,
    val_main_cst, val_main_cst_0, val_main_cst_1]

/-- The difference of the two maps. -/
theorem diff_apply (t : Fin 2304) :
    val_main_v63 (F := Ideal) x0 x1 x3 x4 x5 x6 (ix4 b h s t) =
      val_main_v42 (F := Ideal) x0 x1 (ix4 b h s t) -
        val_main_v24 (F := Ideal) x3 x4 x5 x6 ix0 * val_main_v60 (F := Ideal) x0 x1 (ix4 b h s t) := by
  pointwise [val_main_v63, val_main_v62, val_main_v61]

/-- The values under the difference. -/
theorem out_apply (l : Fin 96) :
    val_main_v64 (F := Ideal) x0 x1 x2 x3 x4 x5 x6 (ix4 b h s l) =
      ∑ t : Fin 2304, val_main_v63 (F := Ideal) x0 x1 x3 x4 x5 x6 (ix4 b h s t) * val_main_v16 (F := Ideal) x2 (ix4 b h t l) := by
  pointwise [val_main_v64]

/-- A head's row divided by its root mean square, with the gain and the last factor. -/
theorem norm_apply (l : Fin 96) :
    val_main_v79 (F := Ideal) x0 x1 x2 x3 x4 x5 x6 x7 (ix4 b h s l) =
      val_main_v64 (F := Ideal) x0 x1 x2 x3 x4 x5 x6 (ix4 b h s l) *
        Ideal.rsqrt (Ideal.div (∑ l : Fin 96, val_main_v64 (F := Ideal) x0 x1 x2 x3 x4 x5 x6 (ix4 b h s l) *
          val_main_v64 (F := Ideal) x0 x1 x2 x3 x4 x5 x6 (ix4 b h s l)) (Ideal.ofBits .f32 0x42C00000#32) +
            Ideal.ofBits .f32 0x358637BD#32) * x7 (ix1 l) * Ideal.ofBits .f32 0x3F4CCCCD#32 := by
  pointwise [val_main_v79, val_main_v78, val_main_v77, val_main_v76, val_main_v75, val_main_v74, val_main_v73, val_main_v72,
    val_main_v71, val_main_v70, val_main_v69, val_main_v68, val_main_v67, val_main_v66, val_main_v65, val_main_cst_10,
    val_main_cst_11, val_main_cst_12, val_main_cst_13]

/-- Two cases by equivalent conditions agree if their branches do. -/
theorem dite_iff {α : Type} {p q : Prop} [Decidable p] [Decidable q] (e : p ↔ q) {x : p → α} {y : q → α} {z z' : α}
    (hxy : ∀ hp hq, x hp = y hq) (hz : z = z') : (if h : p then x h else z) = if h : q then y h else z' := by
  by_cases hp : p
  · have hq := e.mp hp
    rw [dif_pos hp, dif_pos hq, hxy]
  · have hq : ¬ q := fun g => hp (e.mpr g)
    rw [dif_neg hp, dif_neg hq, hz]

/-- The result at a row and a column: the normalised head in its first 96 lanes, zero in the rest. -/
theorem result_apply (R : Fin 32768) (k : Fin 512) :
    val_main_v83 (F := Ideal) x0 x1 x2 x3 x4 x5 x6 x7 (ix2 R k) =
      if hl : k.val % 128 < 96 then
        val_main_v79 (F := Ideal) x0 x1 x2 x3 x4 x5 x6 x7
          (ix4 ⟨R.val / 2048, by omega⟩ ⟨k.val / 128, by omega⟩ ⟨R.val % 2048, by omega⟩ ⟨k.val % 128, hl⟩)
      else 0 := by
  pointwise [val_main_v83, val_main_v82, val_main_v81, val_main_v80]
  have h0 : val_main_call0_v0 (F := Ideal) (Shape.Idx.first h_S_) = 0 := by
    change (((0#32 : BitVec 32).toInt : ℝ) : EReal) = 0
    simp
  have e : (R.val / 2048 < 16 ∧ R.val % 2048 < 2048 ∧ k.val / 128 < 4 ∧ k.val % 128 < 96) ↔ k.val % 128 < 96 :=
    ⟨fun g => g.2.2.2, fun g => ⟨by omega, by omega, by omega, g⟩⟩
  exact dite_iff e (fun _ _ => rfl) h0

end Cert.RefReads
-- ==== Proof.Finite.lean ====
/- What the preconditions say of the arguments: every entry they name is an ordinary real number. -/
module

public import proofs.«01_k».proof.Proof.Gen.Pre_finite
public import proofs.«01_k».proof.Proof.Softmax
public import Idealize.ShloMosaic.Lib.Pointwise

@[expose] public section

set_option maxRecDepth 16384

noncomputable section

namespace Cert.Finite

open Idealize.ShloMosaic Cert.Pre_finite
open scoped BigOperators

/-- Whether an entry's absolute value lies below infinity, as a bit. -/
def bit (x : EReal) : BitVec 1 := BitVec.ofBool (decide (max x (-x) < Ideal.ofBits .f32 0x7F800000#32))

theorem real_of_bit {x : EReal} (h : bit x = 1#1) : Softmax.IsReal x := by
  apply Softmax.IsReal.of_abs_lt
  rw [← Softmax.posInf]
  by_contra hn
  revert h
  simp [bit, hn]

theorem fn_apply (x0 x1 x2 : FVec Ideal S36864x384 .f32) (x3 x4 x5 x6 : FVec Ideal S48 .f32) (x7 : FVec Ideal S96 .f32)
    (r : Fin 36864) (a : Fin 8) (d : Fin 48) :
    Cert.Pre_finite.fn (F := Ideal) x0 x1 x2 x3 x4 x5 x6 x7 (ix3 r a d) =
      ((((((bit (x0 (ix2 r ⟨a.val * 48 + d.val, by omega⟩)) &&& bit (x1 (ix2 r ⟨a.val * 48 + d.val, by omega⟩))) &&&
        bit (x2 (ix2 r ⟨a.val * 48 + d.val, by omega⟩))) &&& bit (x3 (ix1 d))) &&& bit (x4 (ix1 d))) &&& bit (x5 (ix1 d))) &&&
        bit (x6 (ix1 d))) := by
  pointwise [Cert.Pre_finite.fn, fn_part1]
  rfl

theorem and_bits {a b : BitVec 1} (h : a &&& b = 1#1) : a = 1#1 ∧ b = 1#1 := by
  revert a b
  decide

/-- Every entry of the queries, the keys, the values and the four vectors is an ordinary real number. -/
theorem reals (x0 x1 x2 : FVec Ideal S36864x384 .f32) (x3 x4 x5 x6 : FVec Ideal S48 .f32) (x7 : FVec Ideal S96 .f32)
    (h : Cert.Pre_finite.fn (F := Ideal) x0 x1 x2 x3 x4 x5 x6 x7 = fun _ => 1#1) :
    (∀ r k, Softmax.IsReal (x0 (ix2 r k))) ∧ (∀ r k, Softmax.IsReal (x1 (ix2 r k))) ∧ (∀ r k, Softmax.IsReal (x2 (ix2 r k))) ∧
      (∀ d, Softmax.IsReal (x3 (ix1 d))) ∧ (∀ d, Softmax.IsReal (x4 (ix1 d))) ∧ (∀ d, Softmax.IsReal (x5 (ix1 d))) ∧
      (∀ d, Softmax.IsReal (x6 (ix1 d))) := by
  have at3 : ∀ (r : Fin 36864) (a : Fin 8) (d : Fin 48), _ := fun r a d =>
    (fn_apply x0 x1 x2 x3 x4 x5 x6 x7 r a d).symm.trans (congrFun h (ix3 r a d))
  have split : ∀ k : Fin 384, ∃ (a : Fin 8) (d : Fin 48), k = ⟨a.val * 48 + d.val, by omega⟩ := fun k =>
    ⟨⟨k.val / 48, by omega⟩, ⟨k.val % 48, by omega⟩, Fin.ext (by show k.val = k.val / 48 * 48 + k.val % 48; omega)⟩
  refine ⟨fun r k => ?_, fun r k => ?_, fun r k => ?_, fun d => ?_, fun d => ?_, fun d => ?_, fun d => ?_⟩
  · obtain ⟨a, d, rfl⟩ := split k
    exact real_of_bit (and_bits (and_bits (and_bits (and_bits (and_bits (and_bits (at3 r a d)).1).1).1).1).1).1
  · obtain ⟨a, d, rfl⟩ := split k
    exact real_of_bit (and_bits (and_bits (and_bits (and_bits (and_bits (and_bits (at3 r a d)).1).1).1).1).1).2
  · obtain ⟨a, d, rfl⟩ := split k
    exact real_of_bit (and_bits (and_bits (and_bits (and_bits (and_bits (at3 r a d)).1).1).1).1).2
  · exact real_of_bit (and_bits (and_bits (and_bits (and_bits (at3 0 0 d)).1).1).1).2
  · exact real_of_bit (and_bits (and_bits (and_bits (at3 0 0 d)).1).1).2
  · exact real_of_bit (and_bits (and_bits (at3 0 0 d)).1).2
  · exact real_of_bit (and_bits (at3 0 0 d)).2

end Cert.Finite
-- ==== Proof.Equation.lean ====
/- The equation of the differential attention: at every row and column, what the blocks leave is what the reference
   computes, for queries, keys, values and vectors of ordinary real numbers. -/
module

public import proofs.«01_k».proof.Proof.Array
public import proofs.«01_k».proof.Proof.Rows
public import proofs.«01_k».proof.Proof.RefSoftmax
public import proofs.«01_k».proof.Proof.Finite

@[expose] public section

set_option maxRecDepth 16384

noncomputable section

namespace Cert.Equation

open Cert.DaLatRefIdeal Cert.DaLatRefIdeal.Read Idealize.ShloMosaic Cert.Attend Cert.Head Cert.Array Cert.RefReads Cert.Rows
open Cert.Entry (queries keys values slots mixRows gainRow col col96)
open Cert.Softmax (IsReal)
open scoped BigOperators

/-- The sequence of a row. -/
abbrev seq (R : Fin 32768) : Fin 16 := ⟨R.val / 2048, by omega⟩

/-- The position of a row in its sequence. -/
abbrev pos (R : Fin 32768) : Fin 2048 := ⟨R.val % 2048, by omega⟩

variable (x0 x1 x2 : FVec Ideal S36864x384 .f32) (x3 x4 x5 x6 : FVec Ideal S48 .f32) (x7 : FVec Ideal S96 .f32)
variable (R : Fin 32768) (h : Fin 4)

theorem own_eq : ownRow R = lat (seq R) (pos R) := Fin.ext (by show R.val = 2048 * (R.val / 2048) + R.val % 2048; omega)

theorem ctx_eq (t : Fin 256) : ctxRow R t = ctx (seq R) t := rfl

theorem lat_eq (t : Fin 2048) : latRow R t = lat (seq R) t := rfl

theorem query_low (r : Fin 36864) (c : ℝ) (hc : Ideal.ofBits .f32 0x3E13CD3A#32 = (c : EReal)) (d : Fin 128) (hd : d.val < 96) :
    queries x0 (ix2 r (col h d)) = x0 (ix2 r (col96 h ⟨d.val, hd⟩)) * (c : EReal) := by
  rw [Entry.queries_apply, Entry.slots_apply, dif_pos hd, hc]

theorem query_high (r : Fin 36864) (d : Fin 128) (hd : 96 ≤ d.val) : queries x0 (ix2 r (col h d)) = 0 := by
  rw [Entry.queries_apply, Entry.slots_apply, dif_neg (by omega), zero_mul]

theorem key_low (r : Fin 36864) (d : Fin 128) (hd : d.val < 96) :
    keys x1 (ix2 r (col h d)) = x1 (ix2 r (col96 h ⟨d.val, hd⟩)) := by
  rw [Entry.keys_apply, Entry.slots_apply, dif_pos hd]

theorem value_low (r : Fin 36864) (d : Fin 128) (hd : d.val < 96) :
    values x2 (ix2 r (col h d)) = x2 (ix2 r (col96 h ⟨d.val, hd⟩)) := by
  rw [Entry.values_apply, Entry.slots_apply, dif_pos hd, if_neg (by omega), add_zero]

theorem value_one (r : Fin 36864) : values x2 (ix2 r (col h 96)) = 1 := by
  rw [Entry.values_apply, Entry.slots_apply, dif_neg (by decide), if_pos (by decide), zero_add]

/-- A joined row, entry by entry. -/
theorem join_congr {α : Type} {C L : ℕ} {c c' : Fin C → α} {l l' : Fin L → α} (hc : ∀ t, c t = c' t) (hl : ∀ t, l t = l' t) :
    Softmax.join c l = Softmax.join c' l' := by
  rw [funext hc, funext hl]

/-- A function applied along a joined row. -/
theorem join_map {α β : Type} {C L : ℕ} (f : α → β) (c : Fin C → α) (l : Fin L → α) (k : Fin (C + L)) :
    Softmax.join (fun t => f (c t)) (fun t => f (l t)) k = f (Softmax.join c l k) := by
  unfold Softmax.join
  split <;> rfl

/-- The first half's scores are the reference's. -/
theorem scores_lo :
    dots (fun d => if d.val < 48 then queries x0 (ix2 (ownRow R) (col h d)) else 0)
        (fun t d => keys x1 (ix2 (ctxRow R t) (col h d))) (fun t d => keys x1 (ix2 (latRow R t) (col h d))) =
      fun t => val_main_v31 (F := Ideal) x0 x1 (ix4 (seq R) h (pos R) t) := by
  obtain ⟨c, hc, e⟩ := Softmax.scale48
  funext t
  rw [s_lo, e]
  simp only [q_lo, k_lo]
  unfold dots
  rw [join_congr (fun t => dot_lo _ _ (fun k => x0 (ix2 (ownRow R) (col96 h k)))
      (fun k => x1 (ix2 (ctxRow R t) (col96 h k))) hc (query_low x0 h (ownRow R) c e) (key_low x1 h (ctxRow R t)))
    (fun t => dot_lo _ _ (fun k => x0 (ix2 (ownRow R) (col96 h k)))
      (fun k => x1 (ix2 (latRow R t) (col96 h k))) hc (query_low x0 h (ownRow R) c e) (key_low x1 h (latRow R t)))]
  rw [own_eq]
  refine (join_map (fun k : Fin 48 → EReal => (∑ d : Fin 48, x0 (ix2 (lat (seq R) (pos R)) (col96 h (lo d))) * k d) * (c : EReal))
    (fun t d => x1 (ix2 (ctx (seq R) t) (col96 h (lo d)))) (fun t d => x1 (ix2 (lat (seq R) t) (col96 h (lo d)))) t).trans ?_
  refine congrArg (· * (c : EReal)) (Finset.sum_congr rfl fun d _ => ?_)
  exact congrArg (x0 (ix2 (lat (seq R) (pos R)) (col96 h (lo d))) * ·)
    (join_map (fun k : Fin 48 → EReal => k d) (fun t d => x1 (ix2 (ctx (seq R) t) (col96 h (lo d))))
      (fun t d => x1 (ix2 (lat (seq R) t) (col96 h (lo d)))) t).symm

/-- The second half's scores are the reference's. -/
theorem scores_hi :
    dots (fun d => if d.val < 48 then 0 else queries x0 (ix2 (ownRow R) (col h d)))
        (fun t d => keys x1 (ix2 (ctxRow R t) (col h d))) (fun t d => keys x1 (ix2 (latRow R t) (col h d))) =
      fun t => val_main_v49 (F := Ideal) x0 x1 (ix4 (seq R) h (pos R) t) := by
  obtain ⟨c, hc, e⟩ := Softmax.scale48
  funext t
  rw [s_hi, e]
  simp only [q_hi, k_hi]
  unfold dots
  rw [join_congr (fun t => dot_hi _ _ (fun k => x0 (ix2 (ownRow R) (col96 h k)))
      (fun k => x1 (ix2 (ctxRow R t) (col96 h k))) hc (query_low x0 h (ownRow R) c e) (query_high x0 h (ownRow R)) (key_low x1 h (ctxRow R t)))
    (fun t => dot_hi _ _ (fun k => x0 (ix2 (ownRow R) (col96 h k)))
      (fun k => x1 (ix2 (latRow R t) (col96 h k))) hc (query_low x0 h (ownRow R) c e) (query_high x0 h (ownRow R)) (key_low x1 h (latRow R t)))]
  rw [own_eq]
  refine (join_map (fun k : Fin 48 → EReal => (∑ d : Fin 48, x0 (ix2 (lat (seq R) (pos R)) (col96 h (hi d))) * k d) * (c : EReal))
    (fun t d => x1 (ix2 (ctx (seq R) t) (col96 h (hi d)))) (fun t d => x1 (ix2 (lat (seq R) t) (col96 h (hi d)))) t).trans ?_
  refine congrArg (· * (c : EReal)) (Finset.sum_congr rfl fun d _ => ?_)
  exact congrArg (x0 (ix2 (lat (seq R) (pos R)) (col96 h (hi d))) * ·)
    (join_map (fun k : Fin 48 → EReal => k d) (fun t d => x1 (ix2 (ctx (seq R) t) (col96 h (hi d))))
      (fun t d => x1 (ix2 (lat (seq R) t) (col96 h (hi d)))) t).symm

/-- The values a row mixes are the reference's. -/
theorem values_eq (l : Fin 128) (hl : l.val < 96) :
    Softmax.join (fun t => values x2 (ix2 (ctxRow R t) (col h l))) (fun t => values x2 (ix2 (latRow R t) (col h l))) =
      fun t => val_main_v16 (F := Ideal) x2 (ix4 (seq R) h t ⟨l.val, hl⟩) := by
  funext t
  rw [v_all, join_congr (fun t => value_low x2 h (ctxRow R t) l hl) (fun t => value_low x2 h (latRow R t) l hl)]
  rfl

/-- A joined row of real numbers is one of real numbers. -/
theorem join_real {C L : ℕ} {c : Fin C → EReal} {l : Fin L → EReal} (hc : ∀ t, IsReal (c t)) (hl : ∀ t, IsReal (l t))
    (k : Fin (C + L)) : IsReal (Softmax.join c l k) := by
  unfold Softmax.join
  split
  · exact hc _
  · exact hl _

/-- The factor on the second map. -/
theorem factor :
    Cert.DaLatIdeal.Gen.k0_pay5 (F := Ideal) (mixRows x3 x4 x5 x6) (ix2 (0 : Fin 1) (0 : Fin 1)) =
      val_main_v24 (F := Ideal) x3 x4 x5 x6 ix0 := by
  have pad : ∀ a b : FVec Ideal S48 .f32, ∑ l : Fin 128, Entry.padded a (ix2 (0 : Fin 1) l) * Entry.padded b (ix2 (0 : Fin 1) l) =
      ∑ d : Fin 48, a (ix1 d) * b (ix1 d) := fun a b => by
    refine (Softmax.sum_pad (n := 48) (p := 80) (fun l => Entry.padded a (ix2 (0 : Fin 1) l) * Entry.padded b (ix2 (0 : Fin 1) l))
      fun k => ?_).trans ?_
    · show Entry.padded a _ * _ = 0
      rw [Entry.padded_apply, dif_neg (by simp), zero_mul]
    · refine Finset.sum_congr rfl fun k _ => ?_
      show Entry.padded a _ * Entry.padded b _ = _
      have hk : (Fin.castAdd 80 k).val < 48 := k.isLt
      rw [Entry.padded_apply, Entry.padded_apply, dif_pos hk, dif_pos hk]
      rfl
  rw [Head.lam_apply, RefReads.lam_apply]
  have e := fun l => Entry.mixRows_apply x3 x4 x5 x6 l
  simp only [(e _).1, (e _).2.1, (e _).2.2.1, (e _).2.2.2, pad]

/-- Where the arguments are real numbers the difference of a row's two attentions is the reference's. -/
theorem contrast_eq (h0 : ∀ r k, IsReal (x0 (ix2 r k))) (h1 : ∀ r k, IsReal (x1 (ix2 r k))) (h2 : ∀ r k, IsReal (x2 (ix2 r k)))
    (hl : IsReal (val_main_v24 (F := Ideal) x3 x4 x5 x6 ix0)) (l : Fin 128) :
    contrast (val_main_v24 (F := Ideal) x3 x4 x5 x6 ix0) (fun d => queries x0 (ix2 (ownRow R) (col h d)))
        (fun t d => keys x1 (ix2 (ctxRow R t) (col h d))) (fun t d => keys x1 (ix2 (latRow R t) (col h d)))
        (fun t d => values x2 (ix2 (ctxRow R t) (col h d))) (fun t d => values x2 (ix2 (latRow R t) (col h d))) l =
      if hl : l.val < 96 then val_main_v64 (F := Ideal) x0 x1 x2 x3 x4 x5 x6 (ix4 (seq R) h (pos R) ⟨l.val, hl⟩) else 0 := by
  unfold contrast
  by_cases hl' : l.val < 96
  swap
  · rw [if_neg hl', dif_neg hl']
  rw [if_pos hl', dif_pos hl']
  rw [attention_eq _ _ _ _ _ l (scores_lo x0 x1 R h) (values_eq x2 R h l hl') (fun t => value_one x2 h _) (fun t => value_one x2 h _),
    attention_eq _ _ _ _ _ l (scores_hi x0 x1 R h) (values_eq x2 R h l hl') (fun t => value_one x2 h _) (fun t => value_one x2 h _)]
  have rc : IsReal (Ideal.ofBits .f32 0x3E13CD3A#32) := by
    obtain ⟨c, _, e⟩ := Softmax.scale48
    exact ⟨c, e⟩
  have r1 : ∀ t, IsReal (val_main_v31 (F := Ideal) x0 x1 (ix4 (seq R) h (pos R) t)) := fun t => by
    rw [s_lo]
    refine (IsReal.sum _ fun d => ?_).mul rc
    rw [q_lo, k_lo]
    exact (h0 _ _).mul (join_real (C := 256) (L := 2048) (fun u => h1 (ctx (seq R) u) (col96 h (lo d))) (fun u => h1 (lat (seq R) u) (col96 h (lo d))) t)
  have r2 : ∀ t, IsReal (val_main_v49 (F := Ideal) x0 x1 (ix4 (seq R) h (pos R) t)) := fun t => by
    rw [s_hi]
    refine (IsReal.sum _ fun d => ?_).mul rc
    rw [q_hi, k_hi]
    exact (h0 _ _).mul (join_real (C := 256) (L := 2048) (fun u => h1 (ctx (seq R) u) (col96 h (hi d))) (fun u => h1 (lat (seq R) u) (col96 h (hi d))) t)
  have rv : ∀ t, IsReal (val_main_v16 (F := Ideal) x2 (ix4 (seq R) h t ⟨l.val, hl'⟩)) := fun t => by
    rw [v_all]
    exact join_real (C := 256) (L := 2048) (fun u => h2 (ctx (seq R) u) _) (fun u => h2 (lat (seq R) u) _) t
  rw [difference r1 r2 rv hl, out_apply]
  have m1 : val_main_v34 (F := Ideal) x0 x1 (ix3 (seq R) h (pos R)) =
      top fun t => val_main_v31 (F := Ideal) x0 x1 (ix4 (seq R) h (pos R) t) := by
    rw [max_lo, Softmax.negInf]
    exact max_eq_right bot_le
  have m2 : val_main_v52 (F := Ideal) x0 x1 (ix3 (seq R) h (pos R)) =
      top fun t => val_main_v49 (F := Ideal) x0 x1 (ix4 (seq R) h (pos R) t) := by
    rw [max_hi, Softmax.negInf]
    exact max_eq_right bot_le
  refine Finset.sum_congr rfl fun t _ => ?_
  rw [RefReads.diff_apply, weight_lo, weight_hi, sum_lo, sum_hi]
  simp only [exp_lo, exp_hi, m1, m2]

/-- The array the blocks leave is the reference's result. -/
theorem equation (h0 : ∀ r k, IsReal (x0 (ix2 r k))) (h1 : ∀ r k, IsReal (x1 (ix2 r k))) (h2 : ∀ r k, IsReal (x2 (ix2 r k)))
    (h3 : ∀ d, IsReal (x3 (ix1 d))) (h4 : ∀ d, IsReal (x4 (ix1 d))) (h5 : ∀ d, IsReal (x5 (ix1 d))) (h6 : ∀ d, IsReal (x6 (ix1 d))) :
    whole (mixRows x3 x4 x5 x6) (gainRow x7) (queries x0) (keys x1) (values x2) =
      val_main_v83 (F := Ideal) x0 x1 x2 x3 x4 x5 x6 x7 := by
  have hl : IsReal (val_main_v24 (F := Ideal) x3 x4 x5 x6 ix0) := by
    rw [RefReads.lam_apply]
    exact (((IsReal.sum _ fun d => (h3 d).mul (h4 d)).exp).sub ((IsReal.sum _ fun d => (h5 d).mul (h6 d)).exp)).add Softmax.lambdaInit
  funext i
  obtain ⟨R, k, rfl⟩ : ∃ (R : Fin 32768) (k : Fin 512), i = ix2 R k := ⟨i 0, i 1, by funext a; fin_cases a <;> rfl⟩
  rw [result_apply]
  have hk := k.isLt
  show rowOut _ _ _ _ _ R ⟨k.val / 128, by omega⟩ ⟨k.val % 128, by omega⟩ = _
  unfold rowOut
  rw [factor]
  refine (normed_eq _ _ (fun l => x7 (ix1 l))
    (fun l => val_main_v64 (F := Ideal) x0 x1 x2 x3 x4 x5 x6 (ix4 (seq R) ⟨k.val / 128, by omega⟩ (pos R) l))
    (fun l hl => by rw [Entry.gainRow_apply, dif_pos hl])
    (contrast_eq x0 x1 x2 x3 x4 x5 x6 R ⟨k.val / 128, by omega⟩ h0 h1 h2 hl) ⟨k.val % 128, by omega⟩).trans ?_
  refine dite_iff Iff.rfl (fun hp _ => ?_) rfl
  rw [norm_apply]

end Cert.Equation
-- ==== Proof.DaResult.lean ====
/- The claims on the differential attention: the program and its idealised form run and keep their arguments, the
   reference does, and the two idealised programs end with equal results wherever the arguments are finite. -/
module

public import proofs.«01_k».proof.Defs
public import proofs.«01_k».proof.Proof.Equation
public import proofs.«01_k».proof.Proof.Gen.DaLat.Frame
public import proofs.«01_k».proof.Proof.Gen.DaLatIdeal.Value
public import proofs.«01_k».proof.Proof.Gen.DaLatRefIdeal.Run

@[expose] public section

set_option maxRecDepth 16384

noncomputable section

namespace Cert.DaResult

open Idealize.ShloMosaic Idealize.SL.Sem

/-- The program runs and keeps its arguments. -/
theorem frame : Cert.quiescent_DaLat (hDaLat := Cert.DaLat.Gen.facts) := fun m ρ _ => Cert.DaLat.Gen.frame m ρ

/-- Its idealised form runs and keeps its arguments. -/
theorem frameIdeal : Cert.quiescent_DaLatIdeal (hDaLatIdeal := Cert.DaLatIdeal.Gen.facts) := fun m ρ _ =>
  Cert.DaLatIdeal.Gen.frame m ρ

/-- And so it does from finite arguments. -/
theorem frameIdealFinite : Cert.quiescent_DaLatIdeal_pre_finite (hDaLatIdeal := Cert.DaLatIdeal.Gen.facts)
    (hPre_finite := Cert.Pre_finite.Gen.facts) := fun m ρ _ => Cert.DaLatIdeal.Gen.frame m ρ

/-- The reference runs and keeps its arguments. -/
theorem frameRef : Cert.quiescent_DaLatRefIdeal (hDaLatRefIdeal := Cert.DaLatRefIdeal.Gen.facts) := fun m ρ _ =>
  (θ_run _ _ _).mono (fun r h => ⟨fun c => (h c).2, sem_eq_zero_of_no_sems (by decide) r.2⟩)
    (Cert.DaLatRefIdeal.Value.run (F := Ideal) m ρ)

/-- And so it does from finite arguments. -/
theorem frameRefFinite : Cert.quiescent_DaLatRefIdeal_pre_finite (hDaLatRefIdeal := Cert.DaLatRefIdeal.Gen.facts)
    (hPre_finite := Cert.Pre_finite.Gen.facts) := fun m ρ _ =>
  (θ_run _ _ _).mono (fun r h => ⟨fun c => (h c).2, sem_eq_zero_of_no_sems (by decide) r.2⟩)
    (Cert.DaLatRefIdeal.Value.run (F := Ideal) m ρ)

/-- The one literal that is named is the word of the number it names. -/
theorem preserves : Cert.preserves_DaLat_DaLatIdeal :=
  IdealRules.named_const.statement Cert.DaLatIdeal.κ "inv_dv" .f32 0x3C2AAAAB#32 _ rfl

/-- The idealised program and the reference end with equal results. -/
theorem algebraic : Cert.algebraic_DaLatIdeal_DaLatRefIdeal_pre_finite (hDaLatIdeal := Cert.DaLatIdeal.Gen.facts)
    (hDaLatRefIdeal := Cert.DaLatRefIdeal.Gen.facts) (hPre_finite := Cert.Pre_finite.Gen.facts) := by
  intro m ρ m' ρ' hpre hag
  refine ⟨fun c => (Cert.DaLatIdeal.Gen.dats m 0 c).arrAt 7 Cert.DaLatIdeal.cfg0.N, Cert.DaLatIdeal.Value.run_blocks m ρ,
    (θ_run _ _ _).mono (fun _ h c => ⟨(h c).1.trans ?_, (h c).2⟩) (Cert.DaLatRefIdeal.Value.run m' ρ')⟩
  obtain ⟨e0, e1, e2, e3, e4, e5, e6, e7⟩ := hag c
  obtain ⟨h0, h1, h2, h3, h4, h5, h6⟩ := Cert.Finite.reals _ _ _ _ _ _ _ _ (hpre c)
  refine (Cert.DaLatRefIdeal.Read.val_main_v83_eq m' c).trans ?_
  rw [e0, e1, e2, e3, e4, e5, e6, e7]
  exact ((Cert.Array.final_args m c).trans (Cert.Equation.equation _ _ _ _ _ _ _ _ h0 h1 h2 h3 h4 h5 h6)).symm

end Cert.DaResult
-- ==== Proof.FfnBlock.lean ====
/- One block of the dense feed-forward network read at one row and one lane. -/
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnBlock

open Cert.FfnIdeal Cert.FfnIdeal.Gen Idealize.ShloMosaic Idealize.ShloMosaic.TcCoe Idealize.SL.Sem
open Idealize.ShloMosaic.Pipeline (Dat)
open scoped BigOperators

/-- One hidden unit: the gate passed through `x / (1 + e^(-x))`, times the other projection. -/
def unit (h a b : Fin 1024 → EReal) : EReal :=
  (∑ k : Fin 1024, h k * a k) *
      Ideal.div (Ideal.ofBits .f32 0x3F800000#32)
        (Ideal.ofBits .f32 0x3F800000#32 + Ideal.exp (-(∑ k : Fin 1024, h k * a k))) *
    ∑ k : Fin 1024, h k * b k

/-- The row before it is normalised: the residual, scaled, plus the gated output of the network. -/
def resid (h : Fin 1024 → EReal) (wg wu : Fin 1024 → Fin 2816 → EReal) (wd : Fin 2816 → Fin 1024 → EReal)
    (x gate : Fin 1024 → EReal) (l : Fin 1024) : EReal :=
  Ideal.ofBits .f32 0x3FD744FD#32 * x l +
    gate l * ∑ f : Fin 2816, unit h (fun k => wg k f) (fun k => wu k f) * wd f l

/-- The mean of a row. -/
def mean (x : Fin 1024 → EReal) : EReal := Ideal.div (∑ l : Fin 1024, x l) (Ideal.ofBits .f32 0x44800000#32)

/-- A row less its mean, over its deviation, times a gain, plus a shift. -/
def normed (x g b : Fin 1024 → EReal) (l : Fin 1024) : EReal :=
  (x l - mean x) *
        Ideal.rsqrt (mean (fun l => (x l - mean x) * (x l - mean x)) + Ideal.ofBits .f32 0x3727C5AC#32) * g l + b l

/-- The hidden units of a block of rows. -/
def hidden (x0 : FVec Ideal S512x1024 .bf16) (x1 x2 : FVec Ideal S1x1024x2816 .bf16) : FVec Ideal S512x2816 .bf16 := fun i =>
  unit (fun k => x0 (ix2 (i 0) k)) (fun k => x1 (ix3 (0 : Fin 1) k (i 1))) (fun k => x2 (ix3 (0 : Fin 1) k (i 1)))

/-- The hidden units of 256 columns. -/
theorem slice_apply (v : FVec Ideal S512x1024 .bf16) (a b : FVec Ideal S1x1024x256 .bf16) (r : Fin 512) (f : Fin 256) :
    k0_pay8 (F := Ideal) (k0_pay2 v) a b (ix2 r f) =
      unit (fun k => v (ix2 r k)) (fun k => a (ix3 (0 : Fin 1) k f)) (fun k => b (ix3 (0 : Fin 1) k f)) := by
  pointwise [k0_pay8, k0_pay2, unit]
  rw [zero_sub]

/-- They are the hidden units at their place. -/
theorem slice_at (o : Nat) (x0 : FVec Ideal S512x1024 .bf16) (x1 x2 : FVec Ideal S1x1024x2816 .bf16)
    (inb : ∀ a, (![0, 0, o] : Fin 3 → Nat) a + (![1, 1024, 256] : Fin 3 → Nat) a ≤ S1x1024x2816.size a)
    (x : S512x256.Idx) (y : S512x2816.Idx) (h0 : (y 0 : Nat) = x 0) (h1 : (y 1 : Nat) = o + x 1) :
    k0_pay8 (F := Ideal) (k0_pay2 x0)
        (View.ld (Val := Elt Ideal) (e' := .bf16) x1 (Rect.unit (s := S1x1024x2816) ![0, 0, o] ![1, 1024, 256] inb))
        (View.ld (Val := Elt Ideal) (e' := .bf16) x2 (Rect.unit (s := S1x1024x2816) ![0, 0, o] ![1, 1024, 256] inb)) x =
      hidden x0 x1 x2 y := by
  have e0 : y 0 = x 0 := Fin.ext h0
  have ex : x = ix2 (x 0) (x 1) := by blk_ext
  have er : ∀ (w : FVec Ideal S1x1024x2816 .bf16) (k : Fin 1024),
      View.ld (Val := Elt Ideal) (e' := .bf16) w (Rect.unit (s := S1x1024x2816) ![0, 0, o] ![1, 1024, 256] inb)
        (ix3 (0 : Fin 1) k (x 1)) = w (ix3 (0 : Fin 1) k (y 1)) := by
    intro w k
    refine congrArg w (funext fun a => Fin.ext ?_)
    fin_cases a
    · show 0 + 1 * 0 = 0
      omega
    · show 0 + 1 * k.val = k.val
      omega
    · show o + 1 * (x 1).val = (y 1).val
      omega
  rw [ex]
  refine (slice_apply x0 _ _ (x 0) (x 1)).trans ?_
  rw [hidden, e0]
  exact congrArg₂ (unit _) (funext (er x1)) (funext (er x2))

/-- The rows before they are normalised, less their means. -/
theorem centred_apply (s : FVec Ideal S512x2816 .bf16) (x3 : FVec Ideal S1x2816x1024 .bf16) (x5 : FVec Ideal S1x6x1024 .f32)
    (x4 : FVec Ideal S512x1024 .f32) (r : Fin 512) (l : Fin 1024) :
    k0_pay26 (F := Ideal) s x3 x5 x4 (ix2 r l) =
      (Ideal.ofBits .f32 0x3FD744FD#32 * x4 (ix2 r l) + x5 (ix3 (0 : Fin 1) (5 : Fin 6) l) *
          ∑ f : Fin 2816, s (ix2 r f) * x3 (ix3 (0 : Fin 1) f l)) -
        mean (fun l => Ideal.ofBits .f32 0x3FD744FD#32 * x4 (ix2 r l) + x5 (ix3 (0 : Fin 1) (5 : Fin 6) l) *
          ∑ f : Fin 2816, s (ix2 r f) * x3 (ix3 (0 : Fin 1) f l)) := by
  pointwise [k0_pay26, mean]

/-- The reciprocal of their deviations. -/
theorem deviation_apply (s : FVec Ideal S512x2816 .bf16) (x3 : FVec Ideal S1x2816x1024 .bf16) (x5 : FVec Ideal S1x6x1024 .f32)
    (x4 : FVec Ideal S512x1024 .f32) (r : Fin 512) :
    k0_pay27 (F := Ideal) s x3 x5 x4 (ix2 r (0 : Fin 1)) =
      Ideal.rsqrt (mean (fun l => k0_pay26 (F := Ideal) s x3 x5 x4 (ix2 r l) * k0_pay26 (F := Ideal) s x3 x5 x4 (ix2 r l)) +
        Ideal.ofBits .f32 0x3727C5AC#32) := by
  pointwise [k0_pay27, mean]

theorem scaled_apply (g b : FVec Ideal S1x1024 .f32) (d : FVec Ideal S512x1024 .f32) (w : FVec Ideal S512x1 .f32)
    (r : Fin 512) (l : Fin 1024) :
    k0_pay1 (F := Ideal) (k0_pay24 g) (k0_pay25 b) d w (ix2 r l) =
      d (ix2 r l) * w (ix2 r (0 : Fin 1)) * g (ix2 (0 : Fin 1) l) + b (ix2 (0 : Fin 1) l) := by
  pointwise [k0_pay1, k0_pay24, k0_pay25]

/-- The row a block stores, from the rows and matrices it is given. -/
def rowOut (h : Fin 1024 → EReal) (wg wu : Fin 1024 → Fin 2816 → EReal) (wd : Fin 2816 → Fin 1024 → EReal)
    (x gate g b : Fin 1024 → EReal) (l : Fin 1024) : EReal :=
  normed (resid h wg wu wd x gate) g b l

theorem assembled (x0 : FVec Ideal S512x1024 .bf16) (x1 x2 : FVec Ideal S1x1024x2816 .bf16)
    (x3 : FVec Ideal S1x2816x1024 .bf16) (x4 : FVec Ideal S512x1024 .f32) (x5 : FVec Ideal S1x6x1024 .f32)
    (x6 x7 : FVec Ideal S1x1024 .f32) (r : Fin 512) (l : Fin 1024) :
    k0_pay1 (F := Ideal) (k0_pay24 x6) (k0_pay25 x7) (k0_pay26 (hidden x0 x1 x2) x3 x5 x4)
        (k0_pay27 (hidden x0 x1 x2) x3 x5 x4) (ix2 r l) =
      rowOut (fun k => x0 (ix2 r k)) (fun k f => x1 (ix3 (0 : Fin 1) k f)) (fun k f => x2 (ix3 (0 : Fin 1) k f))
        (fun f l => x3 (ix3 (0 : Fin 1) f l)) (fun l => x4 (ix2 r l)) (fun l => x5 (ix3 (0 : Fin 1) (5 : Fin 6) l))
        (fun l => x6 (ix2 (0 : Fin 1) l)) (fun l => x7 (ix2 (0 : Fin 1) l)) l := by
  rw [scaled_apply, deviation_apply]
  simp only [centred_apply]
  rfl

variable (m : (ℓ : Loc nD τ sig) → Buf (Elt Ideal) ℓ)

/-- One row and lane of what a grid point leaves. -/
theorem stored (c : Dev nD) (t : Fin cfg0.N) (r : Fin 512) (l : Fin 1024) :
    outsAt0 (F := Ideal) m c t (ix2 r l) =
      rowOut (fun k => (show FVec Ideal S512x1024 .bf16 from iblk m c 0 t) (ix2 r k))
        (fun k f => (show FVec Ideal S1x1024x2816 .bf16 from iblk m c 1 t) (ix3 (0 : Fin 1) k f))
        (fun k f => (show FVec Ideal S1x1024x2816 .bf16 from iblk m c 2 t) (ix3 (0 : Fin 1) k f))
        (fun f l => (show FVec Ideal S1x2816x1024 .bf16 from iblk m c 3 t) (ix3 (0 : Fin 1) f l))
        (fun l => (show FVec Ideal S512x1024 .f32 from iblk m c 4 t) (ix2 r l))
        (fun l => (show FVec Ideal S1x6x1024 .f32 from iblk m c 5 t) (ix3 (0 : Fin 1) (5 : Fin 6) l))
        (fun l => (show FVec Ideal S1x1024 .f32 from iblk m c 6 t) (ix2 (0 : Fin 1) l))
        (fun l => (show FVec Ideal S1x1024 .f32 from iblk m c 7 t) (ix2 (0 : Fin 1) l)) l := by
  unfold Gen.outsAt0
  frame_out
  refine (congrArg (fun s => k0_pay1 (F := Ideal) (k0_pay24 (iblk m c 6 t)) (k0_pay25 (iblk m c 7 t))
    (k0_pay26 s (iblk m c 3 t) (iblk m c 5 t) (iblk m c 4 t)) (k0_pay27 s (iblk m c 3 t) (iblk m c 5 t) (iblk m c 4 t)) (ix2 r l))
    (?_ : _ = hidden (iblk m c 0 t) (iblk m c 1 t) (iblk m c 2 t))).trans
    (assembled (iblk m c 0 t) (iblk m c 1 t) (iblk m c 2 t) (iblk m c 3 t) (iblk m c 4 t) (iblk m c 5 t)
      (iblk m c 6 t) (iblk m c 7 t) r l)
  rw [View.readCov_eq_canon']
  funext y
  have e : (Rect.unit (s := S512x2816) ![0, 0] ![512, 2816] inb_S512x2816_S512x2816_0_0).toLoadRect.idx y = y := by
    funext a
    refine Fin.ext ?_
    fin_cases a
    · show 0 + 1 * (y 0).val = (y 0).val
      omega
    · show 0 + 1 * (y 1).val = (y 1).val
      omega
  refine (congrArg (View.canon _) e).trans ?_
  clear e
  canon_tiles x h
  · exact slice_at 2560 _ _ _ _ x y (by omega) (by omega)
  · exact slice_at 2304 _ _ _ _ x y (by omega) (by omega)
  · exact slice_at 2048 _ _ _ _ x y (by omega) (by omega)
  · exact slice_at 1792 _ _ _ _ x y (by omega) (by omega)
  · exact slice_at 1536 _ _ _ _ x y (by omega) (by omega)
  · exact slice_at 1280 _ _ _ _ x y (by omega) (by omega)
  · exact slice_at 1024 _ _ _ _ x y (by omega) (by omega)
  · exact slice_at 768 _ _ _ _ x y (by omega) (by omega)
  · exact slice_at 512 _ _ _ _ x y (by omega) (by omega)
  · exact slice_at 256 _ _ _ _ x y (by omega) (by omega)
  · exact slice_at 0 _ _ _ _ x y (by omega) (by omega)

end Cert.FfnBlock
-- ==== Proof.FfnArray.lean ====
/- The array the dense feed-forward network leaves: every row and lane of it as one function of the arguments. -/
module

public import proofs.«01_k».proof.Proof.FfnBlock

@[expose] public section

set_option maxRecDepth 16384

noncomputable section

namespace Cert.FfnArray

open Cert.FfnIdeal Cert.FfnIdeal.Gen Cert.FfnBlock Idealize.ShloMosaic Idealize.ShloMosaic.TcCoe Idealize.SL.Sem
open Idealize.ShloMosaic.Pipeline (Dat)
open scoped BigOperators

/-- The sequence whose gate a row takes: its own for a row of the latents, the one after the last for the context. -/
def gateOf (R : Fin 36864) : Fin 24 := ⟨min (R.val / 2048) 16, by omega⟩

/-- The whole array, from the arguments. -/
def whole (h : FVec Ideal S36864x1024 .f32) (wg wu : FVec Ideal S1x1024x2816 .f32) (wd : FVec Ideal S1x2816x1024 .f32)
    (x : FVec Ideal S36864x1024 .f32) (mods : FVec Ideal S24x6x1024 .f32) (g b : FVec Ideal S1024 .f32) :
    FVec Ideal S36864x1024 .f32 := fun i =>
  rowOut (fun k => h (ix2 (i 0) k)) (fun k f => wg (ix3 (0 : Fin 1) k f)) (fun k f => wu (ix3 (0 : Fin 1) k f))
    (fun f l => wd (ix3 (0 : Fin 1) f l)) (fun l => x (ix2 (i 0) l)) (fun l => mods (ix3 (gateOf (i 0)) (5 : Fin 6) l))
    (fun l => g (ix1 l)) (fun l => b (ix1 l)) (i 1)

variable (m : (ℓ : Loc nD τ sig) → Buf (Elt Ideal) ℓ)

/-! ## What the call finds -/

section
variable (c : Dev nD)

theorem entry_rows (i : S36864x1024.Idx) : (show FVec Ideal S36864x1024 .bf16 from V m c main_v0) i =
    (show FVec Ideal S36864x1024 .f32 from m ((c : Thread nD τ).loc main_arg0)) i := by
  have e : V m c main_v0 = (truncf .bf16 (show FVec Ideal S36864x1024 .f32 from m ((c : Thread nD τ).loc main_arg0)) bitsLt_bf16_f32) := by
    simp only [V, hostOps0, List.flatten_cons, List.flatten_nil, List.append_nil, List.cons_append, List.nil_append]
    entry_read
    rfl
  rw [e]
  rfl

theorem entry_gates (i : S1x1024x2816.Idx) : (show FVec Ideal S1x1024x2816 .bf16 from V m c main_v1) i =
    (show FVec Ideal S1x1024x2816 .f32 from m ((c : Thread nD τ).loc main_arg1)) i := by
  have e : V m c main_v1 = (truncf .bf16 (show FVec Ideal S1x1024x2816 .f32 from m ((c : Thread nD τ).loc main_arg1)) bitsLt_bf16_f32) := by
    simp only [V, hostOps0, List.flatten_cons, List.flatten_nil, List.append_nil, List.cons_append, List.nil_append]
    entry_read
    rfl
  rw [e]
  rfl

theorem entry_ups (i : S1x1024x2816.Idx) : (show FVec Ideal S1x1024x2816 .bf16 from V m c main_v2) i =
    (show FVec Ideal S1x1024x2816 .f32 from m ((c : Thread nD τ).loc main_arg2)) i := by
  have e : V m c main_v2 = (truncf .bf16 (show FVec Ideal S1x1024x2816 .f32 from m ((c : Thread nD τ).loc main_arg2)) bitsLt_bf16_f32) := by
    simp only [V, hostOps0, List.flatten_cons, List.flatten_nil, List.append_nil, List.cons_append, List.nil_append]
    entry_read
    rfl
  rw [e]
  rfl

theorem entry_downs (i : S1x2816x1024.Idx) : (show FVec Ideal S1x2816x1024 .bf16 from V m c main_v3) i =
    (show FVec Ideal S1x2816x1024 .f32 from m ((c : Thread nD τ).loc main_arg3)) i := by
  have e : V m c main_v3 = (truncf .bf16 (show FVec Ideal S1x2816x1024 .f32 from m ((c : Thread nD τ).loc main_arg3)) bitsLt_bf16_f32) := by
    simp only [V, hostOps0, List.flatten_cons, List.flatten_nil, List.append_nil, List.cons_append, List.nil_append]
    entry_read
    rfl
  rw [e]
  rfl

theorem row_of (g : FVec Ideal S1024 .f32) (l : Fin 1024) :
    broadcastInDim S1x1024 ![1] bcast_S1024_S1x1024_1 g (ix2 (0 : Fin 1) l) = g (ix1 l) := by
  pointwise

theorem entry_gain (l : Fin 1024) : (show FVec Ideal S1x1024 .f32 from V m c main_v4) (ix2 (0 : Fin 1) l) =
    (show FVec Ideal S1024 .f32 from m ((c : Thread nD τ).loc main_arg6)) (ix1 l) := by
  have e : V m c main_v4 = broadcastInDim S1x1024 ![1] bcast_S1024_S1x1024_1 (show FVec Ideal S1024 .f32 from m ((c : Thread nD τ).loc main_arg6)) := by
    simp only [V, hostOps0, List.flatten_cons, List.flatten_nil, List.append_nil, List.cons_append, List.nil_append]
    entry_read
    rfl
  rw [e]
  exact row_of _ l

theorem entry_shift (l : Fin 1024) : (show FVec Ideal S1x1024 .f32 from V m c main_v5) (ix2 (0 : Fin 1) l) =
    (show FVec Ideal S1024 .f32 from m ((c : Thread nD τ).loc main_arg7)) (ix1 l) := by
  have e : V m c main_v5 = broadcastInDim S1x1024 ![1] bcast_S1024_S1x1024_1 (show FVec Ideal S1024 .f32 from m ((c : Thread nD τ).loc main_arg7)) := by
    simp only [V, hostOps0, List.flatten_cons, List.flatten_nil, List.append_nil, List.cons_append, List.nil_append]
    entry_read
    rfl
  rw [e]
  exact row_of _ l

end

/-! ## The blocks -/

/-- Which block each window takes at a grid point. -/
theorem idx : ∀ t : Fin cfg0.N, win0_0.index t = ![t.val, 0] ∧ win0_1.index t = ![0, 0, 0] ∧ win0_2.index t = ![0, 0, 0] ∧
    win0_3.index t = ![0, 0, 0] ∧ win0_4.index t = ![t.val, 0] ∧ win0_5.index t = ![min (t.val / 4) 16, 0, 0] ∧
    win0_6.index t = ![0, 0] ∧ win0_7.index t = ![0, 0] ∧ win0_8.index t = ![t.val, 0] ∧ t.val < 72 :=
  (by decide +kernel : ∀ t : Fin grid0.N, _)

/-- The row of the array at row `r` of block `t`. -/
def rowAt (t : Fin cfg0.N) (r : Fin 512) : Fin 36864 :=
  ⟨512 * t.val + r.val, by have := (idx t).2.2.2.2.2.2.2.2.2; omega⟩

variable (c : Dev nD) (t : Fin cfg0.N)

theorem blk0 (r : Fin 512) (k : Fin 1024) : (show FVec Ideal S512x1024 .bf16 from iblk m c 0 t) (ix2 r k) =
    (show FVec Ideal S36864x1024 .bf16 from V m c main_v0) (ix2 (rowAt t r) k) := by
  blk_ext [iblk, idx t, rowAt]

theorem blk1 (k : Fin 1024) (f : Fin 2816) : (show FVec Ideal S1x1024x2816 .bf16 from iblk m c 1 t) (ix3 (0 : Fin 1) k f) =
    (show FVec Ideal S1x1024x2816 .bf16 from V m c main_v1) (ix3 (0 : Fin 1) k f) := by
  blk_ext [iblk, idx t]

theorem blk2 (k : Fin 1024) (f : Fin 2816) : (show FVec Ideal S1x1024x2816 .bf16 from iblk m c 2 t) (ix3 (0 : Fin 1) k f) =
    (show FVec Ideal S1x1024x2816 .bf16 from V m c main_v2) (ix3 (0 : Fin 1) k f) := by
  blk_ext [iblk, idx t]

theorem blk3 (f : Fin 2816) (l : Fin 1024) : (show FVec Ideal S1x2816x1024 .bf16 from iblk m c 3 t) (ix3 (0 : Fin 1) f l) =
    (show FVec Ideal S1x2816x1024 .bf16 from V m c main_v3) (ix3 (0 : Fin 1) f l) := by
  blk_ext [iblk, idx t]

theorem blk4 (r : Fin 512) (k : Fin 1024) : (show FVec Ideal S512x1024 .f32 from iblk m c 4 t) (ix2 r k) =
    (show FVec Ideal S36864x1024 .f32 from V m c main_arg4) (ix2 (rowAt t r) k) := by
  blk_ext [iblk, idx t, rowAt]

theorem blk5 (r : Fin 512) (l : Fin 1024) : (show FVec Ideal S1x6x1024 .f32 from iblk m c 5 t) (ix3 (0 : Fin 1) (5 : Fin 6) l) =
    (show FVec Ideal S24x6x1024 .f32 from V m c main_arg5) (ix3 (gateOf (rowAt t r)) (5 : Fin 6) l) := by
  have hd : (512 * t.val + r.val) / 2048 = t.val / 4 := by omega
  blk_ext [iblk, idx t, rowAt, gateOf, hd]

theorem blk6 (l : Fin 1024) : (show FVec Ideal S1x1024 .f32 from iblk m c 6 t) (ix2 (0 : Fin 1) l) =
    (show FVec Ideal S1x1024 .f32 from V m c main_v4) (ix2 (0 : Fin 1) l) := by
  blk_ext [iblk, idx t]

theorem blk7 (l : Fin 1024) : (show FVec Ideal S1x1024 .f32 from iblk m c 7 t) (ix2 (0 : Fin 1) l) =
    (show FVec Ideal S1x1024 .f32 from V m c main_v5) (ix2 (0 : Fin 1) l) := by
  blk_ext [iblk, idx t]

/-- What a grid point leaves at a row and a lane. -/
theorem point (r : Fin 512) (l : Fin 1024) : outsAt0 (F := Ideal) m c t (ix2 r l) =
    whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (ix2 (rowAt t r) l) := by
  refine (stored m c t r l).trans ?_
  have h0 := funext fun k => (blk0 m c t r k).trans (entry_rows m c _)
  have h1 := funext fun k => funext fun f => (blk1 m c t k f).trans (entry_gates m c _)
  have h2 := funext fun k => funext fun f => (blk2 m c t k f).trans (entry_ups m c _)
  have h3 := funext fun k => funext fun f => (blk3 m c t k f).trans (entry_downs m c _)
  have h4 := funext fun k => (blk4 m c t r k).trans (congrFun (V_main_arg4 m c) _)
  have h5 := funext fun k => (blk5 m c t r k).trans (congrFun (V_main_arg5 m c) _)
  have h6 := funext fun k => (blk6 m c t k).trans (entry_gain m c k)
  have h7 := funext fun k => (blk7 m c t k).trans (entry_shift m c k)
  rw [h0, h1, h2, h3, h4, h5, h6, h7]
  rfl

/-- The array after the run. -/
theorem final : (dats m 0 c).arrAt 8 (cfgs 0).N =
    whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t _ y => ?_
  blk_simp
  rw [after0_8]
  have e : ((cfg0.win 8).blk t).view.emb y = ix2 (rowAt t (y 0)) (y 1) := by
    blk_ext [idx t, rowAt]
  have ey : y = ix2 (y 0) (y 1) := by blk_ext
  rw [e]
  exact (congrArg (outsAt0 (F := Ideal) m c t) ey).trans (point m c t (y 0) (y 1))

end Cert.FfnArray
-- ==== Proof.FfnRead.lean ====
/- The reference for the dense feed-forward network read at one row and one lane: the row the array holds. -/
module

public import proofs.«01_k».proof.Proof.FfnArray
public import proofs.«01_k».proof.Proof.Gen.FfnRefIdeal.Read

@[expose] public section

set_option maxRecDepth 16384

noncomputable section

namespace Cert.FfnRead

open Cert.FfnRefIdeal Cert.FfnRefIdeal.Read Cert.FfnBlock Cert.FfnArray Idealize.ShloMosaic
open scoped BigOperators

variable (h x : FVec Ideal S36864x1024 .f32) (wg wu : FVec Ideal S1x1024x2816 .f32) (wd : FVec Ideal S1x2816x1024 .f32)
  (mods : FVec Ideal S24x6x1024 .f32) (g b : FVec Ideal S1024 .f32)

theorem hidden_read (R : Fin 36864) (f : Fin 2816) : val_main_v5 (F := Ideal) h wg wu (ix2 R f) =
    unit (fun k => h (ix2 R k)) (fun k => wg (ix3 (0 : Fin 1) k f)) (fun k => wu (ix3 (0 : Fin 1) k f)) := by
  pointwise [val_main_v5, val_main_v2, val_main_v4, val_main_v3, val_main_v1, val_main_v0, val_main_call0_v5,
    val_main_call0_v4, val_main_call0_v3, val_main_call0_v2, val_main_call0_v1, val_main_call0_v0, val_main_call0_cst,
    val_main_call0_cst_0, unit]

theorem gate_read (R : Fin 36864) (l : Fin 1024) :
    val_main_v19 (F := Ideal) mods (ix2 R l) = mods (ix3 (gateOf R) (5 : Fin 6) l) := by
  pointwise [val_main_v19, val_main_v16, val_main_v15, val_main_v14, val_main_v13, val_main_v12, val_main_v11,
    val_main_v10, val_main_v9, val_main_v8]
  by_cases hR : R.val < 32768
  · rw [dif_pos hR]
    exact congrArg (fun s => mods (ix3 s (5 : Fin 6) l)) (Fin.ext (by show R.val / 2048 = min (R.val / 2048) 16; omega))
  · rw [dif_neg hR]
    exact congrArg (fun s => mods (ix3 s (5 : Fin 6) l)) (Fin.ext (by show 16 = min (R.val / 2048) 16; omega))

theorem resid_read (R : Fin 36864) (l : Fin 1024) : val_main_v21 (F := Ideal) h wg wu wd x mods (ix2 R l) =
    resid (fun k => h (ix2 R k)) (fun k f => wg (ix3 (0 : Fin 1) k f)) (fun k f => wu (ix3 (0 : Fin 1) k f))
      (fun f l => wd (ix3 (0 : Fin 1) f l)) (fun l => x (ix2 R l)) (fun l => mods (ix3 (gateOf R) (5 : Fin 6) l)) l := by
  pointwise [val_main_v21, val_main_v20, val_main_v18, val_main_v17, val_main_v7, val_main_v6, val_main_cst, resid]
  simp only [gate_read, hidden_read]

/-- The mean of a row of the reference. -/
theorem mean_read (R : Fin 36864) : val_main_v25 (F := Ideal) h wg wu wd x mods (ix2 R (0 : Fin 1)) =
    mean (fun l => val_main_v21 (F := Ideal) h wg wu wd x mods (ix2 R l)) := by
  pointwise [val_main_v25, val_main_v24, val_main_v23, val_main_v22, val_main_cst_0, val_main_cst_1, mean]

/-- The reference at a row and a lane, from the rows before they are normalised. -/
theorem last_read (R : Fin 36864) (l : Fin 1024) : val_main_v45 (F := Ideal) h wg wu wd x mods g b (ix2 R l) =
    normed (fun l => val_main_v21 (F := Ideal) h wg wu wd x mods (ix2 R l)) (fun l => g (ix1 l)) (fun l => b (ix1 l)) l := by
  pointwise [val_main_v45, val_main_v44, val_main_v43, val_main_v42, val_main_v41, val_main_v40, val_main_v39,
    val_main_v38, val_main_v37, val_main_v36, val_main_v35, val_main_cst_4, val_main_v34, val_main_v33, val_main_v32,
    val_main_v31, val_main_cst_3, val_main_v30, val_main_v29, val_main_cst_2, val_main_v28, val_main_v27, val_main_v26,
    normed]
  simp only [mean_read]
  rfl

/-- The reference is the array the kernel leaves. -/
theorem equation : whole h wg wu wd x mods g b = val_main_v45 (F := Ideal) h wg wu wd x mods g b := by
  funext i
  have ei : i = ix2 (i 0) (i 1) := by blk_ext
  refine Eq.trans ?_ (congrArg (val_main_v45 (F := Ideal) h wg wu wd x mods g b) ei).symm
  refine Eq.trans ?_ (last_read h x wg wu wd mods g b (i 0) (i 1)).symm
  rw [funext (resid_read h x wg wu wd mods (i 0))]
  rfl

end Cert.FfnRead
-- ==== Proof.FfnResult.lean ====
/- The claims about the dense feed-forward network. -/
module

public import proofs.«01_k».proof.Defs
public import proofs.«01_k».proof.Proof.FfnRead
public import proofs.«01_k».proof.Proof.Gen.Ffn.Frame

@[expose] public section

noncomputable section

namespace Cert.FfnResult

open Idealize.ShloMosaic Idealize.SL.Sem

/-- The program runs and keeps its arguments. -/
theorem frame : Cert.quiescent_Ffn (hFfn := Cert.Ffn.Gen.facts) := fun m ρ _ => Cert.Ffn.Gen.frame m ρ

/-- Its idealised form runs and keeps its arguments. -/
theorem frameIdeal : Cert.quiescent_FfnIdeal (hFfnIdeal := Cert.FfnIdeal.Gen.facts) := fun m ρ _ =>
  Cert.FfnIdeal.Gen.frame m ρ

/-- The reference runs and keeps its arguments. -/
theorem frameRef : Cert.quiescent_FfnRefIdeal (hFfnRefIdeal := Cert.FfnRefIdeal.Gen.facts) := fun m ρ _ =>
  (θ_run _ _ _).mono (fun r h => ⟨fun c => (h c).2, sem_eq_zero_of_no_sems (by decide) r.2⟩)
    (Cert.FfnRefIdeal.Value.run (F := Ideal) m ρ)

/-- No literal is named: there is nothing to preserve. -/
theorem preserves : Cert.preserves_Ffn_FfnIdeal := trivial

/-- The idealised program and the reference end with equal results, whatever the arguments. -/
theorem algebraic : Cert.algebraic_FfnIdeal_FfnRefIdeal (hFfnIdeal := Cert.FfnIdeal.Gen.facts)
    (hFfnRefIdeal := Cert.FfnRefIdeal.Gen.facts) := by
  intro m ρ m' ρ' _ hag
  refine ⟨fun c => (Cert.FfnIdeal.Gen.dats m 0 c).arrAt 8 Cert.FfnIdeal.cfg0.N, Cert.FfnIdeal.Value.run_blocks m ρ,
    (θ_run _ _ _).mono (fun _ h c => ⟨(h c).1.trans ?_, (h c).2⟩) (Cert.FfnRefIdeal.Value.run m' ρ')⟩
  obtain ⟨e0, e1, e2, e3, e4, e5, e6, e7⟩ := hag c
  refine (Cert.FfnRefIdeal.Read.val_main_v45_eq m' c).trans ?_
  rw [e0, e1, e2, e3, e4, e5, e6, e7]
  exact ((Cert.FfnArray.final m c).trans (Cert.FfnRead.equation _ _ _ _ _ _ _ _)).symm

end Cert.FfnResult
-- ==== Proof.MlaEntry.lean ====
/- The arrays the blocks of the second latent attention are cut from, as the host lines prepare them: queries, keys and
   values of six heads laid out 128 lanes to a head; each read at one element. -/
module

public import proofs.«01_k».proof.Proof.Softmax
public import proofs.«01_k».proof.Proof.Gen.MlaLatIdeal.Frame
public import Idealize.ShloMosaic.Lib.Pipeline.ValueKit
public import Idealize.ShloMosaic.Lib.Pointwise

@[expose] public section

set_option maxRecDepth 16384

noncomputable section

namespace Cert.MlaEntry

open Cert.MlaLatIdeal Cert.MlaLatIdeal.Gen Idealize.ShloMosaic Idealize.ShloMosaic.TcCoe
open scoped BigOperators

/-! ## The arrays -/

/-- Six heads of 96 lanes laid out 128 lanes to a head, the added lanes zero. -/
def wide (x : FVec Ideal S36864x576 .f32) : FVec Ideal S36864x768 .f32 :=
  shapeCast S36864x768
    (pad S36864x6x128 ![0, 0, 0] ![0, 0, 32] ![0, 0, 0] (shapeCast S36864x6x96 x shapeCasts_S36864x576_S36864x6x96)
      (sitofp .f32 (constantI S_ 32 0#32)) pads_S36864x6x96_S36864x6x128_000_000_0320 h_S_)
    shapeCasts_S36864x6x128_S36864x768

/-- Six heads of 64 lanes laid out 128 lanes to a head, the added lanes zero. -/
def narrow (x : FVec Ideal S36864x384 .f32) : FVec Ideal S36864x768 .f32 :=
  shapeCast S36864x768
    (pad S36864x6x128 ![0, 0, 0] ![0, 0, 64] ![0, 0, 0] (shapeCast S36864x6x64 x shapeCasts_S36864x384_S36864x6x64)
      (sitofp .f32 (constantI S_ 32 0#32)) pads_S36864x6x64_S36864x6x128_000_000_0640 h_S_)
    shapeCasts_S36864x6x128_S36864x768

/-- The queries, times a constant. -/
def queries (x : FVec Ideal S36864x576 .f32) : FVec Ideal S36864x768 .bf16 :=
  truncf .bf16 (mulf (wide x) (broadcastInDim S36864x768 ![] bcast_S_S36864x768 (constant S_ .f32 0x3DD105EC#32)))
    bitsLt_bf16_f32

/-- The keys. -/
def keys (x : FVec Ideal S36864x576 .f32) : FVec Ideal S36864x768 .bf16 := truncf .bf16 (wide x) bitsLt_bf16_f32

/-- The divisor of the lane numbers. -/
def period : IVec S_ 32 :=
  select (cmpi .eq (constantI S_ 32 128#32) (constantI S_ 32 0#32)) (constantI S_ 32 1#32) (constantI S_ 32 128#32)

/-- The remainder of the column number as the hardware takes it. -/
def remRaw : IVec S768 32 := Host.remsi (iotaInDim S768 32 0) (broadcastInDim S768 ![] bcast_S_S768 period)

/-- The remainder with the sign of the divisor. -/
def rem : IVec S768 32 :=
  select
    (andi
      (cmpi .ne (cmpi .slt remRaw (broadcastInDim S768 ![] bcast_S_S768 (constantI S_ 32 0#32)))
        (broadcastInDim S768 ![] bcast_S_S768 (cmpi .slt period (constantI S_ 32 0#32))))
      (cmpi .ne remRaw (broadcastInDim S768 ![] bcast_S_S768 (constantI S_ 32 0#32))))
    (addi remRaw (broadcastInDim S768 ![] bcast_S_S768 period)) remRaw

/-- One in lane 64 of every head and zero elsewhere. -/
def ones : FVec Ideal S768 .f32 :=
  uitofp .f32 (cmpi .eq rem (broadcastInDim S768 ![] bcast_S_S768 (constantI S_ 32 64#32)))

/-- The values, with a one in lane 64 of every head. -/
def values (x : FVec Ideal S36864x384 .f32) : FVec Ideal S36864x768 .bf16 :=
  truncf .bf16
    (addf (narrow x)
      (broadcastInDim S36864x768 ![0, 1] bcast_S1x768_S36864x768_0_1
        (broadcastInDim S1x768 ![1] bcast_S768_S1x768_1 ones)))
    bitsLt_bf16_f32

/-! ## Read at one element -/

/-- The column of lane `l` of head `h`. -/
abbrev col (h : Fin 6) (l : Fin 128) : Fin 768 := ⟨128 * h.val + l.val, by omega⟩

/-- The column of lane `l` of head `h` of the queries or the keys before the layout. -/
abbrev col96 (h : Fin 6) (l : Fin 96) : Fin 576 := ⟨96 * h.val + l.val, by omega⟩

/-- The column of lane `l` of head `h` of the values before the layout. -/
abbrev col64 (h : Fin 6) (l : Fin 64) : Fin 384 := ⟨64 * h.val + l.val, by omega⟩

theorem zero_word : (FloatOps.sitofp .f32 0#32 : Ideal .f32) = (0 : EReal) := by
  change (((0#32 : BitVec 32).toInt : ℝ) : EReal) = 0
  simp

theorem wide_apply (x : FVec Ideal S36864x576 .f32) (r : Fin 36864) (h : Fin 6) (l : Fin 128) :
    wide x (ix2 r (col h l)) = if hl : l.val < 96 then x (ix2 r (col96 h ⟨l.val, hl⟩)) else 0 := by
  have hh := h.isLt
  have hl' := l.isLt
  have hd : (128 * h.val + l.val) / 128 = h.val := by omega
  have hm : (128 * h.val + l.val) % 128 = l.val := by omega
  pointwise [wide]
  by_cases hl : l.val < 96
  · rw [dif_pos (by rw [hd, hm]; exact ⟨hh, hl⟩), dif_pos hl]
    congr 2
    exact Fin.ext (by simp only [hd, hm]; omega)
  · rw [dif_neg (by rw [hm]; exact fun e => hl e.2), dif_neg hl, zero_word]

theorem narrow_apply (x : FVec Ideal S36864x384 .f32) (r : Fin 36864) (h : Fin 6) (l : Fin 128) :
    narrow x (ix2 r (col h l)) = if hl : l.val < 64 then x (ix2 r (col64 h ⟨l.val, hl⟩)) else 0 := by
  have hh := h.isLt
  have hl' := l.isLt
  have hd : (128 * h.val + l.val) / 128 = h.val := by omega
  have hm : (128 * h.val + l.val) % 128 = l.val := by omega
  pointwise [narrow]
  by_cases hl : l.val < 64
  · rw [dif_pos (by rw [hd, hm]; exact ⟨hh, hl⟩), dif_pos hl]
    congr 2
    exact Fin.ext (by simp only [hd, hm]; omega)
  · rw [dif_neg (by rw [hm]; exact fun e => hl e.2), dif_neg hl, zero_word]

theorem queries_apply (x : FVec Ideal S36864x576 .f32) (j : S36864x768.Idx) :
    queries x j = wide x j * Ideal.ofBits .f32 0x3DD105EC#32 := by
  pointwise [queries]

theorem keys_apply (x : FVec Ideal S36864x576 .f32) (j : S36864x768.Idx) : keys x j = wide x j := by
  pointwise [keys]

theorem rem_apply : ∀ k : Fin 768, rem (ix1 k) = BitVec.ofNat 32 (k.val % 128) := by
  decide +kernel

theorem ones_apply (h : Fin 6) (l : Fin 128) : ones (ix1 (col h l)) = (if l.val = 64 then 1 else 0 : EReal) := by
  have hl := l.isLt
  have hm : (128 * h.val + l.val) % 128 = l.val := by omega
  pointwise [ones]
  rw [rem_apply, hm]
  by_cases e : l.val = 64
  · rw [if_pos e, e]
    change ((((1#1 : BitVec 1)).toNat : ℝ) : EReal) = 1
    simp
  · rw [if_neg e]
    have : BitVec.ofNat 32 l.val ≠ 64#32 := by
      intro e2
      have e' := congrArg BitVec.toNat e2
      simp only [BitVec.toNat_ofNat] at e'
      rw [Nat.mod_eq_of_lt (by omega)] at e'
      exact e e'
    simp only [IntOp.cmpi, beq_eq_false_iff_ne.mpr this]
    change ((((0#1 : BitVec 1)).toNat : ℝ) : EReal) = 0
    simp

theorem values_apply (x : FVec Ideal S36864x384 .f32) (r : Fin 36864) (h : Fin 6) (l : Fin 128) :
    values x (ix2 r (col h l)) = narrow x (ix2 r (col h l)) + (if l.val = 64 then 1 else 0 : EReal) := by
  pointwise [values]
  exact congrArg (narrow x (ix2 r (col h l)) + ·) (ones_apply h l)

/-! ## They are what the call finds -/

section
variable (m : (ℓ : Loc nD τ sig) → Buf (Elt Ideal) ℓ) (c : Dev nD)

set_option maxHeartbeats 1000000 in
theorem entry_queries : V m c main_v11 = queries (m ((c : Thread nD τ).loc main_arg0)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf_toBuf]
  rfl

set_option maxHeartbeats 1000000 in
theorem entry_keys : V m c main_v15 = keys (m ((c : Thread nD τ).loc main_arg1)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf_toBuf]
  rfl

set_option maxHeartbeats 1000000 in
theorem entry_values : V m c main_v21 = values (m ((c : Thread nD τ).loc main_arg2)) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf_toBuf]
  rfl

end

end Cert.MlaEntry
-- ==== Proof.MlaBlock.lean ====
/- What one block of the second latent attention computes: six heads, each the weighted sum of the values over the sum of
   the weights, which lane 64 holds; side by side as the block that is stored; and that block at one row and one lane. -/
module

public import proofs.«01_k».proof.Proof.Attend
public import proofs.«01_k».proof.Proof.MlaEntry

@[expose] public section

set_option maxRecDepth 16384

noncomputable section

namespace Cert.MlaBlock

open Cert.MlaLatIdeal Cert.MlaLatIdeal.Gen Idealize.ShloMosaic
open Cert.Attend (lane accum normal dots mixed normal_apply accum_apply slt_lane select_ite)
open scoped BigOperators

/-! ## The vectors -/

/-- One head. -/
def head (q : FVec Ideal S1024x128 .bf16) (kl : FVec Ideal S2048x128 .bf16)
    (kc : FVec Ideal S256x128 .bf16) (vl : FVec Ideal S2048x128 .bf16) (vc : FVec Ideal S256x128 .bf16) :
    FVec Ideal S1024x128 .f32 :=
  select (cmpi .slt lane (broadcast S1024x128 64#32))
    (normal 64#32 (accum (shapeCast S1024x128 q shapeCasts_S1024x128_S1024x128) kl kc vl vc))
    (broadcast S1024x128 (Scalar.ofBits .f32 0x00000000#32))

/-- Six heads side by side. -/
def joined (a b c d e f : FVec Ideal S1024x128 .f32) : FVec Ideal S1024x768 .bf16 :=
  truncf .bf16
    (concatenate S1024x768 1 [⟨S1024x128, a⟩, ⟨S1024x128, b⟩, ⟨S1024x128, c⟩, ⟨S1024x128, d⟩, ⟨S1024x128, e⟩, ⟨S1024x128, f⟩]
      concatenates_S1024x128_S1024x128_S1024x128_S1024x128_S1024x128_S1024x128_S1024x768_d1) bitsLt_bf16_f32

/-! ## The stored block is the six heads -/

theorem head_zero (q : FVec Ideal S1024x128 .bf16) (kl : FVec Ideal S2048x128 .bf16)
    (kc : FVec Ideal S256x128 .bf16) (vl : FVec Ideal S2048x128 .bf16) (vc : FVec Ideal S256x128 .bf16) :
    k0_pay5 (F := Ideal) k0_pay2 (k0_pay3 q kc kl vl vc) (k0_pay4 q kc kl vl vc) =
      head q kl kc vl vc := rfl

theorem head_one (q : FVec Ideal S1024x128 .bf16) (kl : FVec Ideal S2048x128 .bf16)
    (kc : FVec Ideal S256x128 .bf16) (vl : FVec Ideal S2048x128 .bf16) (vc : FVec Ideal S256x128 .bf16) :
    k0_pay9 (F := Ideal) (k0_pay6 lane) (k0_pay7 q kc kl vl vc) (k0_pay8 lane q kc kl vl vc) =
      head q kl kc vl vc := rfl

theorem head_two (q : FVec Ideal S1024x128 .bf16) (kl : FVec Ideal S2048x128 .bf16)
    (kc : FVec Ideal S256x128 .bf16) (vl : FVec Ideal S2048x128 .bf16) (vc : FVec Ideal S256x128 .bf16) :
    k0_pay13 (F := Ideal) (k0_pay10 lane) (k0_pay11 q kc kl vl vc) (k0_pay12 lane q kc kl vl vc) =
      head q kl kc vl vc := rfl

theorem head_three (q : FVec Ideal S1024x128 .bf16) (kl : FVec Ideal S2048x128 .bf16)
    (kc : FVec Ideal S256x128 .bf16) (vl : FVec Ideal S2048x128 .bf16) (vc : FVec Ideal S256x128 .bf16) :
    k0_pay17 (F := Ideal) (k0_pay14 lane) (k0_pay15 q kc kl vl vc) (k0_pay16 lane q kc kl vl vc) =
      head q kl kc vl vc := rfl

theorem head_four (q : FVec Ideal S1024x128 .bf16) (kl : FVec Ideal S2048x128 .bf16)
    (kc : FVec Ideal S256x128 .bf16) (vl : FVec Ideal S2048x128 .bf16) (vc : FVec Ideal S256x128 .bf16) :
    k0_pay22 (F := Ideal) (k0_pay18 lane) (k0_pay19 q kc kl vl vc) (k0_pay20 lane) (k0_pay21 (F := Ideal)) =
      head q kl kc vl vc := rfl

theorem head_five (a b c d e : FVec Ideal S1024x128 .f32) (q : FVec Ideal S1024x128 .bf16) (kl : FVec Ideal S2048x128 .bf16)
    (kc : FVec Ideal S256x128 .bf16) (vl : FVec Ideal S2048x128 .bf16) (vc : FVec Ideal S256x128 .bf16) :
    k0_pay1 (F := Ideal) a b c d e (k0_pay23 lane) (k0_pay24 q kc kl vl vc) (k0_pay25 lane) (Scalar.ofBits .f32 0x00000000#32) =
      joined a b c d e (head q kl kc vl vc) := rfl

/-! ## Read at one row and one lane -/

/-- One row's attention: the weights of the scores, applied to the values, over what they sum to; zero off the lanes of
    the values. -/
def attention (q : Fin 128 → EReal) (kc : Fin 256 → Fin 128 → EReal) (kl : Fin 2048 → Fin 128 → EReal)
    (vc : Fin 256 → Fin 128 → EReal) (vl : Fin 2048 → Fin 128 → EReal) (l : Fin 128) : EReal :=
  if l.val < 64 then
    Ideal.div (mixed (dots q kc kl) (Softmax.join (fun t => vc t l) (fun t => vl t l)))
      (mixed (dots q kc kl) (Softmax.join (fun t => vc t 64) (fun t => vl t 64)))
  else 0

theorem cast_apply (q : FVec Ideal S1024x128 .bf16) (r : Fin 1024) (l : Fin 128) :
    shapeCast S1024x128 q shapeCasts_S1024x128_S1024x128 (ix2 r l) = q (ix2 r l) := by
  pointwise

/-- A vector on the lanes below 64, zero on the others. -/
theorem cut_apply (a : FVec Ideal S1024x128 .f32) (r : Fin 1024) (l : Fin 128) :
    select (cmpi .slt lane (broadcast S1024x128 64#32)) a (broadcast S1024x128 (Scalar.ofBits .f32 0x00000000#32)) (ix2 r l) =
      if l.val < 64 then a (ix2 r l) else 0 := by
  pointwise [lane]
  exact (congrArg (fun b => Scalar.select b _ _) (slt_lane l 64 (by decide))).trans (select_ite _ _ _)

theorem head_apply (q : FVec Ideal S1024x128 .bf16) (kl : FVec Ideal S2048x128 .bf16)
    (kc : FVec Ideal S256x128 .bf16) (vl : FVec Ideal S2048x128 .bf16) (vc : FVec Ideal S256x128 .bf16)
    (r : Fin 1024) (l : Fin 128) :
    head q kl kc vl vc (ix2 r l) =
      attention (fun d => q (ix2 r d)) (fun t d => kc (ix2 t d)) (fun t d => kl (ix2 t d)) (fun t d => vc (ix2 t d))
        (fun t d => vl (ix2 t d)) l := by
  refine (cut_apply _ r l).trans ?_
  unfold attention
  refine if_congr Iff.rfl ?_ rfl
  refine (normal_apply (one := 64) (accum (shapeCast S1024x128 q shapeCasts_S1024x128_S1024x128) kl kc vl vc) r l).trans ?_
  rw [accum_apply, accum_apply]
  simp only [cast_apply]

theorem joined_apply (a b c d e f : FVec Ideal S1024x128 .f32) (r : Fin 1024) (h : Fin 6) (l : Fin 128) :
    joined a b c d e f (ix2 r (MlaEntry.col h l)) = (![a, b, c, d, e, f] h) (ix2 r l) := by
  have hl := l.isLt
  pointwise [joined]
  fin_cases h
  · rw [dif_pos (by show 128 * 0 + l.val < 128; omega)]
    exact congrArg a (congrArg (ix2 r) (Fin.ext (by show 128 * 0 + l.val = l.val; omega)))
  · rw [dif_neg (by show ¬ 128 * 1 + l.val < 128; omega),
      dif_pos (by show 128 * 1 + l.val - 128 < 128; omega)]
    exact congrArg b (congrArg (ix2 r) (Fin.ext (by show 128 * 1 + l.val - 128 = l.val; omega)))
  · rw [dif_neg (by show ¬ 128 * 2 + l.val < 128; omega),
      dif_neg (by show ¬ 128 * 2 + l.val - 128 < 128; omega),
      dif_pos (by show 128 * 2 + l.val - 128 - 128 < 128; omega)]
    exact congrArg c (congrArg (ix2 r) (Fin.ext (by show 128 * 2 + l.val - 128 - 128 = l.val; omega)))
  · rw [dif_neg (by show ¬ 128 * 3 + l.val < 128; omega),
      dif_neg (by show ¬ 128 * 3 + l.val - 128 < 128; omega),
      dif_neg (by show ¬ 128 * 3 + l.val - 128 - 128 < 128; omega),
      dif_pos (by show 128 * 3 + l.val - 128 - 128 - 128 < 128; omega)]
    exact congrArg d (congrArg (ix2 r) (Fin.ext (by show 128 * 3 + l.val - 128 - 128 - 128 = l.val; omega)))
  · rw [dif_neg (by show ¬ 128 * 4 + l.val < 128; omega),
      dif_neg (by show ¬ 128 * 4 + l.val - 128 < 128; omega),
      dif_neg (by show ¬ 128 * 4 + l.val - 128 - 128 < 128; omega),
      dif_neg (by show ¬ 128 * 4 + l.val - 128 - 128 - 128 < 128; omega),
      dif_pos (by show 128 * 4 + l.val - 128 - 128 - 128 - 128 < 128; omega)]
    exact congrArg e (congrArg (ix2 r) (Fin.ext (by show 128 * 4 + l.val - 128 - 128 - 128 - 128 = l.val; omega)))
  · rw [dif_neg (by show ¬ 128 * 5 + l.val < 128; omega),
      dif_neg (by show ¬ 128 * 5 + l.val - 128 < 128; omega),
      dif_neg (by show ¬ 128 * 5 + l.val - 128 - 128 < 128; omega),
      dif_neg (by show ¬ 128 * 5 + l.val - 128 - 128 - 128 < 128; omega),
      dif_neg (by show ¬ 128 * 5 + l.val - 128 - 128 - 128 - 128 < 128; omega)]
    exact congrArg f (congrArg (ix2 r) (Fin.ext (by show 128 * 5 + l.val - 128 - 128 - 128 - 128 - 128 = l.val; omega)))

theorem joined_congr {a a' b b' c c' d d' e e' f : FVec Ideal S1024x128 .f32} (ha : a = a') (hb : b = b') (hc : c = c')
    (hd : d = d') (he : e = e') : joined a b c d e f = joined a' b' c' d' e' f := by rw [ha, hb, hc, hd, he]

/-- The entries of an operand under a rectangle. -/
def under {s : Shape} (x : FVec Ideal s .bf16) (R : Rect s) : FVec Ideal R.shape .bf16 :=
  View.ld (Val := Elt Ideal) (e' := .bf16) x R

theorem under_q0 (x : FVec Ideal S1024x768 .bf16) (r : Fin 1024) (d : Fin 128) :
    under x r0_0 (ix2 r d) = x (ix2 r (MlaEntry.col 0 d)) := by
  refine congrArg x (funext fun a => Fin.ext ?_)
  have hr := r.isLt
  have hd := d.isLt
  fin_cases a
  · show 0 + 1 * r.val = r.val
    omega
  · show 0 + 1 * d.val = 128 * 0 + d.val
    omega

theorem under_q1 (x : FVec Ideal S1024x768 .bf16) (r : Fin 1024) (d : Fin 128) :
    under x r0_3 (ix2 r d) = x (ix2 r (MlaEntry.col 1 d)) := by
  refine congrArg x (funext fun a => Fin.ext ?_)
  have hr := r.isLt
  have hd := d.isLt
  fin_cases a
  · show 0 + 1 * r.val = r.val
    omega
  · show 128 + 1 * d.val = 128 * 1 + d.val
    omega

theorem under_q2 (x : FVec Ideal S1024x768 .bf16) (r : Fin 1024) (d : Fin 128) :
    under x r0_6 (ix2 r d) = x (ix2 r (MlaEntry.col 2 d)) := by
  refine congrArg x (funext fun a => Fin.ext ?_)
  have hr := r.isLt
  have hd := d.isLt
  fin_cases a
  · show 0 + 1 * r.val = r.val
    omega
  · show 256 + 1 * d.val = 128 * 2 + d.val
    omega

theorem under_q3 (x : FVec Ideal S1024x768 .bf16) (r : Fin 1024) (d : Fin 128) :
    under x r0_9 (ix2 r d) = x (ix2 r (MlaEntry.col 3 d)) := by
  refine congrArg x (funext fun a => Fin.ext ?_)
  have hr := r.isLt
  have hd := d.isLt
  fin_cases a
  · show 0 + 1 * r.val = r.val
    omega
  · show 384 + 1 * d.val = 128 * 3 + d.val
    omega

theorem under_q4 (x : FVec Ideal S1024x768 .bf16) (r : Fin 1024) (d : Fin 128) :
    under x r0_12 (ix2 r d) = x (ix2 r (MlaEntry.col 4 d)) := by
  refine congrArg x (funext fun a => Fin.ext ?_)
  have hr := r.isLt
  have hd := d.isLt
  fin_cases a
  · show 0 + 1 * r.val = r.val
    omega
  · show 512 + 1 * d.val = 128 * 4 + d.val
    omega

theorem under_q5 (x : FVec Ideal S1024x768 .bf16) (r : Fin 1024) (d : Fin 128) :
    under x r0_15 (ix2 r d) = x (ix2 r (MlaEntry.col 5 d)) := by
  refine congrArg x (funext fun a => Fin.ext ?_)
  have hr := r.isLt
  have hd := d.isLt
  fin_cases a
  · show 0 + 1 * r.val = r.val
    omega
  · show 640 + 1 * d.val = 128 * 5 + d.val
    omega

theorem under_c0 (x : FVec Ideal S256x768 .bf16) (r : Fin 256) (d : Fin 128) :
    under x r0_1 (ix2 r d) = x (ix2 r (MlaEntry.col 0 d)) := by
  refine congrArg x (funext fun a => Fin.ext ?_)
  have hr := r.isLt
  have hd := d.isLt
  fin_cases a
  · show 0 + 1 * r.val = r.val
    omega
  · show 0 + 1 * d.val = 128 * 0 + d.val
    omega

theorem under_c1 (x : FVec Ideal S256x768 .bf16) (r : Fin 256) (d : Fin 128) :
    under x r0_4 (ix2 r d) = x (ix2 r (MlaEntry.col 1 d)) := by
  refine congrArg x (funext fun a => Fin.ext ?_)
  have hr := r.isLt
  have hd := d.isLt
  fin_cases a
  · show 0 + 1 * r.val = r.val
    omega
  · show 128 + 1 * d.val = 128 * 1 + d.val
    omega

theorem under_c2 (x : FVec Ideal S256x768 .bf16) (r : Fin 256) (d : Fin 128) :
    under x r0_7 (ix2 r d) = x (ix2 r (MlaEntry.col 2 d)) := by
  refine congrArg x (funext fun a => Fin.ext ?_)
  have hr := r.isLt
  have hd := d.isLt
  fin_cases a
  · show 0 + 1 * r.val = r.val
    omega
  · show 256 + 1 * d.val = 128 * 2 + d.val
    omega

theorem under_c3 (x : FVec Ideal S256x768 .bf16) (r : Fin 256) (d : Fin 128) :
    under x r0_10 (ix2 r d) = x (ix2 r (MlaEntry.col 3 d)) := by
  refine congrArg x (funext fun a => Fin.ext ?_)
  have hr := r.isLt
  have hd := d.isLt
  fin_cases a
  · show 0 + 1 * r.val = r.val
    omega
  · show 384 + 1 * d.val = 128 * 3 + d.val
    omega

theorem under_c4 (x : FVec Ideal S256x768 .bf16) (r : Fin 256) (d : Fin 128) :
    under x r0_13 (ix2 r d) = x (ix2 r (MlaEntry.col 4 d)) := by
  refine congrArg x (funext fun a => Fin.ext ?_)
  have hr := r.isLt
  have hd := d.isLt
  fin_cases a
  · show 0 + 1 * r.val = r.val
    omega
  · show 512 + 1 * d.val = 128 * 4 + d.val
    omega

theorem under_c5 (x : FVec Ideal S256x768 .bf16) (r : Fin 256) (d : Fin 128) :
    under x r0_16 (ix2 r d) = x (ix2 r (MlaEntry.col 5 d)) := by
  refine congrArg x (funext fun a => Fin.ext ?_)
  have hr := r.isLt
  have hd := d.isLt
  fin_cases a
  · show 0 + 1 * r.val = r.val
    omega
  · show 640 + 1 * d.val = 128 * 5 + d.val
    omega

theorem under_k0 (x : FVec Ideal S2048x768 .bf16) (r : Fin 2048) (d : Fin 128) :
    under x r0_2 (ix2 r d) = x (ix2 r (MlaEntry.col 0 d)) := by
  refine congrArg x (funext fun a => Fin.ext ?_)
  have hr := r.isLt
  have hd := d.isLt
  fin_cases a
  · show 0 + 1 * r.val = r.val
    omega
  · show 0 + 1 * d.val = 128 * 0 + d.val
    omega

theorem under_k1 (x : FVec Ideal S2048x768 .bf16) (r : Fin 2048) (d : Fin 128) :
    under x r0_5 (ix2 r d) = x (ix2 r (MlaEntry.col 1 d)) := by
  refine congrArg x (funext fun a => Fin.ext ?_)
  have hr := r.isLt
  have hd := d.isLt
  fin_cases a
  · show 0 + 1 * r.val = r.val
    omega
  · show 128 + 1 * d.val = 128 * 1 + d.val
    omega

theorem under_k2 (x : FVec Ideal S2048x768 .bf16) (r : Fin 2048) (d : Fin 128) :
    under x r0_8 (ix2 r d) = x (ix2 r (MlaEntry.col 2 d)) := by
  refine congrArg x (funext fun a => Fin.ext ?_)
  have hr := r.isLt
  have hd := d.isLt
  fin_cases a
  · show 0 + 1 * r.val = r.val
    omega
  · show 256 + 1 * d.val = 128 * 2 + d.val
    omega

theorem under_k3 (x : FVec Ideal S2048x768 .bf16) (r : Fin 2048) (d : Fin 128) :
    under x r0_11 (ix2 r d) = x (ix2 r (MlaEntry.col 3 d)) := by
  refine congrArg x (funext fun a => Fin.ext ?_)
  have hr := r.isLt
  have hd := d.isLt
  fin_cases a
  · show 0 + 1 * r.val = r.val
    omega
  · show 384 + 1 * d.val = 128 * 3 + d.val
    omega

theorem under_k4 (x : FVec Ideal S2048x768 .bf16) (r : Fin 2048) (d : Fin 128) :
    under x r0_14 (ix2 r d) = x (ix2 r (MlaEntry.col 4 d)) := by
  refine congrArg x (funext fun a => Fin.ext ?_)
  have hr := r.isLt
  have hd := d.isLt
  fin_cases a
  · show 0 + 1 * r.val = r.val
    omega
  · show 512 + 1 * d.val = 128 * 4 + d.val
    omega

theorem under_k5 (x : FVec Ideal S2048x768 .bf16) (r : Fin 2048) (d : Fin 128) :
    under x r0_17 (ix2 r d) = x (ix2 r (MlaEntry.col 5 d)) := by
  refine congrArg x (funext fun a => Fin.ext ?_)
  have hr := r.isLt
  have hd := d.isLt
  fin_cases a
  · show 0 + 1 * r.val = r.val
    omega
  · show 640 + 1 * d.val = 128 * 5 + d.val
    omega

set_option maxHeartbeats 1000000 in
/-- The block that is stored, as the six heads over their columns of the operands. -/
theorem stored (x0 : FVec Ideal S1024x768 .bf16) (x1 : FVec Ideal S2048x768 .bf16) (x2 : FVec Ideal S256x768 .bf16)
    (x3 : FVec Ideal S2048x768 .bf16) (x4 : FVec Ideal S256x768 .bf16) :
    out0_5 (F := Ideal) x0 x1 x2 x3 x4 =
      View.canon [⟨r0_18, joined
        (head (under x0 r0_0) (under x1 r0_2) (under x2 r0_1) (under x3 r0_2) (under x4 r0_1))
        (head (under x0 r0_3) (under x1 r0_5) (under x2 r0_4) (under x3 r0_5) (under x4 r0_4))
        (head (under x0 r0_6) (under x1 r0_8) (under x2 r0_7) (under x3 r0_8) (under x4 r0_7))
        (head (under x0 r0_9) (under x1 r0_11) (under x2 r0_10) (under x3 r0_11) (under x4 r0_10))
        (head (under x0 r0_12) (under x1 r0_14) (under x2 r0_13) (under x3 r0_14) (under x4 r0_13))
        (head (under x0 r0_15) (under x1 r0_17) (under x2 r0_16) (under x3 r0_17) (under x4 r0_16))⟩] := by
  unfold_out out0_5
  exact congrArg (fun p => View.canon [⟨r0_18, p⟩])
    ((head_five _ _ _ _ _ (under x0 r0_15) (under x1 r0_17) (under x2 r0_16) (under x3 r0_17) (under x4 r0_16)).trans
      (joined_congr (head_zero (under x0 r0_0) (under x1 r0_2) (under x2 r0_1) (under x3 r0_2) (under x4 r0_1))
        (head_one (under x0 r0_3) (under x1 r0_5) (under x2 r0_4) (under x3 r0_5) (under x4 r0_4))
        (head_two (under x0 r0_6) (under x1 r0_8) (under x2 r0_7) (under x3 r0_8) (under x4 r0_7))
        (head_three (under x0 r0_9) (under x1 r0_11) (under x2 r0_10) (under x3 r0_11) (under x4 r0_10))
        (head_four (under x0 r0_12) (under x1 r0_14) (under x2 r0_13) (under x3 r0_14) (under x4 r0_13))))

/-- One row and lane of the block that is stored. -/
theorem stored_apply (x0 : FVec Ideal S1024x768 .bf16) (x1 : FVec Ideal S2048x768 .bf16) (x2 : FVec Ideal S256x768 .bf16)
    (x3 : FVec Ideal S2048x768 .bf16) (x4 : FVec Ideal S256x768 .bf16) (r : Fin 1024) (h : Fin 6) (l : Fin 128) :
    out0_5 (F := Ideal) x0 x1 x2 x3 x4 (ix2 r (MlaEntry.col h l)) =
      attention (fun d => x0 (ix2 r (MlaEntry.col h d))) (fun t d => x2 (ix2 t (MlaEntry.col h d)))
        (fun t d => x1 (ix2 t (MlaEntry.col h d))) (fun t d => x4 (ix2 t (MlaEntry.col h d)))
        (fun t d => x3 (ix2 t (MlaEntry.col h d))) l := by
  rw [stored]
  frame_out
  refine (joined_apply _ _ _ _ _ _ r h l).trans ?_
  fin_cases h
  all_goals refine (head_apply _ _ _ _ _ r l).trans ?_
  · simp only [under_q0, under_c0, under_k0]; rfl
  · simp only [under_q1, under_c1, under_k1]; rfl
  · simp only [under_q2, under_c2, under_k2]; rfl
  · simp only [under_q3, under_c3, under_k3]; rfl
  · simp only [under_q4, under_c4, under_k4]; rfl
  · simp only [under_q5, under_c5, under_k5]; rfl

end Cert.MlaBlock
-- ==== Proof.MlaArray.lean ====
/- The array the second latent attention leaves: every row, head and lane of it as one function of the prepared queries,
   keys and values. -/
module

public import proofs.«01_k».proof.Proof.MlaBlock

@[expose] public section

set_option maxRecDepth 16384

noncomputable section

namespace Cert.MlaArray

open Cert.MlaLatIdeal Cert.MlaLatIdeal.Gen Cert.MlaBlock Idealize.ShloMosaic Idealize.ShloMosaic.TcCoe Idealize.SL.Sem
open Idealize.ShloMosaic.Pipeline (Dat)
open scoped BigOperators

/-- The row of the latent `t` of the sequence that row `R` belongs to. -/
def latRow (R : Fin 32768) (t : Fin 2048) : Fin 36864 := ⟨2048 * (R.val / 2048) + t.val, by omega⟩

/-- The row of the context `t` of the sequence that row `R` belongs to. -/
def ctxRow (R : Fin 32768) (t : Fin 256) : Fin 36864 := ⟨32768 + 256 * (R.val / 2048) + t.val, by omega⟩

/-- The row itself, among all the rows. -/
def ownRow (R : Fin 32768) : Fin 36864 := ⟨R.val, by omega⟩

/-- What is stored at lane `l` of head `h` of row `R`. -/
def rowOut (Q K W : FVec Ideal S36864x768 .bf16) (R : Fin 32768) (h : Fin 6) (l : Fin 128) : EReal :=
  attention (fun d => Q (ix2 (ownRow R) (MlaEntry.col h d)))
    (fun t d => K (ix2 (ctxRow R t) (MlaEntry.col h d))) (fun t d => K (ix2 (latRow R t) (MlaEntry.col h d)))
    (fun t d => W (ix2 (ctxRow R t) (MlaEntry.col h d))) (fun t d => W (ix2 (latRow R t) (MlaEntry.col h d))) l

/-- A block whose operands are the rows' own gives the rows' own entries. -/
theorem rowOut_of (Q K W : FVec Ideal S36864x768 .bf16)
    (x0 : FVec Ideal S1024x768 .bf16) (x1 : FVec Ideal S2048x768 .bf16) (x2 : FVec Ideal S256x768 .bf16)
    (x3 : FVec Ideal S2048x768 .bf16) (x4 : FVec Ideal S256x768 .bf16) (R : Fin 32768) (r : Fin 1024)
    (h0 : ∀ k, x0 (ix2 r k) = Q (ix2 (ownRow R) k)) (h1 : ∀ s k, x1 (ix2 s k) = K (ix2 (latRow R s) k))
    (h2 : ∀ s k, x2 (ix2 s k) = K (ix2 (ctxRow R s) k)) (h3 : ∀ s k, x3 (ix2 s k) = W (ix2 (latRow R s) k))
    (h4 : ∀ s k, x4 (ix2 s k) = W (ix2 (ctxRow R s) k)) (h : Fin 6) (l : Fin 128) :
    out0_5 (F := Ideal) x0 x1 x2 x3 x4 (ix2 r (MlaEntry.col h l)) = rowOut Q K W R h l := by
  rw [stored_apply, rowOut]
  simp only [h0, h1, h2, h3, h4]

/-- The whole array. -/
def whole (Q K W : FVec Ideal S36864x768 .bf16) : FVec Ideal S32768x768 .bf16 := fun i =>
  rowOut Q K W (i 0) ⟨(i 1).val / 128, by have := (i 1).isLt; change (i 1).val < 768 at this; omega⟩
    ⟨(i 1).val % 128, by omega⟩

variable (m : (ℓ : Loc nD τ sig) → Buf (Elt Ideal) ℓ)

/-- Which block each window takes at a grid point. -/
theorem idx : ∀ t : Fin cfg0.N, win0_0.index t = ![t.val, 0] ∧ win0_1.index t = ![t.val / 2, 0] ∧
    win0_2.index t = ![128 + t.val / 2, 0] ∧ win0_3.index t = ![t.val / 2, 0] ∧
    win0_4.index t = ![128 + t.val / 2, 0] ∧ win0_5.index t = ![t.val, 0] ∧ t.val < 32 :=
  (by decide +kernel : ∀ t : Fin grid0.N, _)

/-- The row of the array at row `r` of block `t`. -/
def rowAt (t : Fin cfg0.N) (r : Fin 1024) : Fin 32768 :=
  ⟨1024 * t.val + r.val, by have := (idx t).2.2.2.2.2.2; omega⟩

theorem blk0 (c : Dev nD) (t : Fin cfg0.N) (r : Fin 1024) (k : Fin 768) :
    (show FVec Ideal S1024x768 .bf16 from iblk m c 0 t) (ix2 r k) =
      (show FVec Ideal S36864x768 .bf16 from V m c main_v11) (ix2 (ownRow (rowAt t r)) k) := by
  blk_ext [iblk, idx t, ownRow, rowAt]

theorem blk1 (c : Dev nD) (t : Fin cfg0.N) (r : Fin 1024) (s : Fin 2048) (k : Fin 768) :
    (show FVec Ideal S2048x768 .bf16 from iblk m c 1 t) (ix2 s k) =
      (show FVec Ideal S36864x768 .bf16 from V m c main_v15) (ix2 (latRow (rowAt t r) s) k) := by
  blk_ext [iblk, idx t, latRow, rowAt]

theorem blk2 (c : Dev nD) (t : Fin cfg0.N) (r : Fin 1024) (s : Fin 256) (k : Fin 768) :
    (show FVec Ideal S256x768 .bf16 from iblk m c 2 t) (ix2 s k) =
      (show FVec Ideal S36864x768 .bf16 from V m c main_v15) (ix2 (ctxRow (rowAt t r) s) k) := by
  blk_ext [iblk, idx t, ctxRow, rowAt]

theorem blk3 (c : Dev nD) (t : Fin cfg0.N) (r : Fin 1024) (s : Fin 2048) (k : Fin 768) :
    (show FVec Ideal S2048x768 .bf16 from iblk m c 3 t) (ix2 s k) =
      (show FVec Ideal S36864x768 .bf16 from V m c main_v21) (ix2 (latRow (rowAt t r) s) k) := by
  blk_ext [iblk, idx t, latRow, rowAt]

theorem blk4 (c : Dev nD) (t : Fin cfg0.N) (r : Fin 1024) (s : Fin 256) (k : Fin 768) :
    (show FVec Ideal S256x768 .bf16 from iblk m c 4 t) (ix2 s k) =
      (show FVec Ideal S36864x768 .bf16 from V m c main_v21) (ix2 (ctxRow (rowAt t r) s) k) := by
  blk_ext [iblk, idx t, ctxRow, rowAt]

theorem point (c : Dev nD) (t : Fin cfg0.N) (r : Fin 1024) (h : Fin 6) (l : Fin 128) :
    out0_5 (F := Ideal) (iblk m c 0 t) (iblk m c 1 t) (iblk m c 2 t) (iblk m c 3 t) (iblk m c 4 t)
        (ix2 r (MlaEntry.col h l)) =
      rowOut (V m c main_v11) (V m c main_v15) (V m c main_v21) (rowAt t r) h l :=
  rowOut_of _ _ _ _ _ _ _ _ (rowAt t r) r (blk0 m c t r) (blk1 m c t r) (blk2 m c t r) (blk3 m c t r) (blk4 m c t r) h l

theorem split (k : Fin 768) :
    k = MlaEntry.col ⟨k.val / 128, by omega⟩ ⟨k.val % 128, by omega⟩ :=
  Fin.ext (by show k.val = 128 * (k.val / 128) + k.val % 128; omega)

theorem point' (c : Dev nD) (t : Fin cfg0.N) (r : Fin 1024) (k : Fin 768) :
    out0_5 (F := Ideal) (iblk m c 0 t) (iblk m c 1 t) (iblk m c 2 t) (iblk m c 3 t) (iblk m c 4 t) (ix2 r k) =
      whole (V m c main_v11) (V m c main_v15) (V m c main_v21) (ix2 (rowAt t r) k) :=
  (congrArg (fun k => out0_5 (F := Ideal) (iblk m c 0 t) (iblk m c 1 t) (iblk m c 2 t) (iblk m c 3 t) (iblk m c 4 t)
    (ix2 r k)) (split k)).trans (point m c t r _ _)

/-- The array after the run. -/
theorem final (c : Dev nD) : (dats m 0 c).arrAt 5 (cfgs 0).N =
    whole (V m c main_v11) (V m c main_v15) (V m c main_v21) := by
  refine (dats m 0 c).arrAt_eq_of_covers 5 _ (by decide +kernel) fun t _ y => ?_
  blk_simp
  rw [after0_5]
  have e : ((cfg0.win 5).blk t).view.emb y = ix2 (rowAt t (y 0)) (y 1) := by
    blk_ext [idx t, rowAt]
  have ey : y = ix2 (y 0) (y 1) := by blk_ext
  rw [e]
  exact (congrArg (out0_5 (F := Ideal) (iblk m c 0 t) (iblk m c 1 t) (iblk m c 2 t) (iblk m c 3 t) (iblk m c 4 t)) ey).trans
    (point' m c t (y 0) (y 1))

/-- The array after the run, from the arguments. -/
theorem final_args (c : Dev nD) : (dats m 0 c).arrAt 5 (cfgs 0).N =
    whole (MlaEntry.queries (m ((c : Thread nD τ).loc main_arg0))) (MlaEntry.keys (m ((c : Thread nD τ).loc main_arg1)))
      (MlaEntry.values (m ((c : Thread nD τ).loc main_arg2))) := by
  rw [final, MlaEntry.entry_queries, MlaEntry.entry_keys, MlaEntry.entry_values]

end Cert.MlaArray
-- ==== Proof.MlaRead.lean ====
/- The reference's second attention, read at one batch, head, position and lane: its queries, keys and values from the
   arguments, its scores, its weights and its result. -/
module

public import proofs.«01_k».proof.Proof.RefSoftmax
public import proofs.«01_k».proof.Proof.MlaEntry
public import proofs.«01_k».proof.Proof.Gen.MlaLatRefIdeal.Read

@[expose] public section

set_option maxRecDepth 16384

noncomputable section

namespace Cert.MlaRead

open Cert.MlaLatRefIdeal Cert.MlaLatRefIdeal.Gen Cert.MlaLatRefIdeal.Read Idealize.ShloMosaic
open Cert.MlaEntry (col96 col64)
open Cert.RefReads (lat ctx at2 at_join fold_of_eq dite_iff)
open scoped BigOperators

/-- A query: a row of its sequence, a lane of its head. -/
theorem q_read (x : FVec Ideal S36864x576 .f32) (b : Fin 16) (h : Fin 6) (s : Fin 2048) (d : Fin 96) :
    val_main_v2 (F := Ideal) x (ix4 b h s d) = x (ix2 (lat b s) (col96 h d)) := by
  pointwise [val_main_v2, val_main_v1, val_main_v0]
  exact at2 x (by show b.val * 2048 + s.val = 2048 * b.val + s.val; omega) (by show h.val * 96 + d.val = 96 * h.val + d.val; omega)

/-- The keys of a sequence: its context first, its latents after. -/
theorem k_read (x : FVec Ideal S36864x576 .f32) (b : Fin 16) (h : Fin 6) (t : Fin 2304) (d : Fin 96) :
    val_main_v9 (F := Ideal) x (ix4 b h t d) =
      Softmax.join (C := 256) (L := 2048) (fun t => x (ix2 (ctx b t) (col96 h d))) (fun t => x (ix2 (lat b t) (col96 h d))) t := by
  pointwise [val_main_v9, val_main_v8, val_main_v7, val_main_v6, val_main_v5, val_main_v4, val_main_v3]
  exact at_join
    (c := fun t : Fin 256 => x (ix2 ⟨32768 + (b.val * 256 + t.val), by omega⟩ ⟨h.val * 96 + d.val, by omega⟩))
    (l := fun t : Fin 2048 => x (ix2 ⟨b.val * 2048 + t.val, by omega⟩ ⟨h.val * 96 + d.val, by omega⟩)) (t := t)
    (fun k => at2 x (by show 32768 + (b.val * 256 + k.val) = 32768 + 256 * b.val + k.val; omega) (by show h.val * 96 + d.val = 96 * h.val + d.val; omega))
    (fun k => at2 x (by show b.val * 2048 + k.val = 2048 * b.val + k.val; omega) (by show h.val * 96 + d.val = 96 * h.val + d.val; omega))

/-- The values of a sequence, in the same order. -/
theorem v_read (x : FVec Ideal S36864x384 .f32) (b : Fin 16) (h : Fin 6) (t : Fin 2304) (d : Fin 64) :
    val_main_v16 (F := Ideal) x (ix4 b h t d) =
      Softmax.join (C := 256) (L := 2048) (fun t => x (ix2 (ctx b t) (col64 h d))) (fun t => x (ix2 (lat b t) (col64 h d))) t := by
  pointwise [val_main_v16, val_main_v15, val_main_v14, val_main_v13, val_main_v12, val_main_v11, val_main_v10]
  exact at_join
    (c := fun t : Fin 256 => x (ix2 ⟨32768 + (b.val * 256 + t.val), by omega⟩ ⟨h.val * 64 + d.val, by omega⟩))
    (l := fun t : Fin 2048 => x (ix2 ⟨b.val * 2048 + t.val, by omega⟩ ⟨h.val * 64 + d.val, by omega⟩)) (t := t)
    (fun k => at2 x (by show 32768 + (b.val * 256 + k.val) = 32768 + 256 * b.val + k.val; omega) (by show h.val * 64 + d.val = 64 * h.val + d.val; omega))
    (fun k => at2 x (by show b.val * 2048 + k.val = 2048 * b.val + k.val; omega) (by show h.val * 64 + d.val = 64 * h.val + d.val; omega))

/-- A score. -/
theorem s_read (x0 x1 : FVec Ideal S36864x576 .f32) (b : Fin 16) (h : Fin 6) (s : Fin 2048) (t : Fin 2304) :
    val_main_v19 (F := Ideal) x0 x1 (ix4 b h s t) =
      (∑ d : Fin 96, val_main_v2 (F := Ideal) x0 (ix4 b h s d) * val_main_v9 (F := Ideal) x1 (ix4 b h t d)) *
        Ideal.ofBits .f32 0x3DD105EC#32 := by
  pointwise [val_main_v19, val_main_v17, val_main_v18, val_main_cst]

variable (x0 x1 : FVec Ideal S36864x576 .f32) (x2 : FVec Ideal S36864x384 .f32) (b : Fin 16) (h : Fin 6) (s : Fin 2048)

/-- The host's maximum along the positions is the fold of the maximum over them, from its initial value. -/
theorem reduce_max (v : FVec Ideal S16x6x2048x2304 .f32) (c : FVec Ideal S_ .f32) :
    Host.reduce (FloatOps.maximumf (F := Ideal) (φ := .f32)) v c reducesTo_S16x6x2048x2304_S16x6x2048_d3 h_S_ (ix3 b h s) =
      (Finset.univ : Finset (Fin 2304)).fold max (c (Shape.Idx.first h_S_)) fun t => v (ix4 b h s t) := by
  rw [Host.reduce_eq_fold (FloatOps.maximumf (F := Ideal) (φ := .f32)), Shape.ReducesTo.fold_fiber_r4_a3]
  exact fold_of_eq (FloatOps.maximumf (F := Ideal) (φ := .f32)) rfl _ _

/-- The greatest score of a row. -/
theorem max_read :
    val_main_v22 (F := Ideal) x0 x1 (ix3 b h s) =
      max (Ideal.ofBits .f32 0xFF800000#32) ((Finset.univ : Finset (Fin 2304)).fold max (Ideal.ofBits .f32 0xFF800000#32)
        fun t => val_main_v19 (F := Ideal) x0 x1 (ix4 b h s t)) := by
  rw [val_main_v22_apply, val_main_v20, reduce_max]
  rfl

/-- Each weight before division: the exponential of a score less the greatest. -/
theorem exp_read (t : Fin 2304) :
    val_main_v26 (F := Ideal) x0 x1 (ix4 b h s t) =
      Ideal.exp (val_main_v19 (F := Ideal) x0 x1 (ix4 b h s t) - val_main_v22 (F := Ideal) x0 x1 (ix3 b h s)) := by
  pointwise [val_main_v26, val_main_v25, val_main_v24, val_main_v23]

/-- The sum of a row's exponentials. -/
theorem sum_read :
    val_main_v27 (F := Ideal) x0 x1 (ix3 b h s) = ∑ t : Fin 2304, val_main_v26 (F := Ideal) x0 x1 (ix4 b h s t) := by
  pointwise [val_main_v27, val_main_cst_2]

/-- Each weight: an exponential over their sum. -/
theorem weight_read (t : Fin 2304) :
    val_main_v30 (F := Ideal) x0 x1 (ix4 b h s t) =
      Ideal.div (val_main_v26 (F := Ideal) x0 x1 (ix4 b h s t)) (val_main_v27 (F := Ideal) x0 x1 (ix3 b h s)) := by
  pointwise [val_main_v30, val_main_v29, val_main_v28]

/-- The values under the weights. -/
theorem out_read (l : Fin 64) :
    val_main_v31 (F := Ideal) x0 x1 x2 (ix4 b h s l) =
      ∑ t : Fin 2304, val_main_v30 (F := Ideal) x0 x1 (ix4 b h s t) * val_main_v16 (F := Ideal) x2 (ix4 b h t l) := by
  pointwise [val_main_v31]

/-- The result at a row and a column: the head's values in its first 64 lanes, zero in the rest. -/
theorem result_read (R : Fin 32768) (k : Fin 768) :
    val_main_v35 (F := Ideal) x0 x1 x2 (ix2 R k) =
      if hl : k.val % 128 < 64 then
        val_main_v31 (F := Ideal) x0 x1 x2
          (ix4 ⟨R.val / 2048, by omega⟩ ⟨k.val / 128, by omega⟩ ⟨R.val % 2048, by omega⟩ ⟨k.val % 128, hl⟩)
      else 0 := by
  pointwise [val_main_v35, val_main_v34, val_main_v33, val_main_v32]
  have h0 : val_main_call0_v0 (F := Ideal) (Shape.Idx.first h_S_) = 0 := by
    change (((0#32 : BitVec 32).toInt : ℝ) : EReal) = 0
    simp
  have e : (R.val / 2048 < 16 ∧ R.val % 2048 < 2048 ∧ k.val / 128 < 6 ∧ k.val % 128 < 64) ↔ k.val % 128 < 64 :=
    ⟨fun g => g.2.2.2, fun g => ⟨by omega, by omega, by omega, g⟩⟩
  exact dite_iff e (fun _ _ => rfl) h0

end Cert.MlaRead
-- ==== Proof.MlaFinite.lean ====
/- What the second attention's precondition says of its queries and keys: every entry is an ordinary real number. -/
module

public import proofs.«01_k».proof.Proof.Finite
public import proofs.«01_k».proof.Proof.Gen.Pre_finite_qk

@[expose] public section

set_option maxRecDepth 16384

noncomputable section

namespace Cert.MlaFinite

open Idealize.ShloMosaic Cert.Pre_finite_qk Cert.Finite

theorem fn_apply (x0 x1 : FVec Ideal S36864x576 .f32) (x2 : FVec Ideal S36864x384 .f32) (r : Fin 36864) (k : Fin 576) :
    Cert.Pre_finite_qk.fn (F := Ideal) x0 x1 x2 (ix2 r k) = (bit (x0 (ix2 r k)) &&& bit (x1 (ix2 r k))) := by
  pointwise [Cert.Pre_finite_qk.fn]
  rfl

/-- Every entry of the queries and the keys is an ordinary real number. -/
theorem reals (x0 x1 : FVec Ideal S36864x576 .f32) (x2 : FVec Ideal S36864x384 .f32)
    (h : Cert.Pre_finite_qk.fn (F := Ideal) x0 x1 x2 = fun _ => 1#1) :
    (∀ r k, Softmax.IsReal (x0 (ix2 r k))) ∧ (∀ r k, Softmax.IsReal (x1 (ix2 r k))) := by
  have at2 : ∀ (r : Fin 36864) (k : Fin 576), _ := fun r k =>
    (fn_apply x0 x1 x2 r k).symm.trans (congrFun h (ix2 r k))
  exact ⟨fun r k => real_of_bit (and_bits (at2 r k)).1, fun r k => real_of_bit (and_bits (at2 r k)).2⟩

end Cert.MlaFinite
-- ==== Proof.MlaEquation.lean ====
/- The equation of the second attention: at every row and column, what the blocks leave is what the reference computes, for
   queries and keys of ordinary real numbers. -/
module

public import proofs.«01_k».proof.Proof.MlaArray
public import proofs.«01_k».proof.Proof.MlaRead
public import proofs.«01_k».proof.Proof.MlaFinite
public import proofs.«01_k».proof.Proof.Equation

@[expose] public section

set_option maxRecDepth 16384

noncomputable section

namespace Cert.MlaEquation

open Cert.MlaLatRefIdeal Cert.MlaLatRefIdeal.Read Idealize.ShloMosaic Cert.MlaArray Cert.MlaRead
open Cert.Attend (dots mixed)
open Cert.MlaBlock (attention)
open Cert.MlaEntry (queries keys values wide narrow col col96 col64)
open Cert.RefReads (lat ctx dite_iff)
open Cert.Rows (top join_one)
open Cert.Equation (seq pos join_congr join_map join_real)
open Cert.Softmax (IsReal)
open scoped BigOperators

/-- The queries' factor is a real number, and not negative. -/
theorem scale : ∃ c : ℝ, 0 ≤ c ∧ Ideal.ofBits .f32 0x3DD105EC#32 = (c : EReal) := by
  refine ⟨_, ?_, by simp [Ideal.ofBits, Ideal.ieee]; rfl⟩
  positivity

/-- The product of a query, scaled and padded, with a padded key is the product over its own lanes, scaled. -/
theorem dot_eq (q k : Fin 128 → EReal) (a b : Fin 96 → EReal) {c : ℝ} (hc : 0 ≤ c)
    (hq : ∀ d : Fin 96, q (Fin.castAdd 32 d) = a d * (c : EReal)) (hz : ∀ d : Fin 32, q (Fin.natAdd 96 d) = 0)
    (hk : ∀ d : Fin 96, k (Fin.castAdd 32 d) = b d) :
    ∑ d : Fin 128, q d * k d = (∑ d : Fin 96, a d * b d) * (c : EReal) := by
  refine (Softmax.sum_pad (n := 96) (p := 32) (fun d => q d * k d) fun d => ?_).trans ?_
  · show q _ * k _ = 0
    rw [hz, zero_mul]
  · rw [← Softmax.sum_mul_coe _ _ hc]
    refine Finset.sum_congr rfl fun d _ => ?_
    show q _ * k _ = _
    rw [hq, hk, mul_right_comm]

variable (x0 x1 : FVec Ideal S36864x576 .f32) (x2 : FVec Ideal S36864x384 .f32)
variable (R : Fin 32768) (h : Fin 6)

theorem own_eq : ownRow R = lat (seq R) (pos R) := Fin.ext (by show R.val = 2048 * (R.val / 2048) + R.val % 2048; omega)

theorem query_own (r : Fin 36864) (c : ℝ) (hc : Ideal.ofBits .f32 0x3DD105EC#32 = (c : EReal)) (d : Fin 96) :
    queries x0 (ix2 r (col h (Fin.castAdd 32 d))) = x0 (ix2 r (col96 h d)) * (c : EReal) := by
  have hd : (Fin.castAdd 32 d).val < 96 := d.isLt
  rw [MlaEntry.queries_apply, MlaEntry.wide_apply, dif_pos hd, hc]
  rfl

theorem query_rest (r : Fin 36864) (d : Fin 32) : queries x0 (ix2 r (col h (Fin.natAdd 96 d))) = 0 := by
  rw [MlaEntry.queries_apply, MlaEntry.wide_apply, dif_neg (by simp), zero_mul]

theorem key_own (r : Fin 36864) (d : Fin 96) : keys x1 (ix2 r (col h (Fin.castAdd 32 d))) = x1 (ix2 r (col96 h d)) := by
  have hd : (Fin.castAdd 32 d).val < 96 := d.isLt
  rw [MlaEntry.keys_apply, MlaEntry.wide_apply, dif_pos hd]
  rfl

theorem value_own (r : Fin 36864) (l : Fin 128) (hl : l.val < 64) :
    values x2 (ix2 r (col h l)) = x2 (ix2 r (col64 h ⟨l.val, hl⟩)) := by
  rw [MlaEntry.values_apply, MlaEntry.narrow_apply, dif_pos hl, if_neg (by omega), add_zero]

theorem value_one (r : Fin 36864) : values x2 (ix2 r (col h 64)) = 1 := by
  rw [MlaEntry.values_apply, MlaEntry.narrow_apply, dif_neg (by decide), if_pos (by decide), zero_add]

/-- The scores are the reference's. -/
theorem scores_eq :
    dots (fun d => queries x0 (ix2 (ownRow R) (col h d))) (fun t d => keys x1 (ix2 (ctxRow R t) (col h d)))
        (fun t d => keys x1 (ix2 (latRow R t) (col h d))) =
      fun t => val_main_v19 (F := Ideal) x0 x1 (ix4 (seq R) h (pos R) t) := by
  obtain ⟨c, hc, e⟩ := scale
  funext t
  rw [s_read, e]
  simp only [q_read, k_read]
  unfold dots
  rw [join_congr (fun t => dot_eq _ _ (fun k => x0 (ix2 (ownRow R) (col96 h k)))
      (fun k => x1 (ix2 (ctxRow R t) (col96 h k))) hc (query_own x0 h (ownRow R) c e) (query_rest x0 h (ownRow R)) (key_own x1 h (ctxRow R t)))
    (fun t => dot_eq _ _ (fun k => x0 (ix2 (ownRow R) (col96 h k)))
      (fun k => x1 (ix2 (latRow R t) (col96 h k))) hc (query_own x0 h (ownRow R) c e) (query_rest x0 h (ownRow R)) (key_own x1 h (latRow R t)))]
  rw [own_eq]
  refine (join_map (fun k : Fin 96 → EReal => (∑ d : Fin 96, x0 (ix2 (lat (seq R) (pos R)) (col96 h d)) * k d) * (c : EReal))
    (fun t d => x1 (ix2 (ctx (seq R) t) (col96 h d))) (fun t d => x1 (ix2 (lat (seq R) t) (col96 h d))) t).trans ?_
  refine congrArg (· * (c : EReal)) (Finset.sum_congr rfl fun d _ => ?_)
  exact congrArg (x0 (ix2 (lat (seq R) (pos R)) (col96 h d)) * ·)
    (join_map (fun k : Fin 96 → EReal => k d) (fun t d => x1 (ix2 (ctx (seq R) t) (col96 h d)))
      (fun t d => x1 (ix2 (lat (seq R) t) (col96 h d))) t).symm

/-- The values a row mixes are the reference's. -/
theorem values_eq (l : Fin 128) (hl : l.val < 64) :
    Softmax.join (fun t => values x2 (ix2 (ctxRow R t) (col h l))) (fun t => values x2 (ix2 (latRow R t) (col h l))) =
      fun t => val_main_v16 (F := Ideal) x2 (ix4 (seq R) h t ⟨l.val, hl⟩) := by
  funext t
  rw [v_read, join_congr (fun t => value_own x2 h (ctxRow R t) l hl) (fun t => value_own x2 h (latRow R t) l hl)]
  rfl

/-- The weighted sum over the sum kept in lane 64 is the weighted sum over the sum of the weights. -/
theorem attention_eq (q : Fin 128 → EReal) (kc : Fin 256 → Fin 128 → EReal) (kl : Fin 2048 → Fin 128 → EReal)
    (vc : Fin 256 → Fin 128 → EReal) (vl : Fin 2048 → Fin 128 → EReal) (l : Fin 128) (hl : l.val < 64)
    {s v : Fin (256 + 2048) → EReal}
    (hs : dots q kc kl = s) (hv : Softmax.join (fun t => vc t l) (fun t => vl t l) = v)
    (h1 : ∀ t, vc t 64 = 1) (h2 : ∀ t, vl t 64 = 1) :
    attention q kc kl vc vl l =
      Ideal.div (∑ k, Ideal.exp (s k - top s) * v k) (∑ k, Ideal.exp (s k - top s)) := by
  unfold attention mixed
  rw [if_pos hl, hs, hv, funext h1, funext h2]
  refine congrArg (Ideal.div _) (Finset.sum_congr rfl fun k _ => ?_)
  rw [join_one, mul_one]
  rfl

/-- Real scores: the weighted sum over the sum of the weights is the sum under the divided weights. -/
theorem softmax_eq {s v : Fin (256 + 2048) → EReal} (hs : ∀ k, IsReal (s k)) :
    Ideal.div (∑ k, Ideal.exp (s k - top s) * v k) (∑ k, Ideal.exp (s k - top s)) =
      ∑ k, Ideal.div (Ideal.exp (s k - top s)) (∑ k, Ideal.exp (s k - top s)) * v k := by
  have m : IsReal (top s) := IsReal.fold_max (by decide) hs
  obtain ⟨d, p, e⟩ := Softmax.expSum_pos (by decide) hs m
  rw [e]
  exact (Softmax.div_sum p _ _).symm

/-- A row's attention is the reference's. -/
theorem row_eq (h0 : ∀ r k, IsReal (x0 (ix2 r k))) (h1 : ∀ r k, IsReal (x1 (ix2 r k))) (l : Fin 128) :
    rowOut (queries x0) (keys x1) (values x2) R h l =
      if hl : l.val < 64 then val_main_v31 (F := Ideal) x0 x1 x2 (ix4 (seq R) h (pos R) ⟨l.val, hl⟩) else 0 := by
  unfold rowOut
  by_cases hl : l.val < 64
  swap
  · rw [dif_neg hl]
    unfold attention
    rw [if_neg hl]
  rw [dif_pos hl]
  rw [attention_eq _ _ _ _ _ l hl (scores_eq x0 x1 R h) (values_eq x2 R h l hl) (fun t => value_one x2 h _) (fun t => value_one x2 h _)]
  have rs : ∀ t, IsReal (val_main_v19 (F := Ideal) x0 x1 (ix4 (seq R) h (pos R) t)) := fun t => by
    obtain ⟨c, _, e⟩ := scale
    rw [s_read]
    refine (IsReal.sum _ fun d => ?_).mul ⟨c, e⟩
    rw [q_read, k_read]
    exact (h0 _ _).mul (join_real (C := 256) (L := 2048) (fun u => h1 (ctx (seq R) u) (col96 h d)) (fun u => h1 (lat (seq R) u) (col96 h d)) t)
  rw [softmax_eq rs, out_read]
  have m1 : val_main_v22 (F := Ideal) x0 x1 (ix3 (seq R) h (pos R)) =
      top fun t => val_main_v19 (F := Ideal) x0 x1 (ix4 (seq R) h (pos R) t) := by
    rw [max_read, Softmax.negInf]
    exact max_eq_right bot_le
  refine Finset.sum_congr rfl fun t _ => ?_
  rw [weight_read, sum_read]
  simp only [exp_read, m1]

/-- The array the blocks leave is the reference's result. -/
theorem equation (h0 : ∀ r k, IsReal (x0 (ix2 r k))) (h1 : ∀ r k, IsReal (x1 (ix2 r k))) :
    whole (queries x0) (keys x1) (values x2) = val_main_v35 (F := Ideal) x0 x1 x2 := by
  funext i
  obtain ⟨R, k, rfl⟩ : ∃ (R : Fin 32768) (k : Fin 768), i = ix2 R k := ⟨i 0, i 1, by funext a; fin_cases a <;> rfl⟩
  rw [result_read]
  have hk := k.isLt
  show rowOut _ _ _ R ⟨k.val / 128, by omega⟩ ⟨k.val % 128, by omega⟩ = _
  rw [row_eq x0 x1 x2 R _ h0 h1]

end Cert.MlaEquation
-- ==== Proof.MlaResult.lean ====
/- The claims on the second latent attention: the program and its idealised form run and keep their arguments, the
   reference does, and the two idealised programs end with equal results wherever the arguments are finite. -/
module

public import proofs.«01_k».proof.Defs
public import proofs.«01_k».proof.Proof.MlaEquation
public import proofs.«01_k».proof.Proof.Gen.MlaLat.Frame
public import proofs.«01_k».proof.Proof.Gen.MlaLatIdeal.Value
public import proofs.«01_k».proof.Proof.Gen.MlaLatRefIdeal.Run

@[expose] public section

set_option maxRecDepth 16384

noncomputable section

namespace Cert.MlaResult

open Idealize.ShloMosaic Idealize.SL.Sem

/-- The program runs and keeps its arguments. -/
theorem frame : Cert.quiescent_MlaLat (hMlaLat := Cert.MlaLat.Gen.facts) := fun m ρ _ => Cert.MlaLat.Gen.frame m ρ

/-- Its idealised form runs and keeps its arguments. -/
theorem frameIdeal : Cert.quiescent_MlaLatIdeal (hMlaLatIdeal := Cert.MlaLatIdeal.Gen.facts) := fun m ρ _ =>
  Cert.MlaLatIdeal.Gen.frame m ρ

/-- And so it does from finite arguments. -/
theorem frameIdealFinite : Cert.quiescent_MlaLatIdeal_pre_finite_qk (hMlaLatIdeal := Cert.MlaLatIdeal.Gen.facts)
    (hPre_finite_qk := Cert.Pre_finite_qk.Gen.facts) := fun m ρ _ => Cert.MlaLatIdeal.Gen.frame m ρ

/-- The reference runs and keeps its arguments. -/
theorem frameRef : Cert.quiescent_MlaLatRefIdeal (hMlaLatRefIdeal := Cert.MlaLatRefIdeal.Gen.facts) := fun m ρ _ =>
  (θ_run _ _ _).mono (fun r h => ⟨fun c => (h c).2, sem_eq_zero_of_no_sems (by decide) r.2⟩)
    (Cert.MlaLatRefIdeal.Value.run (F := Ideal) m ρ)

/-- And so it does from finite arguments. -/
theorem frameRefFinite : Cert.quiescent_MlaLatRefIdeal_pre_finite_qk (hMlaLatRefIdeal := Cert.MlaLatRefIdeal.Gen.facts)
    (hPre_finite_qk := Cert.Pre_finite_qk.Gen.facts) := fun m ρ _ =>
  (θ_run _ _ _).mono (fun r h => ⟨fun c => (h c).2, sem_eq_zero_of_no_sems (by decide) r.2⟩)
    (Cert.MlaLatRefIdeal.Value.run (F := Ideal) m ρ)

/-- No literal is named: there is nothing to preserve. -/
theorem preserves : Cert.preserves_MlaLat_MlaLatIdeal := trivial

/-- The idealised program and the reference end with equal results. -/
theorem algebraic : Cert.algebraic_MlaLatIdeal_MlaLatRefIdeal_pre_finite_qk (hMlaLatIdeal := Cert.MlaLatIdeal.Gen.facts)
    (hMlaLatRefIdeal := Cert.MlaLatRefIdeal.Gen.facts) (hPre_finite_qk := Cert.Pre_finite_qk.Gen.facts) := by
  intro m ρ m' ρ' hpre hag
  refine ⟨fun c => (Cert.MlaLatIdeal.Gen.dats m 0 c).arrAt 5 Cert.MlaLatIdeal.cfg0.N, Cert.MlaLatIdeal.Value.run_blocks m ρ,
    (θ_run _ _ _).mono (fun _ h c => ⟨(h c).1.trans ?_, (h c).2⟩) (Cert.MlaLatRefIdeal.Value.run m' ρ')⟩
  obtain ⟨e0, e1, e2⟩ := hag c
  obtain ⟨h0, h1⟩ := Cert.MlaFinite.reals _ _ _ (hpre c)
  refine (Cert.MlaLatRefIdeal.Read.val_main_v35_eq m' c).trans ?_
  rw [e0, e1, e2]
  exact ((Cert.MlaArray.final_args m c).trans (Cert.MlaEquation.equation _ _ _ h0 h1)).symm

end Cert.MlaResult
-- ==== Proof.ExpWords.lean ====
/- The two tables of the grouped network: what a valid pair of tables says of their words. -/
module

public import proofs.«01_k».proof.Proof.Gen.Pre_tables
public import Idealize.ShloMosaic.Lib.WordArith
public import Idealize.ShloMosaic.Lib.Pointwise

@[expose] public section

noncomputable section

namespace Cert.ExpWords

open Idealize.ShloMosaic Cert.Pre_tables

theorem both : ∀ a b : BitVec 1, IntOp.andi a b = 1#1 → a = 1#1 ∧ b = 1#1 := by decide

theorem holds : ∀ b : Bool, BitVec.ofBool b = 1#1 → b = true := by decide

/-- A word from 0 to 15. -/
theorem slot_lt (w : BitVec 32) (h0 : IntOp.cmpi .sge w 0#32 = 1#1) (h1 : IntOp.cmpi .slt w 16#32 = 1#1) : w.toNat < 16 := by
  have a : (0#32).sle w = true := holds _ h0
  have b : w.slt 16#32 = true := holds _ h1
  rw [BitVec.sle_iff_toInt_le] at a
  rw [BitVec.slt_iff_toInt_lt] at b
  have e := BitVec.toInt_eq_toNat_cond w
  simp at a b
  split at e <;> omega

/-- A positive word. -/
theorem one_le (w : BitVec 32) (h : IntOp.cmpi .sge w 1#32 = 1#1) : 1 ≤ w.toNat ∧ w.toNat < 2 ^ 31 := by
  have a : (1#32).sle w = true := holds _ h
  rw [BitVec.sle_iff_toInt_le] at a
  have e := BitVec.toInt_eq_toNat_cond w
  simp at a
  split at e <;> omega

/-- What the precondition says: every entry of the first table is below 16, and the count is at least one. -/
theorem decoded {F : FTy → Type} [FloatOps F] {be : IVec S152 32} {na : IVec S1 32} {rows : FVec F S622592x128 .f32}
    {wg wu : FVec F S16x1024x2816 .bf16} {wd : FVec F S16x2816x1024 .bf16}
    (h : fn (F := F) be na rows wg wu wd = fun _ => 1#1) :
    (∀ i : Fin 152, (be (ix1 i)).toNat < 16) ∧ 1 ≤ (na (ix1 (0 : Fin 1))).toNat ∧ (na (ix1 (0 : Fin 1))).toNat < 2 ^ 31 := by
  have e : ∀ i : Fin 152, IntOp.andi (IntOp.andi (IntOp.cmpi .sge (be (ix1 i)) 0#32) (IntOp.cmpi .slt (be (ix1 i)) 16#32))
      (IntOp.cmpi .sge (na (ix1 (0 : Fin 1))) 1#32) = 1#1 := by
    intro i
    refine Eq.trans ?_ (congrFun h (ix1 i))
    symm
    pointwise [fn]
  exact ⟨fun i => slot_lt _ (both _ _ (both _ _ (e i)).1).1 (both _ _ (both _ _ (e i)).1).2,
    one_le _ (both _ _ (e 0)).2⟩

/-- The block of rows a grid point reads: its own while it is active. -/
theorem block_of (i : Nat) (hi : i < 152) (w : BitVec 32) (h1 : 1 ≤ w.toNat) (h2 : w.toNat < 2 ^ 31) :
    (Scalar.minsi (BitVec.ofNat 32 i) (Scalar.subi w 1#32)).toNat = min i (w.toNat - 1) := by
  have e : (Scalar.subi w 1#32).toNat = w.toNat - 1 := by
    show (w - 1#32).toNat = _
    rw [BitVec.toNat_sub]
    simp
    omega
  refine (WordArith.toNat_minsi_of_lt _ _ (by simp; omega) (by omega)).trans ?_
  rw [e, BitVec.toNat_ofNat]
  omega

/-- A grid point is active when it is below the count. -/
theorem active_iff (i : Nat) (hi : i < 152) (w : BitVec 32) (h2 : w.toNat < 2 ^ 31) :
    (Scalar.cmpi .ne (Scalar.extui (Scalar.cmpi .slt (BitVec.ofNat 32 i) w)) 0#32 : BitVec 1) = 1#1 ↔ i < w.toNat := by
  have e : (BitVec.ofNat 32 i).slt w = decide (i < w.toNat) := by
    have a := BitVec.toInt_eq_toNat_of_lt (x := w) (by omega)
    have b := BitVec.toInt_eq_toNat_of_lt (x := BitVec.ofNat 32 i) (by simp; omega)
    rw [Bool.eq_iff_iff, BitVec.slt_iff_toInt_lt, a, b]
    simp
    omega
  show IntOp.cmpi .ne (BitVec.setWidth 32 (BitVec.ofBool ((BitVec.ofNat 32 i).slt w))) 0#32 = 1#1 ↔ _
  rw [e]
  by_cases h : i < w.toNat
  · simp [h, IntOp.cmpi]
  · simp [h, IntOp.cmpi]

end Cert.ExpWords
-- ==== Proof.ExpOk.lean ====
/- The prefetched tables name blocks inside their arrays. -/
module

public import proofs.«01_k».proof.Proof.Gen.ExpertsIdeal.Frame
public import proofs.«01_k».proof.Proof.ExpWords
public import proofs.«01_k».proof.Defs

@[expose] public section

set_option maxRecDepth 16384

noncomputable section

namespace Cert.ExpOk

open Cert.ExpertsIdeal Cert.ExpertsIdeal.Gen Idealize.ShloMosaic Idealize.ShloMosaic.TcCoe Idealize.SL.Sem

variable (m : (ℓ : Loc nD τ sig) → Buf (Elt Ideal) ℓ)

/-- The slot the first table names for block `i`. -/
def slot (i : Fin 152) : BitVec 32 := (show IVec S152 32 from tbl m 0) (ix1 i)

/-- How many blocks are active. -/
def count : BitVec 32 := (show IVec S1 32 from tbl m 1) (ix1 (0 : Fin 1))

/-- The precondition on the tables as they are found. -/
theorem bounds (h : Cert.Pre_ExpertsIdeal m) : (∀ i, (slot m i).toNat < 16) ∧ 1 ≤ (count m).toNat ∧ (count m).toNat < 2 ^ 31 :=
  ExpWords.decoded (h 0)

/-- The first axis of a block of the stacked weights is the slot its block names. -/
theorem slot_eq (i : grid0.Coords) :
    (Scalar.addi 0#32 ((tbl m).at 0 (Rect.unit (s := S152) ![(Scalar.indexCast (BitVec.ofNat 32 (i 0).val)).toNat] S1.size (k0_off1_inb i)) numel1_S1) : BitVec 32) = slot m (i 0) := by
  refine (BitVec.zero_add _).trans ?_
  refine congrArg (show IVec S152 32 from tbl m 0) (funext fun a => Fin.ext ?_)
  fin_cases a
  show (BitVec.ofNat 32 (i 0).val).toNat + 1 * 0 = (i 0).val
  have : (i 0).val < 152 := (i 0).isLt
  rw [BitVec.toNat_ofNat]
  omega

/-- The word the second table holds is the count. -/
theorem count_eq : ((tbl m).at 1 (Rect.unit (s := S1) ![0] S1.size inb_S1_S1_0) numel1_S1 : BitVec 32) = count m := by
  refine congrArg (show IVec S1 32 from tbl m 1) (funext fun a => Fin.ext ?_)
  fin_cases a
  rfl

/-- The block of rows point `i` reads. -/
theorem rows_ix (h : Cert.Pre_ExpertsIdeal m) (i : grid0.Coords) :
    cc0_transform_0 inb_S1_S1_0 numel1_S1 (tbl m) i = ![min (i 0).val ((count m).toNat - 1), 0] := by
  unfold cc0_transform_0
  dsimp only
  rw [count_eq, ExpWords.block_of _ (i 0).isLt _ (bounds m h).2.1 (bounds m h).2.2]
  rfl

/-- The blocks of weights point `i` reads. -/
theorem gate_ix (i : grid0.Coords) : cc0_transform_1 k0_off1_inb numel1_S1 (tbl m) i = ![(slot m (i 0)).toNat, 0, 0] := by
  unfold cc0_transform_1
  dsimp only
  rw [slot_eq]
  rfl

theorem up_ix (i : grid0.Coords) : cc0_transform_2 k0_off1_inb numel1_S1 (tbl m) i = ![(slot m (i 0)).toNat, 0, 0] := by
  unfold cc0_transform_2
  dsimp only
  rw [slot_eq]
  rfl

theorem down_ix (i : grid0.Coords) : cc0_transform_3 k0_off1_inb numel1_S1 (tbl m) i = ![(slot m (i 0)).toNat, 0, 0] := by
  unfold cc0_transform_3
  dsimp only
  rw [slot_eq]
  rfl

/-- Every block the tables name is inside its array. -/
theorem ok (h : Cert.Pre_ExpertsIdeal m) : Gen.Ok m := by
  have b := bounds m h
  refine ⟨fun i => ⟨?_, Or.inl rfl⟩, fun i => ⟨?_, Or.inr (Affine.block_words_rows (by decide) rfl)⟩,
    fun i => ⟨?_, Or.inr (Affine.block_words_rows (by decide) rfl)⟩, fun i => ⟨?_, Or.inr (Affine.block_words_rows (by decide) rfl)⟩⟩
  · intro a
    rw [rows_ix m h i]
    have : (i 0).val < 152 := (i 0).isLt
    fin_cases a
    · show (min (i 0).val ((count m).toNat - 1) + 1) * 4096 ≤ 622592
      omega
    · show (0 + 1) * 128 ≤ 128
      omega
  · intro a
    rw [gate_ix m i]
    have := b.1 (i 0)
    fin_cases a
    · show ((slot m (i 0)).toNat + 1) * 1 ≤ 16
      omega
    · show (0 + 1) * 1024 ≤ 1024
      omega
    · show (0 + 1) * 2816 ≤ 2816
      omega
  · intro a
    rw [up_ix m i]
    have := b.1 (i 0)
    fin_cases a
    · show ((slot m (i 0)).toNat + 1) * 1 ≤ 16
      omega
    · show (0 + 1) * 1024 ≤ 1024
      omega
    · show (0 + 1) * 2816 ≤ 2816
      omega
  · intro a
    rw [down_ix m i]
    have := b.1 (i 0)
    fin_cases a
    · show ((slot m (i 0)).toNat + 1) * 1 ≤ 16
      omega
    · show (0 + 1) * 2816 ≤ 2816
      omega
    · show (0 + 1) * 1024 ≤ 1024
      omega

end Cert.ExpOk
-- ==== Proof.ExpBlock.lean ====
/- One block of the expert network read at one row and one lane. -/
module

public import proofs.«01_k».proof.Proof.Gen.ExpertsIdeal.Frame
public import proofs.«01_k».proof.Proof.FfnBlock
public import Idealize.ShloMosaic.Lib.WholeRead

@[expose] public section

set_option maxRecDepth 16384

noncomputable section

namespace Cert.ExpBlock

open Cert.ExpertsIdeal Cert.ExpertsIdeal.Gen Idealize.ShloMosaic Idealize.ShloMosaic.TcCoe Idealize.SL.Sem
open Idealize.ShloMosaic.Pipeline (Dat)
open scoped BigOperators

/-- A block of rows, each row kept as eight pieces of 128 lanes one under the other, laid out one row to a line. -/
def tiled (x : FVec Ideal S4096x128 .f32) : FVec Ideal S512x1024 .bf16 := fun i =>
  x (ix2 (⟨8 * (i 0).val + (i 1).val / 128, by have h0 : (i 0).val < 512 := (i 0).isLt; have h1 : (i 1).val < 1024 := (i 1).isLt; omega⟩ : Fin 4096)
    (⟨(i 1).val % 128, Nat.mod_lt _ (by decide)⟩ : Fin 128))

/-- The hidden units of a block of rows. -/
def hidden (x0 : FVec Ideal S512x1024 .bf16) (x1 x2 : FVec Ideal S1x1024x2816 .bf16) : FVec Ideal S512x2816 .bf16 := fun i =>
  FfnBlock.unit (fun k => x0 (ix2 (i 0) k)) (fun k => x1 (ix3 (0 : Fin 1) k (i 1))) (fun k => x2 (ix3 (0 : Fin 1) k (i 1)))

/-- A lane of piece `j` in its row. -/
theorem tiled_at (x : FVec Ideal S4096x128 .f32) (r : Fin 512) (k : Fin 1024) (j : Nat) (l : Fin 128) (hj : j < 8)
    (h : k.val = 128 * j + l.val) :
    x (ix2 (⟨8 * r.val + j, by omega⟩ : Fin 4096) l) = tiled x (ix2 r k) := by
  refine congrArg x ?_
  have a : k.val / 128 = j := by omega
  have b : k.val % 128 = l.val := by omega
  exact congrArg₂ ix2 (Fin.ext (by show _ = 8 * r.val + k.val / 128; rw [a])) (Fin.ext b.symm)

/-- The eight pieces side by side are the rows. -/
theorem tile_apply (x : FVec Ideal S4096x128 .f32) (v0 v1 v2 v3 v4 v5 v6 v7 : FVec Ideal S512x128 .f32)
    (h0 : ∀ (r : Fin 512) (l : Fin 128), v0 (ix2 r l) = x (ix2 (⟨8 * r.val + 0, by omega⟩ : Fin 4096) l))
    (h1 : ∀ (r : Fin 512) (l : Fin 128), v1 (ix2 r l) = x (ix2 (⟨8 * r.val + 1, by omega⟩ : Fin 4096) l))
    (h2 : ∀ (r : Fin 512) (l : Fin 128), v2 (ix2 r l) = x (ix2 (⟨8 * r.val + 2, by omega⟩ : Fin 4096) l))
    (h3 : ∀ (r : Fin 512) (l : Fin 128), v3 (ix2 r l) = x (ix2 (⟨8 * r.val + 3, by omega⟩ : Fin 4096) l))
    (h4 : ∀ (r : Fin 512) (l : Fin 128), v4 (ix2 r l) = x (ix2 (⟨8 * r.val + 4, by omega⟩ : Fin 4096) l))
    (h5 : ∀ (r : Fin 512) (l : Fin 128), v5 (ix2 r l) = x (ix2 (⟨8 * r.val + 5, by omega⟩ : Fin 4096) l))
    (h6 : ∀ (r : Fin 512) (l : Fin 128), v6 (ix2 r l) = x (ix2 (⟨8 * r.val + 6, by omega⟩ : Fin 4096) l))
    (h7 : ∀ (r : Fin 512) (l : Fin 128), v7 (ix2 r l) = x (ix2 (⟨8 * r.val + 7, by omega⟩ : Fin 4096) l))
    (r : Fin 512) (k : Fin 1024) :
    k0_pay4 (F := Ideal) v0 v1 v2 v3 v4 v5 v6 v7 (ix2 r k) = tiled x (ix2 r k) := by
  have hk : k.val < 1024 := k.isLt
  pointwise [k0_pay4]
  split_ifs <;>
  first
  | exact (h0 _ _).trans (tiled_at x r k 0 _ (by decide) (by dsimp only; omega))
  | exact (h1 _ _).trans (tiled_at x r k 1 _ (by decide) (by dsimp only; omega))
  | exact (h2 _ _).trans (tiled_at x r k 2 _ (by decide) (by dsimp only; omega))
  | exact (h3 _ _).trans (tiled_at x r k 3 _ (by decide) (by dsimp only; omega))
  | exact (h4 _ _).trans (tiled_at x r k 4 _ (by decide) (by dsimp only; omega))
  | exact (h5 _ _).trans (tiled_at x r k 5 _ (by decide) (by dsimp only; omega))
  | exact (h6 _ _).trans (tiled_at x r k 6 _ (by decide) (by dsimp only; omega))
  | exact (h7 _ _).trans (tiled_at x r k 7 _ (by decide) (by dsimp only; omega))

/-- The hidden units of 256 columns. -/
theorem slice_apply (v : FVec Ideal S512x1024 .bf16) (a b : FVec Ideal S1x1024x256 .bf16) (r : Fin 512) (f : Fin 256) :
    k0_pay2 (F := Ideal) v a b (ix2 r f) =
      FfnBlock.unit (fun k => v (ix2 r k)) (fun k => a (ix3 (0 : Fin 1) k f)) (fun k => b (ix3 (0 : Fin 1) k f)) := by
  pointwise [k0_pay2, FfnBlock.unit]
  rw [zero_sub]

/-- They are the hidden units at their place. -/
theorem slice_at (o : Nat) {v x0 : FVec Ideal S512x1024 .bf16} {w1 w2 x1 x2 : FVec Ideal S1x1024x2816 .bf16}
    (hv : v = x0) (h1 : w1 = x1) (h2 : w2 = x2)
    (inb : ∀ a, (![0, 0, o] : Fin 3 → Nat) a + (![1, 1024, 256] : Fin 3 → Nat) a ≤ S1x1024x2816.size a)
    (x : S512x256.Idx) (y : S512x2816.Idx) (e0 : (y 0 : Nat) = x 0) (e1 : (y 1 : Nat) = o + x 1) :
    k0_pay2 (F := Ideal) v
        (View.ld (Val := Elt Ideal) (e' := .bf16) w1 (Rect.unit (s := S1x1024x2816) ![0, 0, o] ![1, 1024, 256] inb))
        (View.ld (Val := Elt Ideal) (e' := .bf16) w2 (Rect.unit (s := S1x1024x2816) ![0, 0, o] ![1, 1024, 256] inb)) x =
      hidden x0 x1 x2 y := by
  subst hv h1 h2
  have e0' : y 0 = x 0 := Fin.ext e0
  have ex : x = ix2 (x 0) (x 1) := by blk_ext
  have er : ∀ (w : FVec Ideal S1x1024x2816 .bf16) (k : Fin 1024),
      View.ld (Val := Elt Ideal) (e' := .bf16) w (Rect.unit (s := S1x1024x2816) ![0, 0, o] ![1, 1024, 256] inb)
        (ix3 (0 : Fin 1) k (x 1)) = w (ix3 (0 : Fin 1) k (y 1)) := by
    intro w k
    refine congrArg w (funext fun a => Fin.ext ?_)
    fin_cases a
    · show 0 + 1 * 0 = 0
      omega
    · show 0 + 1 * k.val = k.val
      omega
    · show o + 1 * (x 1).val = (y 1).val
      omega
  rw [ex]
  refine (slice_apply v _ _ (x 0) (x 1)).trans ?_
  rw [hidden, e0']
  exact congrArg₂ (FfnBlock.unit _) (funext (er w1)) (funext (er w2))

/-- The entry of a block's result at piece `c`, lane `l` of row `r`. -/
theorem last_apply (s : FVec Ideal S512x2816 .bf16) (x3 : FVec Ideal S1x2816x1024 .bf16) (r : Fin 512) (c : Fin 8) (l : Fin 128) :
    k0_pay3 (F := Ideal) s x3 (ix2 (⟨8 * r.val + c.val, by omega⟩ : Fin 4096) l) =
      ∑ f : Fin 2816, s (ix2 r f) * x3 (ix3 (0 : Fin 1) f (⟨128 * c.val + l.val, by omega⟩ : Fin 1024)) := by
  pointwise [k0_pay3]
  have e : (8 * r.val + c.val) % 8 * 128 + l.val = 128 * c.val + l.val := by omega
  simp only [e]

/-- One entry of the network's output: the hidden units of a row against a column of the last matrix. -/
def rowOut (h : Fin 1024 → EReal) (wg wu : Fin 1024 → Fin 2816 → EReal) (wd : Fin 2816 → EReal) : EReal :=
  ∑ f : Fin 2816, FfnBlock.unit h (fun k => wg k f) (fun k => wu k f) * wd f

theorem assembled (x : FVec Ideal S4096x128 .f32) (x1 x2 : FVec Ideal S1x1024x2816 .bf16)
    (x3 : FVec Ideal S1x2816x1024 .bf16) (r : Fin 512) (c : Fin 8) (l : Fin 128) :
    k0_pay3 (F := Ideal) (hidden (tiled x) x1 x2) x3 (ix2 (⟨8 * r.val + c.val, by omega⟩ : Fin 4096) l) =
      rowOut (fun k => tiled x (ix2 r k)) (fun k f => x1 (ix3 (0 : Fin 1) k f)) (fun k f => x2 (ix3 (0 : Fin 1) k f))
        (fun f => x3 (ix3 (0 : Fin 1) f (⟨128 * c.val + l.val, by omega⟩ : Fin 1024))) := by
  rw [last_apply]
  rfl

variable (m : (ℓ : Loc nD τ sig) → Buf (Elt Ideal) ℓ)

/-- The condition of a grid point, on the count the second table holds. -/
def Active (t : Fin grid0.N) : Prop :=
  cond0_0 (grid0.coords t) (tbM0_1.view.readAt (Elt Ideal) (Rect.unit (s := S1) ![0] S1.size inb_S1_S1_0).toLoadRect (tbl m 1)
    (Shape.Idx.first (numel1_S1.symm ▸ Nat.one_pos)))

/-- One strided load of a block of rows. -/
theorem load_at (hO : Gen.Ok m) (c : Dev nD) (t : Fin (cfgM m hO).N) (j : Nat) (hj : j < 8)
    (inb : ∀ a, S512x128.size a = 0 ∨ (![j, 0] : Fin 2 → Nat) a + (![8, 1] : Fin 2 → Nat) a * (S512x128.size a - 1) < S4096x128.size a)
    (r : Fin 512) (l : Fin 128) :
    View.readAt (Elt Ideal) (ms0_0 m hO t).view (⟨![j, 0], S512x128.size, ![8, 1], inb⟩ : LoadRect S4096x128)
        ((hs0_0 m hO t).unread (iblk m hO c 0 t)) (ix2 r l) =
      (show FVec Ideal S4096x128 .f32 from iblk m hO c 0 t) (ix2 (⟨8 * r.val + j, by omega⟩ : Fin 4096) l) := by
  refine ((hs0_0 m hO t).readAt_unread (iblk m hO c 0 t) _ _).trans (congrArg (iblk m hO c 0 t) (funext fun a => Fin.ext ?_))
  fin_cases a
  · show j + 8 * r.val = 8 * r.val + j
    omega
  · show 0 + 1 * l.val = l.val
    omega

/-- The eight loads of a block of rows, side by side. -/
theorem loaded (hO : Gen.Ok m) (c : Dev nD) (t : Fin (cfgM m hO).N) :
    k0_pay4 (F := Ideal)
        (View.readAt (Elt Ideal) (ms0_0 m hO t).view (⟨![0, 0], S512x128.size, ![8, 1], inb_S4096x128_S512x128_0_0_s_8_1⟩ : LoadRect S4096x128)
          ((hs0_0 m hO t).unread (iblk m hO c 0 t)))
        (View.readAt (Elt Ideal) (ms0_0 m hO t).view (⟨![1, 0], S512x128.size, ![8, 1], inb_S4096x128_S512x128_1_0_s_8_1⟩ : LoadRect S4096x128)
          ((hs0_0 m hO t).unread (iblk m hO c 0 t)))
        (View.readAt (Elt Ideal) (ms0_0 m hO t).view (⟨![2, 0], S512x128.size, ![8, 1], inb_S4096x128_S512x128_2_0_s_8_1⟩ : LoadRect S4096x128)
          ((hs0_0 m hO t).unread (iblk m hO c 0 t)))
        (View.readAt (Elt Ideal) (ms0_0 m hO t).view (⟨![3, 0], S512x128.size, ![8, 1], inb_S4096x128_S512x128_3_0_s_8_1⟩ : LoadRect S4096x128)
          ((hs0_0 m hO t).unread (iblk m hO c 0 t)))
        (View.readAt (Elt Ideal) (ms0_0 m hO t).view (⟨![4, 0], S512x128.size, ![8, 1], inb_S4096x128_S512x128_4_0_s_8_1⟩ : LoadRect S4096x128)
          ((hs0_0 m hO t).unread (iblk m hO c 0 t)))
        (View.readAt (Elt Ideal) (ms0_0 m hO t).view (⟨![5, 0], S512x128.size, ![8, 1], inb_S4096x128_S512x128_5_0_s_8_1⟩ : LoadRect S4096x128)
          ((hs0_0 m hO t).unread (iblk m hO c 0 t)))
        (View.readAt (Elt Ideal) (ms0_0 m hO t).view (⟨![6, 0], S512x128.size, ![8, 1], inb_S4096x128_S512x128_6_0_s_8_1⟩ : LoadRect S4096x128)
          ((hs0_0 m hO t).unread (iblk m hO c 0 t)))
        (View.readAt (Elt Ideal) (ms0_0 m hO t).view (⟨![7, 0], S512x128.size, ![8, 1], inb_S4096x128_S512x128_7_0_s_8_1⟩ : LoadRect S4096x128)
          ((hs0_0 m hO t).unread (iblk m hO c 0 t))) =
      tiled (iblk m hO c 0 t) := by
  funext i
  have ei : i = ix2 (i 0) (i 1) := by blk_ext
  refine (congrArg _ ei).trans (Eq.trans ?_ (congrArg _ ei.symm))
  exact tile_apply (iblk m hO c 0 t) _ _ _ _ _ _ _ _
    (load_at m hO c t 0 (by decide) inb_S4096x128_S512x128_0_0_s_8_1)
    (load_at m hO c t 1 (by decide) inb_S4096x128_S512x128_1_0_s_8_1)
    (load_at m hO c t 2 (by decide) inb_S4096x128_S512x128_2_0_s_8_1)
    (load_at m hO c t 3 (by decide) inb_S4096x128_S512x128_3_0_s_8_1)
    (load_at m hO c t 4 (by decide) inb_S4096x128_S512x128_4_0_s_8_1)
    (load_at m hO c t 5 (by decide) inb_S4096x128_S512x128_5_0_s_8_1)
    (load_at m hO c t 6 (by decide) inb_S4096x128_S512x128_6_0_s_8_1)
    (load_at m hO c t 7 (by decide) inb_S4096x128_S512x128_7_0_s_8_1) (i 0) (i 1)

/-- One entry of what an active grid point leaves. -/
theorem stored_A (hO : Gen.Ok m) (c : Dev nD) (t : Fin (cfgM m hO).N) (h0 : Active m t) (r : Fin 512) (p : Fin 8) (l : Fin 128) :
    outsAt0 (F := Ideal) m hO c t (ix2 (⟨8 * r.val + p.val, by omega⟩ : Fin 4096) l) =
      rowOut (fun k => tiled (iblk m hO c 0 t) (ix2 r k))
        (fun k f => (show FVec Ideal S1x1024x2816 .bf16 from iblk m hO c 1 t) (ix3 (0 : Fin 1) k f))
        (fun k f => (show FVec Ideal S1x1024x2816 .bf16 from iblk m hO c 2 t) (ix3 (0 : Fin 1) k f))
        (fun f => (show FVec Ideal S1x2816x1024 .bf16 from iblk m hO c 3 t) (ix3 (0 : Fin 1) f (⟨128 * p.val + l.val, by omega⟩ : Fin 1024))) := by
  rw [outsAt0_A m hO c t h0]
  unfold out0_A_4
  frame_out
  refine Eq.trans ?_ (assembled (iblk m hO c 0 t) (iblk m hO c 1 t) (iblk m hO c 2 t) (iblk m hO c 3 t) r p l)
  refine congrArg₂ (fun s w => k0_pay3 (F := Ideal) s w (ix2 (⟨8 * r.val + p.val, by omega⟩ : Fin 4096) l)) ?_
    ((hs0_3 m hO t).read_unread _)
  have g1 := (hs0_1 m hO t).read_unread (iblk m hO c 1 t)
  have g2 := (hs0_2 m hO t).read_unread (iblk m hO c 2 t)
  have hv := loaded m hO c t
  rw [View.readCov_eq_canon']
  funext y
  have e : (Rect.unit (s := S512x2816) ![0, 0] ![512, 2816] inb_S512x2816_S512x2816_0_0).toLoadRect.idx y = y := by
    funext a
    refine Fin.ext ?_
    fin_cases a
    · show 0 + 1 * (y 0).val = (y 0).val
      omega
    · show 0 + 1 * (y 1).val = (y 1).val
      omega
  refine (congrArg (View.canon _) e).trans ?_
  clear e
  canon_tiles x h
  · exact slice_at 2560 hv g1 g2 _ x y (by omega) (by omega)
  · exact slice_at 2304 hv g1 g2 _ x y (by omega) (by omega)
  · exact slice_at 2048 hv g1 g2 _ x y (by omega) (by omega)
  · exact slice_at 1792 hv g1 g2 _ x y (by omega) (by omega)
  · exact slice_at 1536 hv g1 g2 _ x y (by omega) (by omega)
  · exact slice_at 1280 hv g1 g2 _ x y (by omega) (by omega)
  · exact slice_at 1024 hv g1 g2 _ x y (by omega) (by omega)
  · exact slice_at 768 hv g1 g2 _ x y (by omega) (by omega)
  · exact slice_at 512 hv g1 g2 _ x y (by omega) (by omega)
  · exact slice_at 256 hv g1 g2 _ x y (by omega) (by omega)
  · exact slice_at 0 hv g1 g2 _ x y (by omega) (by omega)

/-- What an idle grid point leaves: zeros. -/
theorem stored_B (hO : Gen.Ok m) (c : Dev nD) (t : Fin (cfgM m hO).N) (h0 : ¬ Active m t) (y : S4096x128.Idx) :
    outsAt0 (F := Ideal) m hO c t y = (0 : EReal) := by
  rw [outsAt0_B m hO c t h0]
  unfold out0_B_4
  frame_out
  pointwise [k0_pay1]

end Cert.ExpBlock
-- ==== Proof.ExpArray.lean ====
/- The whole array the expert network leaves, from the arguments. -/
module

public import proofs.«01_k».proof.Proof.ExpOk
public import proofs.«01_k».proof.Proof.ExpBlock

@[expose] public section

set_option maxRecDepth 16384

noncomputable section

namespace Cert.ExpArray

open Cert.ExpertsIdeal Cert.ExpertsIdeal.Gen Cert.ExpBlock Cert.ExpOk Idealize.ShloMosaic Idealize.ShloMosaic.TcCoe Idealize.SL.Sem
open Idealize.ShloMosaic.Pipeline (Dat)
open scoped BigOperators

/-- The slot of the stacked weights a block names. -/
def slotOf (be : IVec S152 32) (n : Fin 152) : Fin 16 := ⟨min (be (ix1 n)).toNat 15, by omega⟩

/-- The result at block `n`, row `r`, piece `p` and lane `l`: zero for the blocks past the count. -/
def entry (be : IVec S152 32) (na : IVec S1 32) (rows : FVec Ideal S622592x128 .f32) (wg wu : FVec Ideal S16x1024x2816 .bf16)
    (wd : FVec Ideal S16x2816x1024 .bf16) (n : Fin 152) (r : Fin 512) (p : Fin 8) (l : Fin 128) : EReal :=
  if n.val < (na (ix1 (0 : Fin 1))).toNat then
    rowOut (fun k => rows (ix2 (⟨4096 * n.val + 8 * r.val + k.val / 128, by omega⟩ : Fin 622592) (⟨k.val % 128, Nat.mod_lt _ (by decide)⟩ : Fin 128)))
      (fun k f => wg (ix3 (slotOf be n) k f)) (fun k f => wu (ix3 (slotOf be n) k f))
      (fun f => wd (ix3 (slotOf be n) f (⟨128 * p.val + l.val, by omega⟩ : Fin 1024)))
  else 0

/-- The whole array, from the arguments. -/
def whole (be : IVec S152 32) (na : IVec S1 32) (rows : FVec Ideal S622592x128 .f32) (wg wu : FVec Ideal S16x1024x2816 .bf16)
    (wd : FVec Ideal S16x2816x1024 .bf16) : FVec Ideal S622592x128 .f32 := fun i =>
  entry be na rows wg wu wd
    ⟨(i 0).val / 4096, by have h : (i 0).val < 622592 := (i 0).isLt; omega⟩
    ⟨(i 0).val % 4096 / 8, by omega⟩ ⟨(i 0).val % 8, by omega⟩ (i 1)

theorem whole_at (be : IVec S152 32) (na : IVec S1 32) (rows : FVec Ideal S622592x128 .f32) (wg wu : FVec Ideal S16x1024x2816 .bf16)
    (wd : FVec Ideal S16x2816x1024 .bf16) (n : Fin 152) (r : Fin 512) (p : Fin 8) (l : Fin 128) :
    whole be na rows wg wu wd (ix2 (⟨4096 * n.val + 8 * r.val + p.val, by omega⟩ : Fin 622592) l) = entry be na rows wg wu wd n r p l := by
  have e0 : (⟨(4096 * n.val + 8 * r.val + p.val) / 4096, by omega⟩ : Fin 152) = n := Fin.ext (by dsimp only; omega)
  have e1 : (⟨(4096 * n.val + 8 * r.val + p.val) % 4096 / 8, by omega⟩ : Fin 512) = r := Fin.ext (by dsimp only; omega)
  have e2 : (⟨(4096 * n.val + 8 * r.val + p.val) % 8, by omega⟩ : Fin 8) = p := Fin.ext (by dsimp only; omega)
  show entry be na rows wg wu wd (⟨(4096 * n.val + 8 * r.val + p.val) / 4096, _⟩ : Fin 152)
    (⟨(4096 * n.val + 8 * r.val + p.val) % 4096 / 8, _⟩ : Fin 512) (⟨(4096 * n.val + 8 * r.val + p.val) % 8, _⟩ : Fin 8) l = _
  rw [e0, e1, e2]

variable (m : (ℓ : Loc nD τ sig) → Buf (Elt Ideal) ℓ)

theorem coord : ∀ t : Fin grid0.N, (grid0.coords t 0).val = t.val ∧ t.val < 152 := by decide +kernel

/-- A grid point's number as a block's. -/
def blk (t : Fin grid0.N) : Fin 152 := ⟨t.val, (coord t).2⟩

theorem coord_eq (t : Fin grid0.N) : (grid0.coords t 0 : Fin 152) = blk t := Fin.ext (coord t).1

/-- A grid point is active when its number is below the count. -/
theorem active_iff (h : Cert.Pre_ExpertsIdeal m) (t : Fin grid0.N) : Active m t ↔ t.val < (count m).toNat := by
  have e : tbM0_1.view.readAt (Elt Ideal) (Rect.unit (s := S1) ![0] S1.size inb_S1_S1_0).toLoadRect (tbl m 1)
      (Shape.Idx.first (numel1_S1.symm ▸ Nat.one_pos)) = count m := by
    refine congrArg (show IVec S1 32 from tbl m 1) (funext fun a => Fin.ext ?_)
    fin_cases a
    rfl
  unfold Active
  rw [e]
  refine (ExpWords.active_iff (grid0.coords t 0).val ?_ (count m) (bounds m h).2.2).trans ?_
  · rw [(coord t).1]
    exact (coord t).2
  · rw [(coord t).1]

/-! ## The blocks -/

section
variable (hO : Gen.Ok m) (c : Dev nD) (t : Fin (cfgM m hO).N)

theorem blk0 (h : Cert.Pre_ExpertsIdeal m) (ht : t.val < (count m).toNat) (q : Fin 4096) (l : Fin 128) :
    (show FVec Ideal S4096x128 .f32 from iblk m hO c 0 t) (ix2 q l) =
      (show FVec Ideal S622592x128 .f32 from m ((c : Thread nD τ).loc main_arg2))
        (ix2 (⟨4096 * (blk t).val + q.val, by omega⟩ : Fin 622592) l) := by
  refine congrArg (m ((c : Thread nD τ).loc main_arg2)) (funext fun a => Fin.ext ?_)
  refine (Pipeline.Window.rect_emb_val ((cfgM m hO).win 0) t (ix2 q l) a rfl).trans ?_
  have e : ((cfgM m hO).win 0).index t = ![min (grid0.coords t 0).val ((count m).toNat - 1), 0] := rows_ix m h (grid0.coords t)
  rw [e, (coord t).1]
  fin_cases a
  · show min t.val ((count m).toNat - 1) * 4096 + q.val = 4096 * t.val + q.val
    omega
  · show 0 * 128 + l.val = l.val
    omega

theorem blk1 (h : Cert.Pre_ExpertsIdeal m) (k : Fin 1024) (f : Fin 2816) :
    (show FVec Ideal S1x1024x2816 .bf16 from iblk m hO c 1 t) (ix3 (0 : Fin 1) k f) =
      (show FVec Ideal S16x1024x2816 .bf16 from m ((c : Thread nD τ).loc main_arg3))
        (ix3 (slotOf (show IVec S152 32 from tbl m 0) (blk t)) k f) := by
  refine congrArg (m ((c : Thread nD τ).loc main_arg3)) (funext fun a => Fin.ext ?_)
  refine (Pipeline.Window.rect_emb_val ((cfgM m hO).win 1) t (ix3 (0 : Fin 1) k f) a rfl).trans ?_
  have e : ((cfgM m hO).win 1).index t = ![(slot m (grid0.coords t 0)).toNat, 0, 0] := gate_ix m (grid0.coords t)
  have b := (bounds m h).1 (blk t)
  rw [e, coord_eq]
  fin_cases a
  · show (slot m (blk t)).toNat * 1 + 0 = min (slot m (blk t)).toNat 15
    omega
  · show 0 * 1024 + k.val = k.val
    omega
  · show 0 * 2816 + f.val = f.val
    omega

theorem blk2 (h : Cert.Pre_ExpertsIdeal m) (k : Fin 1024) (f : Fin 2816) :
    (show FVec Ideal S1x1024x2816 .bf16 from iblk m hO c 2 t) (ix3 (0 : Fin 1) k f) =
      (show FVec Ideal S16x1024x2816 .bf16 from m ((c : Thread nD τ).loc main_arg4))
        (ix3 (slotOf (show IVec S152 32 from tbl m 0) (blk t)) k f) := by
  refine congrArg (m ((c : Thread nD τ).loc main_arg4)) (funext fun a => Fin.ext ?_)
  refine (Pipeline.Window.rect_emb_val ((cfgM m hO).win 2) t (ix3 (0 : Fin 1) k f) a rfl).trans ?_
  have e : ((cfgM m hO).win 2).index t = ![(slot m (grid0.coords t 0)).toNat, 0, 0] := up_ix m (grid0.coords t)
  have b := (bounds m h).1 (blk t)
  rw [e, coord_eq]
  fin_cases a
  · show (slot m (blk t)).toNat * 1 + 0 = min (slot m (blk t)).toNat 15
    omega
  · show 0 * 1024 + k.val = k.val
    omega
  · show 0 * 2816 + f.val = f.val
    omega

theorem blk3 (h : Cert.Pre_ExpertsIdeal m) (f : Fin 2816) (l : Fin 1024) :
    (show FVec Ideal S1x2816x1024 .bf16 from iblk m hO c 3 t) (ix3 (0 : Fin 1) f l) =
      (show FVec Ideal S16x2816x1024 .bf16 from m ((c : Thread nD τ).loc main_arg5))
        (ix3 (slotOf (show IVec S152 32 from tbl m 0) (blk t)) f l) := by
  refine congrArg (m ((c : Thread nD τ).loc main_arg5)) (funext fun a => Fin.ext ?_)
  refine (Pipeline.Window.rect_emb_val ((cfgM m hO).win 3) t (ix3 (0 : Fin 1) f l) a rfl).trans ?_
  have e : ((cfgM m hO).win 3).index t = ![(slot m (grid0.coords t 0)).toNat, 0, 0] := down_ix m (grid0.coords t)
  have b := (bounds m h).1 (blk t)
  rw [e, coord_eq]
  fin_cases a
  · show (slot m (blk t)).toNat * 1 + 0 = min (slot m (blk t)).toNat 15
    omega
  · show 0 * 2816 + f.val = f.val
    omega
  · show 0 * 1024 + l.val = l.val
    omega

/-- What a grid point leaves at a row, a piece and a lane. -/
theorem point (h : Cert.Pre_ExpertsIdeal m) (r : Fin 512) (p : Fin 8) (l : Fin 128) :
    outsAt0 (F := Ideal) m hO c t (ix2 (⟨8 * r.val + p.val, by omega⟩ : Fin 4096) l) =
      entry (tbl m 0) (tbl m 1) (m ((c : Thread nD τ).loc main_arg2)) (m ((c : Thread nD τ).loc main_arg3))
        (m ((c : Thread nD τ).loc main_arg4)) (m ((c : Thread nD τ).loc main_arg5)) (blk t) r p l := by
  by_cases ht : t.val < (count m).toNat
  · refine (stored_A m hO c t ((active_iff m h t).2 ht) r p l).trans (Eq.trans ?_ (if_pos ht).symm)
    have h0 := funext fun k : Fin 1024 => blk0 m hO c t h ht (⟨8 * r.val + k.val / 128, by omega⟩ : Fin 4096) (⟨k.val % 128, Nat.mod_lt _ (by decide)⟩ : Fin 128)
    have h1 := funext fun k => funext fun f => blk1 m hO c t h k f
    have h2 := funext fun k => funext fun f => blk2 m hO c t h k f
    have h3 := funext fun f => blk3 m hO c t h f (⟨128 * p.val + l.val, by omega⟩ : Fin 1024)
    rw [h1, h2, h3]
    refine congrArg (fun x => rowOut x _ _ _) (h0.trans (funext fun k => ?_))
    exact congrArg (fun q => (show FVec Ideal S622592x128 .f32 from m ((c : Thread nD τ).loc main_arg2)) (ix2 q _)) (Fin.ext (Nat.add_assoc _ _ _).symm)
  · exact (stored_B m hO c t (fun ha => ht ((active_iff m h t).1 ha)) _).trans (if_neg ht).symm

end

/-- The array after the run. -/
theorem final (h : Cert.Pre_ExpertsIdeal m) (hO : Gen.Ok m) (c : Dev nD) : (dats m hO 0 c).arrAt 4 (cfgM m hO).N =
    whole (tbl m 0) (tbl m 1) (m ((c : Thread nD τ).loc main_arg2)) (m ((c : Thread nD τ).loc main_arg3))
        (m ((c : Thread nD τ).loc main_arg4)) (m ((c : Thread nD τ).loc main_arg5)) := by
  have hix : ∀ t : Fin (cfgM m hO).N, ((cfgM m hO).win 4).index t = ![(blk t).val, 0] := by
    intro t
    refine Eq.trans (b := ![(grid0.coords t 0).val, 0]) ?_ (by rw [coord_eq])
    funext a
    have hb : (grid0.coords t 0).val < 152 := by rw [(coord t).1]; exact (coord t).2
    fin_cases a
    · show (BitVec.ofNat 32 (grid0.coords t 0).val).toNat = (grid0.coords t 0).val
      rw [BitVec.toNat_ofNat]
      omega
    · rfl
  have hemb : ∀ (t : Fin (cfgM m hO).N) (y : S4096x128.Idx), (((cfgM m hO).win 4).blk t).view.emb y =
      ix2 (⟨4096 * (blk t).val + (y 0).val, by have hy : (y 0).val < 4096 := (y 0).isLt; omega⟩ : Fin 622592) (y 1 : Fin 128) := by
    intro t y
    refine funext fun a => Fin.ext ?_
    refine (Pipeline.Window.rect_emb_val ((cfgM m hO).win 4) t y a rfl).trans ?_
    rw [hix t]
    fin_cases a
    · show (blk t).val * 4096 + (y 0).val = 4096 * (blk t).val + (y 0).val
      omega
    · show 0 * 128 + (y 1).val = (y 1).val
      omega
  have hpt : ∀ (t : Fin (cfgM m hO).N) (y : S4096x128.Idx), outsAt0 (F := Ideal) m hO c t y =
      whole (tbl m 0) (tbl m 1) (m ((c : Thread nD τ).loc main_arg2)) (m ((c : Thread nD τ).loc main_arg3))
        (m ((c : Thread nD τ).loc main_arg4)) (m ((c : Thread nD τ).loc main_arg5)) ((((cfgM m hO).win 4).blk t).view.emb y) := by
    intro t y
    have hy : (y 0).val < 4096 := (y 0).isLt
    have ey : y = ix2 (⟨8 * ((y 0).val / 8) + (y 0).val % 8, by omega⟩ : Fin 4096) (y 1 : Fin 128) := by
      refine funext fun a => Fin.ext ?_
      fin_cases a
      · show (y 0).val = 8 * ((y 0).val / 8) + (y 0).val % 8
        omega
      · rfl
    refine (congrArg (outsAt0 (F := Ideal) m hO c t) ey).trans ?_
    refine (point m hO c t h ⟨(y 0).val / 8, by omega⟩ ⟨(y 0).val % 8, by omega⟩ (y 1)).trans ?_
    refine (whole_at _ _ _ _ _ _ (blk t) ⟨(y 0).val / 8, by omega⟩ ⟨(y 0).val % 8, by omega⟩ (y 1)).symm.trans ?_
    refine congrArg (whole _ _ _ _ _ _) (Eq.trans ?_ (hemb t y).symm)
    exact congrArg (fun q : Fin 622592 => ix2 q (y 1 : Fin 128)) (Fin.ext (by dsimp only; omega))
  have hcov : ∀ i : S622592x128.Idx, ∃ t : Fin (cfgM m hO).N, ((cfgM m hO).win 4).flush t = true ∧
      i ∈ (((cfgM m hO).win 4).blk t).view.set := by
    intro i
    have hi : (i 0).val < 622592 := (i 0).isLt
    have ht : (i 0).val / 4096 < grid0.N := by
      rw [show grid0.N = 152 from by decide]
      omega
    refine ⟨⟨(i 0).val / 4096, ht⟩, flush0_4 _ _, ?_⟩
    have e : (((cfgM m hO).win 4).blk ⟨(i 0).val / 4096, ht⟩).view.emb
        (ix2 (⟨(i 0).val % 4096, by omega⟩ : Fin 4096) (i 1 : Fin 128)) = i := by
      refine (hemb _ _).trans (funext fun a => Fin.ext ?_)
      fin_cases a
      · show 4096 * ((i 0).val / 4096) + (i 0).val % 4096 = (i 0).val
        omega
      · rfl
    exact Finset.mem_map.mpr ⟨_, Finset.mem_univ _, e⟩
  refine (dats m hO 0 c).arrAt_eq_of_emb 4 _ (fun t _ y => ?_) hcov
  blk_simp
  rw [after0_4]
  exact hpt t y

/-- The run: the computed array, with the arguments kept. -/
theorem run_blocks (ρ : Dev nD → PrngReg) (hO : Gen.Ok m) :
    θ_run defs (onTc main) ⟨m, fun _ => 0, ρ⟩ fun r => ∀ c : Dev nD,
      r.2.mem ((c : Thread nD τ).loc main_v0) = (dats m hO 0 c).arrAt 4 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1 4, ?_, ?_, ?_, ?_, ?_, ?_⟩) (run_main m ρ hO)
  · exact ((h c).2 main_arg0 (by decide : main_arg0 ∈ Pipeline.restRefs sig spec0)).trans (V_main_arg0 m c)
  · exact ((h c).2 main_arg1 (by decide : main_arg1 ∈ Pipeline.restRefs sig spec0)).trans (V_main_arg1 m c)
  · exact ((h c).1 0).trans (((dats m hO 0 c).arrAt_in 0 rfl _).trans ((A_eq m hO c 0).trans (V_main_arg2 m c)))
  · exact ((h c).1 1).trans (((dats m hO 0 c).arrAt_in 1 rfl _).trans ((A_eq m hO c 1).trans (V_main_arg3 m c)))
  · exact ((h c).1 2).trans (((dats m hO 0 c).arrAt_in 2 rfl _).trans ((A_eq m hO c 2).trans (V_main_arg4 m c)))
  · exact ((h c).1 3).trans (((dats m hO 0 c).arrAt_in 3 rfl _).trans ((A_eq m hO c 3).trans (V_main_arg5 m c)))

end Cert.ExpArray
-- ==== Proof.ExpGather.lean ====
/- A stack of matrices taken at a table of slots, and the words the reference makes of the tables. -/
module

public import proofs.«01_k».proof.Proof.ExpWords
public import Idealize.ShloMosaic.Lib.ValueIdxCore

@[expose] public section

noncomputable section

namespace Cert.ExpGather

open Idealize.ShloMosaic

variable {K L : Nat}

/-- The axes of one matrix per entry of a table, taken from a stack of sixteen. -/
abbrev stackDims (K L : Nat)
    (wf : GatherDims.WF ⟨3, ![16, K, L]⟩ ⟨2, ![152, 1]⟩ ⟨3, ![152, K, L]⟩ [1, 2] [0] [] [0] [] 1 ![1, K, L]) :
    GatherDims ⟨3, ![16, K, L]⟩ ⟨2, ![152, 1]⟩ ⟨3, ![152, K, L]⟩ where
  offsetDims := [1, 2]
  collapsedSliceDims := [0]
  operandBatchingDims := []
  startIndicesBatchingDims := []
  startIndexMap := [0]
  indexVectorDim := 1
  sliceSizes := ![1, K, L]
  wf := wf

/-- Its entry: that of the slot the table names. -/
theorem taken {α : Type}
    (wf : GatherDims.WF ⟨3, ![16, K, L]⟩ ⟨2, ![152, 1]⟩ ⟨3, ![152, K, L]⟩ [1, 2] [0] [] [0] [] 1 ![1, K, L])
    (x : (⟨3, ![16, K, L]⟩ : Shape).Idx → α) (idx : IVec ⟨2, ![152, 1]⟩ 32) (n : Fin 152) (k : Fin K) (l : Fin L) (s : Fin 16)
    (hs : (idx (ix2 n (0 : Fin 1))).toInt.toNat = s.val) :
    Host.gather (stackDims K L wf) x idx (ix3 n k l) = x (ix3 s k l) := by
  refine congrArg x (funext fun a => Fin.ext ?_)
  show (stackDims K L wf).start (ix3 n k l) idx a + (stackDims K L wf).batchCoord (ix3 n k l) a +
    (stackDims K L wf).offCoord (ix3 n k l) a = _
  rw [GatherDims.batchCoord_eq_zero _ _ _ List.not_mem_nil, Nat.add_zero]
  match a with
  | ⟨0, _⟩ =>
    have e : (stackDims K L wf).siIdx (ix3 n k l) ⟨List.idxOf (0 : Fin 3) (stackDims K L wf).startIndexMap,
        List.idxOf_lt_length_iff.2 (List.mem_singleton.mpr rfl)⟩ = ix2 n (0 : Fin 1) := by
      funext b
      match b with
      | ⟨0, _⟩ => rfl
      | ⟨1, _⟩ => rfl
    have st : (stackDims K L wf).start (ix3 n k l) idx (0 : Fin 3) = min (idx (ix2 n (0 : Fin 1))).toInt.toNat 15 := by
      unfold GatherDims.start
      rw [dif_pos (show (0 : Fin 3) ∈ (stackDims K L wf).startIndexMap from List.mem_singleton.mpr rfl), e]
      rfl
    have of : (stackDims K L wf).offCoord (ix3 n k l) (0 : Fin 3) = 0 :=
      GatherDims.offCoord_eq_zero _ _ _ fun h => ((GatherDims.mem_sKept _ _).mp h).1 (List.mem_singleton.mpr rfl)
    refine (congrArg₂ (· + ·) st of).trans ?_
    show min (idx (ix2 n (0 : Fin 1))).toInt.toNat 15 + 0 = s.val
    omega
  | ⟨1, _⟩ =>
    have st : (stackDims K L wf).start (ix3 n k l) idx (1 : Fin 3) = 0 := by
      unfold GatherDims.start
      exact dif_neg (show (1 : Fin 3) ∉ [(0 : Fin 3)] by decide)
    have of : (stackDims K L wf).offCoord (ix3 n k l) (1 : Fin 3) = k.val := by
      unfold GatherDims.offCoord
      rw [dif_pos ((GatherDims.mem_sKept _ _).mpr ⟨(by decide : (1 : Fin 3) ∉ [(0 : Fin 3)]), List.not_mem_nil⟩)]
      rfl
    exact (congrArg₂ (· + ·) st of).trans (Nat.zero_add _)
  | ⟨2, _⟩ =>
    have st : (stackDims K L wf).start (ix3 n k l) idx (2 : Fin 3) = 0 := by
      unfold GatherDims.start
      exact dif_neg (show (2 : Fin 3) ∉ [(0 : Fin 3)] by decide)
    have of : (stackDims K L wf).offCoord (ix3 n k l) (2 : Fin 3) = l.val := by
      unfold GatherDims.offCoord
      rw [dif_pos ((GatherDims.mem_sKept _ _).mpr ⟨(by decide : (2 : Fin 3) ∉ [(0 : Fin 3)]), List.not_mem_nil⟩)]
      rfl
    exact (congrArg₂ (· + ·) st of).trans (Nat.zero_add _)

/-- A slot is not negative, so wrapping it around changes nothing. -/
theorem unwrapped (w : BitVec 32) (h : w.toNat < 16) :
    (Scalar.select (IntOp.cmpi .slt w 0#32) (IntOp.addi w 16#32) w).toInt.toNat = w.toNat := by
  have a := BitVec.toInt_eq_toNat_of_lt (x := w) (by omega)
  have e : w.slt 0#32 = false := by
    rw [Bool.eq_false_iff]
    intro c
    rw [BitVec.slt_iff_toInt_lt, a] at c
    simp at c
    omega
  have z : IntOp.cmpi .slt w 0#32 = 0#1 := by
    show BitVec.ofBool (w.slt 0#32) = 0#1
    rw [e]
    rfl
  rw [z]
  show w.toInt.toNat = w.toNat
  rw [a]
  rfl

/-- Comparing a block's number with the count. -/
theorem below (i : Nat) (hi : i < 152) (w : BitVec 32) (h2 : w.toNat < 2 ^ 31) :
    IntOp.cmpi .slt (BitVec.ofNat 32 i) w = BitVec.ofBool (decide (i < w.toNat)) := by
  have e : (BitVec.ofNat 32 i).slt w = decide (i < w.toNat) := by
    have a := BitVec.toInt_eq_toNat_of_lt (x := w) (by omega)
    have b := BitVec.toInt_eq_toNat_of_lt (x := BitVec.ofNat 32 i) (by simp; omega)
    rw [Bool.eq_iff_iff, BitVec.slt_iff_toInt_lt, a, b]
    simp
    omega
  show BitVec.ofBool ((BitVec.ofNat 32 i).slt w) = _
  rw [e]

end Cert.ExpGather
-- ==== Proof.ExpRead.lean ====
/- The reference for the expert network read at one block, row, piece and lane: the entry the array holds. -/
module

public import proofs.«01_k».proof.Proof.ExpArray
public import proofs.«01_k».proof.Proof.ExpGather
public import proofs.«01_k».proof.Proof.Gen.ExpertsRefIdeal.Read

@[expose] public section

set_option maxRecDepth 16384

noncomputable section

namespace Cert.ExpRead

open Cert.ExpertsRefIdeal Cert.ExpertsRefIdeal.Read Cert.ExpBlock Cert.ExpArray Cert.ExpGather Idealize.ShloMosaic
open scoped BigOperators

variable (be : IVec S152 32) (na : IVec S1 32) (rows : FVec Ideal S622592x128 .f32) (wg wu : FVec Ideal S16x1024x2816 .bf16)
  (wd : FVec Ideal S16x2816x1024 .bf16)

theorem first_index (hb : ∀ i : Fin 152, (be (ix1 i)).toNat < 16) (n : Fin 152) :
    (val_main_v9 (F := Ideal) be (ix2 n (0 : Fin 1))).toInt.toNat = (slotOf be n).val := by
  have e : val_main_v9 (F := Ideal) be (ix2 n (0 : Fin 1)) =
      Scalar.select (IntOp.cmpi .slt (be (ix1 n)) 0#32) (IntOp.addi (be (ix1 n)) 16#32) (be (ix1 n)) := by
    pointwise [val_main_v9, val_main_v8, val_main_v7, val_main_v6, val_main_v5, val_main_v4, val_main_c, val_main_c_0]
  rw [e, unwrapped _ (hb n)]
  exact (Nat.min_eq_left (Nat.le_of_lt_succ (hb n))).symm

theorem second_index (hb : ∀ i : Fin 152, (be (ix1 i)).toNat < 16) (n : Fin 152) :
    (val_main_v17 (F := Ideal) be (ix2 n (0 : Fin 1))).toInt.toNat = (slotOf be n).val := by
  have e : val_main_v17 (F := Ideal) be (ix2 n (0 : Fin 1)) =
      Scalar.select (IntOp.cmpi .slt (be (ix1 n)) 0#32) (IntOp.addi (be (ix1 n)) 16#32) (be (ix1 n)) := by
    pointwise [val_main_v17, val_main_v16, val_main_v15, val_main_v14, val_main_v13, val_main_v12, val_main_c_1, val_main_c_2]
  rw [e, unwrapped _ (hb n)]
  exact (Nat.min_eq_left (Nat.le_of_lt_succ (hb n))).symm

theorem third_index (hb : ∀ i : Fin 152, (be (ix1 i)).toNat < 16) (n : Fin 152) :
    (val_main_v27 (F := Ideal) be (ix2 n (0 : Fin 1))).toInt.toNat = (slotOf be n).val := by
  have e : val_main_v27 (F := Ideal) be (ix2 n (0 : Fin 1)) =
      Scalar.select (IntOp.cmpi .slt (be (ix1 n)) 0#32) (IntOp.addi (be (ix1 n)) 16#32) (be (ix1 n)) := by
    pointwise [val_main_v27, val_main_v26, val_main_v25, val_main_v24, val_main_v23, val_main_v22, val_main_c_3, val_main_c_4]
  rw [e, unwrapped _ (hb n)]
  exact (Nat.min_eq_left (Nat.le_of_lt_succ (hb n))).symm

/-- The weights of a block are those of the slot it names. -/
theorem gate_read (hb : ∀ i : Fin 152, (be (ix1 i)).toNat < 16) (n : Fin 152) (k : Fin 1024) (f : Fin 2816) :
    val_main_v10 (F := Ideal) be wg (ix3 n k f) = wg (ix3 (slotOf be n) k f) :=
  (taken _ (val_main_v0 (F := Ideal) wg) (val_main_v9 (F := Ideal) be) n k f (slotOf be n) (first_index be hb n)).trans
    (by pointwise [val_main_v0])

theorem up_read (hb : ∀ i : Fin 152, (be (ix1 i)).toNat < 16) (n : Fin 152) (k : Fin 1024) (f : Fin 2816) :
    val_main_v18 (F := Ideal) be wu (ix3 n k f) = wu (ix3 (slotOf be n) k f) :=
  (taken _ (val_main_v1 (F := Ideal) wu) (val_main_v17 (F := Ideal) be) n k f (slotOf be n) (second_index be hb n)).trans
    (by pointwise [val_main_v1])

theorem down_read (hb : ∀ i : Fin 152, (be (ix1 i)).toNat < 16) (n : Fin 152) (f : Fin 2816) (l : Fin 1024) :
    val_main_v28 (F := Ideal) be wd (ix3 n f l) = wd (ix3 (slotOf be n) f l) :=
  (taken _ (val_main_v2 (F := Ideal) wd) (val_main_v27 (F := Ideal) be) n f l (slotOf be n) (third_index be hb n)).trans
    (by pointwise [val_main_v2])

/-- Entry `k` of row `r` of block `n`. -/
def rowAt (n : Fin 152) (r : Fin 512) (k : Fin 1024) : EReal :=
  rows (ix2 (⟨4096 * n.val + 8 * r.val + k.val / 128, by omega⟩ : Fin 622592) (⟨k.val % 128, Nat.mod_lt _ (by decide)⟩ : Fin 128))

theorem rows_read (n : Fin 152) (r : Fin 512) (k : Fin 1024) :
    val_main_v3 (F := Ideal) rows (ix3 n r k) = rowAt rows n r k := by
  refine (val_main_v3_apply (F := Ideal) rows (ix3 n r k)).trans (congrArg rows (funext fun a => Fin.ext ?_))
  match a with
  | ⟨0, _⟩ =>
    show ((n.val * 512 + r.val) * 1024 + k.val) / 128 = 4096 * n.val + 8 * r.val + k.val / 128
    omega
  | ⟨1, _⟩ =>
    show ((n.val * 512 + r.val) * 1024 + k.val) % 128 = k.val % 128
    omega

theorem hidden_read (hb : ∀ i : Fin 152, (be (ix1 i)).toNat < 16) (n : Fin 152) (r : Fin 512) (f : Fin 2816) :
    val_main_v21 (F := Ideal) be rows wg wu (ix3 n r f) =
      FfnBlock.unit (rowAt rows n r) (fun k => wg (ix3 (slotOf be n) k f)) (fun k => wu (ix3 (slotOf be n) k f)) := by
  have e : val_main_v21 (F := Ideal) be rows wg wu (ix3 n r f) =
      FfnBlock.unit (fun k => val_main_v3 (F := Ideal) rows (ix3 n r k)) (fun k => val_main_v10 (F := Ideal) be wg (ix3 n k f))
        (fun k => val_main_v18 (F := Ideal) be wu (ix3 n k f)) := by
    pointwise [val_main_v21, val_main_v20, val_main_v19, val_main_v11, val_main_call0_v5, val_main_call0_v4,
      val_main_call0_v3, val_main_call0_v2, val_main_call0_v1, val_main_call0_v0, val_main_call0_cst,
      val_main_call0_cst_0, FfnBlock.unit]
  refine e.trans ?_
  simp only [gate_read be wg hb, up_read be wu hb, rows_read]

/-- The down projection at a block, a row and a lane. -/
theorem down_sum (hb : ∀ i : Fin 152, (be (ix1 i)).toNat < 16) (n : Fin 152) (r : Fin 512) (l : Fin 1024) :
    val_main_v29 (F := Ideal) be rows wg wu wd (ix3 n r l) =
      rowOut (rowAt rows n r) (fun k f => wg (ix3 (slotOf be n) k f)) (fun k f => wu (ix3 (slotOf be n) k f))
        (fun f => wd (ix3 (slotOf be n) f l)) := by
  have e : val_main_v29 (F := Ideal) be rows wg wu wd (ix3 n r l) =
      ∑ f : Fin 2816, val_main_v21 (F := Ideal) be rows wg wu (ix3 n r f) * val_main_v28 (F := Ideal) be wd (ix3 n f l) := by
    pointwise [val_main_v29]
  refine e.trans ?_
  simp only [hidden_read be rows wg wu hb, down_read be wd hb]
  rfl

/-- The reference before it is laid out again: zero for the blocks past the count. -/
theorem masked (hb : ∀ i : Fin 152, (be (ix1 i)).toNat < 16) (hn : (na (ix1 (0 : Fin 1))).toNat < 2 ^ 31) (n : Fin 152) (r : Fin 512)
    (l : Fin 1024) : val_main_v35 (F := Ideal) be na rows wg wu wd (ix3 n r l) =
      if n.val < (na (ix1 (0 : Fin 1))).toNat then
        rowOut (rowAt rows n r) (fun k f => wg (ix3 (slotOf be n) k f)) (fun k f => wu (ix3 (slotOf be n) k f))
          (fun f => wd (ix3 (slotOf be n) f l))
      else 0 := by
  have hc : val_main_v31 (F := Ideal) na ix0 = na (ix1 (0 : Fin 1)) := by
    unfold val_main_v31
    refine congrArg na (funext fun a => ?_)
    match a with
    | ⟨0, _⟩ => exact Subsingleton.elim (α := Fin 1) _ _
  have hs : val_main_call1_v1 (F := Ideal) na (ix3 n r l) = IntOp.cmpi .slt (BitVec.ofNat 32 n.val) (val_main_v31 (F := Ideal) na ix0) := by
    pointwise [val_main_call1_v1, val_main_v34, val_main_v33, val_main_v32, val_main_v30]
  have hz : val_main_call1_v2 (F := Ideal) (ix3 n r l) = (0 : EReal) := by
    rw [val_main_call1_v2_apply, val_main_call1_v0_apply]
    pointwise [val_main_cst]
  refine (val_main_v35_apply (F := Ideal) be na rows wg wu wd (ix3 n r l)).trans ?_
  rw [hs, hc, below _ n.isLt _ hn, hz, down_sum be rows wg wu wd hb]
  by_cases h : n.val < (na (ix1 (0 : Fin 1))).toNat
  · rw [if_pos h, decide_eq_true h]
    rfl
  · rw [if_neg h, decide_eq_false h]
    rfl

/-- The reference is the array the kernel leaves. -/
theorem equation (hb : ∀ i : Fin 152, (be (ix1 i)).toNat < 16) (hn : (na (ix1 (0 : Fin 1))).toNat < 2 ^ 31) :
    whole be na rows wg wu wd = val_main_v36 (F := Ideal) be na rows wg wu wd := by
  funext i
  have h0 : (i 0).val < 622592 := (i 0).isLt
  have h1 : (i 1).val < 128 := (i 1).isLt
  have ei : idx_main_v36 i = ix3 (⟨(i 0).val / 4096, by omega⟩ : Fin 152) (⟨(i 0).val % 4096 / 8, by omega⟩ : Fin 512)
      (⟨128 * ((i 0).val % 8) + (i 1).val, by omega⟩ : Fin 1024) := by
    refine funext fun a => Fin.ext ?_
    match a with
    | ⟨0, _⟩ =>
      show ((i 0).val * 128 + (i 1).val) / 524288 = (i 0).val / 4096
      omega
    | ⟨1, _⟩ =>
      show ((i 0).val * 128 + (i 1).val) / 1024 % 512 = (i 0).val % 4096 / 8
      omega
    | ⟨2, _⟩ =>
      show ((i 0).val * 128 + (i 1).val) % 1024 = 128 * ((i 0).val % 8) + (i 1).val
      omega
  refine Eq.trans ?_ (val_main_v36_apply (F := Ideal) be na rows wg wu wd i).symm
  rw [ei]
  exact (masked be na rows wg wu wd hb hn _ _ _).symm

end Cert.ExpRead
-- ==== Proof.ExpResult.lean ====
/- The claims about the expert network. -/
module

public import proofs.«01_k».proof.Defs
public import proofs.«01_k».proof.Proof.ExpOkBits
public import proofs.«01_k».proof.Proof.ExpRead

@[expose] public section

set_option maxRecDepth 16384

noncomputable section

namespace Cert.ExpResult

open Idealize.ShloMosaic Idealize.SL.Sem

/-- The program runs and keeps its arguments. -/
theorem frame : Cert.quiescent_Experts (hExperts := Cert.Experts.Gen.facts) (hPre_tables := Cert.Pre_tables.Gen.facts) :=
  fun m ρ h => Cert.Experts.Gen.frame m ρ (Cert.ExpOkBits.ok m h)

/-- Its idealised form runs and keeps its arguments. -/
theorem frameIdeal : Cert.quiescent_ExpertsIdeal (hExpertsIdeal := Cert.ExpertsIdeal.Gen.facts)
    (hPre_tables := Cert.Pre_tables.Gen.facts) :=
  fun m ρ h => Cert.ExpertsIdeal.Gen.frame m ρ (Cert.ExpOk.ok m h)

/-- The reference runs and keeps its arguments. -/
theorem frameRef : Cert.quiescent_ExpertsRefIdeal (hExpertsRefIdeal := Cert.ExpertsRefIdeal.Gen.facts)
    (hPre_tables := Cert.Pre_tables.Gen.facts) := fun m ρ _ =>
  (θ_run _ _ _).mono (fun r h => ⟨fun c => (h c).2, sem_eq_zero_of_no_sems (by decide) r.2⟩)
    (Cert.ExpertsRefIdeal.Value.run (F := Ideal) m ρ)

/-- No literal is named: there is nothing to preserve. -/
theorem preserves : Cert.preserves_Experts_ExpertsIdeal := trivial

/-- The idealised program and the reference end with equal results, for every valid pair of tables. -/
theorem algebraic : Cert.algebraic_ExpertsIdeal_ExpertsRefIdeal (hExpertsIdeal := Cert.ExpertsIdeal.Gen.facts)
    (hExpertsRefIdeal := Cert.ExpertsRefIdeal.Gen.facts) (hPre_tables := Cert.Pre_tables.Gen.facts) := by
  intro m ρ m' ρ' hpre hag
  have hO := Cert.ExpOk.ok m hpre
  have hb := Cert.ExpOk.bounds m hpre
  refine ⟨fun c => (Cert.ExpertsIdeal.Gen.dats m hO 0 c).arrAt 4 (Cert.ExpertsIdeal.Gen.cfgM m hO).N,
    Cert.ExpArray.run_blocks m ρ hO,
    (θ_run _ _ _).mono (fun _ h c => ⟨(h c).1.trans ?_, (h c).2⟩) (Cert.ExpertsRefIdeal.Value.run m' ρ')⟩
  obtain ⟨e0, e1, e2, e3, e4, e5⟩ := hag c
  obtain rfl : c = 0 := Subsingleton.elim _ _
  refine (Cert.ExpertsRefIdeal.Read.val_main_v36_eq (F := Ideal) _ _ _ _ _ _).trans ?_
  rw [e0, e1, e2, e3, e4, e5]
  exact ((Cert.ExpArray.final m hpre hO 0).trans (Cert.ExpRead.equation _ _ _ _ _ _ hb.1 hb.2.2)).symm

end Cert.ExpResult

end
-- ==== Proof.InBlock.lean ====
/- One block of the input projection read at one row and one lane: the values of the first attention and the input of the
   long convolution. -/
module

public import proofs.«01_k».proof.Proof.Gen.InProjIdeal.Value
public import Idealize.ShloMosaic.Lib.Pipeline.ValueKit
public import Idealize.ShloMosaic.Lib.Pointwise

@[expose] public section

set_option maxRecDepth 16384

noncomputable section

namespace Cert.InBlock

open Cert.InProjIdeal Cert.InProjIdeal.Gen Idealize.ShloMosaic Idealize.ShloMosaic.TcCoe Idealize.SL.Sem
open Idealize.ShloMosaic.Pipeline (Dat)
open scoped BigOperators

/-- A row scaled by one plus a row of the modulation and shifted by another, times a column. -/
def proj (x sc sh w : Fin 1024 → EReal) : EReal :=
  ∑ k : Fin 1024, (x k * (Ideal.ofBits .f32 0x3F800000#32 + sc k) + sh k) * w k

theorem rows_apply (v : FVec Ideal S1x6x1024 .f32) (x : FVec Ideal S512x1024 .f32) (r : Fin 512) (k : Fin 1024) :
    k0_pay4 (F := Ideal) v x (ix2 r k) =
      x (ix2 r k) * (Ideal.ofBits .f32 0x3F800000#32 + v (ix3 (0 : Fin 1) (1 : Fin 6) k)) + v (ix3 (0 : Fin 1) (0 : Fin 6) k) := by
  pointwise [k0_pay4]

theorem wide_apply (h : FVec Ideal S512x1024 .bf16) (w : FVec Ideal S1024x768 .bf16) (r : Fin 512) (l : Fin 768) :
    k0_pay18 (F := Ideal) h w (ix2 r l) = ∑ k : Fin 1024, h (ix2 r k) * w (ix2 k l) := by
  pointwise [k0_pay18]

theorem heads_apply (h : FVec Ideal S512x1024 .bf16) (w : FVec Ideal S1024x512 .bf16) (b : FVec Ideal S1x512 .f32)
    (r : Fin 512) (l : Fin 512) :
    k0_pay17 (F := Ideal) h w b (ix2 r l) = (∑ k : Fin 1024, h (ix2 r k) * w (ix2 k l)) + b (ix2 (0 : Fin 1) l) := by
  pointwise [k0_pay17]

variable (x0 : FVec Ideal S512x1024 .f32) (x1 : FVec Ideal S1x6x1024 .f32) (x2 : FVec Ideal S1024x2816 .bf16)
  (x3 : FVec Ideal S512x640 .f32) (x4 : FVec Ideal S1x256 .f32) (x5 : FVec Ideal S1x128 .f32) (x6 : FVec Ideal S256x768 .bf16)
  (x7 : FVec Ideal S128x1536 .bf16) (x8 : FVec Ideal S1x512 .f32) (x9 : FVec Ideal S1x768 .f32)

/-- The scaled and shifted rows of a block. -/
theorem rows_read (r : Fin 512) (k : Fin 1024) :
    k0_pay35 (F := Ideal) x0 x1 x2 x3 x4 x5 x6 x7 x8 x9 (ix2 r k) =
      x0 (ix2 r k) * (Ideal.ofBits .f32 0x3F800000#32 + x1 (ix3 (0 : Fin 1) (1 : Fin 6) k)) + x1 (ix3 (0 : Fin 1) (0 : Fin 6) k) := by
  unfold k0_pay35
  refine (rows_apply _ _ r k).trans ?_
  have e0 : View.ld (Val := Elt Ideal) (e' := .f32) x0 r0_1 (ix2 r k) = x0 (ix2 r k) := by
    refine congrArg x0 (funext fun a => Fin.ext ?_)
    fin_cases a
    · show 0 + 1 * r.val = r.val
      omega
    · show 0 + 1 * k.val = k.val
      omega
  have e1 : ∀ j : Fin 6, View.ld (Val := Elt Ideal) (e' := .f32) x1 r0_0 (ix3 (0 : Fin 1) j k) = x1 (ix3 (0 : Fin 1) j k) := by
    intro j
    refine congrArg x1 (funext fun a => Fin.ext ?_)
    fin_cases a
    · show 0 + 1 * 0 = 0
      omega
    · show 0 + 1 * j.val = j.val
      omega
    · show 0 + 1 * k.val = k.val
      omega
  rw [e0, e1, e1]

/-- The column of the weights behind column `l` of the convolution's input. -/
abbrev wideCol (l : Fin 768) : Fin 2816 := ⟨1536 + l.val, by omega⟩

/-- The column of the weights behind column `l` of the values. -/
abbrev headCol (l : Fin 512) : Fin 2816 := ⟨1024 + l.val, by omega⟩

/-- The input of the long convolution at a row and a lane. -/
theorem wide_read (r : Fin 512) (l : Fin 768) :
    out0_13 (F := Ideal) x0 x1 x2 x3 x4 x5 x6 x7 x8 x9 (ix2 r l) =
      proj (fun k => x0 (ix2 r k)) (fun k => x1 (ix3 (0 : Fin 1) (1 : Fin 6) k)) (fun k => x1 (ix3 (0 : Fin 1) (0 : Fin 6) k))
        (fun k => x2 (ix2 k (wideCol l))) := by
  have e : ∀ k : Fin 1024, View.ld (Val := Elt Ideal) (e' := .bf16) x2 r0_9 (ix2 k l) = x2 (ix2 k (wideCol l)) := by
    intro k
    refine congrArg x2 (funext fun a => Fin.ext ?_)
    fin_cases a
    · show 0 + 1 * k.val = k.val
      omega
    · show 1536 + 1 * l.val = 1536 + l.val
      omega
  unfold out0_13
  frame_out
  refine (wide_apply _ _ r l).trans ?_
  exact Finset.sum_congr rfl fun k _ => congrArg₂ (· * ·) (rows_read x0 x1 x2 x3 x4 x5 x6 x7 x8 x9 r k) (e k)

/-- The values at a row and a lane. -/
theorem heads_read (r : Fin 512) (l : Fin 512) :
    out0_12 (F := Ideal) x0 x1 x2 x3 x4 x5 x6 x7 x8 x9 (ix2 r l) =
      proj (fun k => x0 (ix2 r k)) (fun k => x1 (ix3 (0 : Fin 1) (1 : Fin 6) k)) (fun k => x1 (ix3 (0 : Fin 1) (0 : Fin 6) k))
        (fun k => x2 (ix2 k (headCol l))) + x8 (ix2 (0 : Fin 1) l) := by
  have e : ∀ k : Fin 1024, View.ld (Val := Elt Ideal) (e' := .bf16) x2 r0_7 (ix2 k l) = x2 (ix2 k (headCol l)) := by
    intro k
    refine congrArg x2 (funext fun a => Fin.ext ?_)
    fin_cases a
    · show 0 + 1 * k.val = k.val
      omega
    · show 1024 + 1 * l.val = 1024 + l.val
      omega
  unfold out0_12
  frame_out
  refine (heads_apply _ _ _ r l).trans ?_
  exact congrArg₂ (· + ·)
    (Finset.sum_congr rfl fun k _ => congrArg₂ (· * ·) (rows_read x0 x1 x2 x3 x4 x5 x6 x7 x8 x9 r k) (e k)) rfl

end Cert.InBlock
-- ==== Proof.InEntry.lean ====
/- The weights and the row of ones the input projection finds: the columns of the first attention's values laid out 128 lanes
   to a head, and beside them the columns of the long convolution's input; each read at one element. -/
module

public import proofs.«01_k».proof.Proof.Entry
public import proofs.«01_k».proof.Proof.Gen.InProjIdeal.Frame
public import Idealize.ShloMosaic.Lib.Pipeline.ValueKit
public import Idealize.ShloMosaic.Lib.Pointwise

@[expose] public section

set_option maxRecDepth 16384

noncomputable section

namespace Cert.InEntry

open Cert.InProjIdeal Cert.InProjIdeal.Gen Idealize.ShloMosaic Idealize.ShloMosaic.TcCoe
open scoped BigOperators

/-! ## The arrays -/

/-- Four heads of 96 columns laid out 128 to a head, the added columns zero. -/
def slots (z : FVec Ideal S1024x384 .f32) : FVec Ideal S1024x512 .f32 :=
  shapeCast S1024x512
    (pad S1024x4x128 ![0, 0, 0] ![0, 0, 32] ![0, 0, 0] (shapeCast S1024x4x96 z shapeCasts_S1024x384_S1024x4x96)
      (sitofp .f32 (constantI S_ 32 0#32)) pads_S1024x4x96_S1024x4x128_000_000_0320 h_S_)
    shapeCasts_S1024x4x128_S1024x512

/-- The columns of the values. -/
def valueCols (w : FVec Ideal S1024x2336 .f32) : FVec Ideal S1024x384 .f32 :=
  extractStridedSlice S1024x384 ![0, 768] (extractStridedSlice S1024x1152 ![0, 0] w slices_S1024x2336_S1024x1152_0_0)
    slices_S1024x1152_S1024x384_0_768

/-- The columns of the values laid out. -/
def heads (w : FVec Ideal S1024x2336 .f32) : FVec Ideal S1024x512 .f32 := slots (valueCols w)

/-- The columns of the convolution's input. -/
def wide (w : FVec Ideal S1024x2336 .f32) : FVec Ideal S1024x768 .f32 :=
  extractStridedSlice S1024x768 ![0, 1152] w slices_S1024x2336_S1024x768_0_1152

/-- Seven groups of columns, one beside the other. -/
def beside (a b d : FVec Ideal S1024x512 .f32) (e : FVec Ideal S1024x768 .f32) (f : FVec Ideal S1024x256 .f32)
    (g h : FVec Ideal S1024x128 .f32) : FVec Ideal S1024x2816 .f32 :=
  concatenate S1024x2816 1 [⟨S1024x512, a⟩, ⟨S1024x512, b⟩, ⟨S1024x512, d⟩, ⟨S1024x768, e⟩, ⟨S1024x256, f⟩, ⟨S1024x128, g⟩,
    ⟨S1024x128, h⟩] concatenates_S1024x512_S1024x512_S1024x512_S1024x768_S1024x256_S1024x128_S1024x128_S1024x2816_d1

/-! ## Read at one element -/

/-- The column of lane `l` of head `h`. -/
abbrev col (h : Fin 4) (l : Fin 128) : Fin 512 := ⟨128 * h.val + l.val, by omega⟩

/-- The column of lane `l` of head `h` before the layout. -/
abbrev col96 (h : Fin 4) (l : Fin 96) : Fin 384 := ⟨96 * h.val + l.val, by omega⟩

theorem slots_apply (z : FVec Ideal S1024x384 .f32) (k : Fin 1024) (h : Fin 4) (l : Fin 128) :
    slots z (ix2 k (col h l)) = if hl : l.val < 96 then z (ix2 k (col96 h ⟨l.val, hl⟩)) else 0 := by
  have hh := h.isLt
  have hl' := l.isLt
  have hd : (128 * h.val + l.val) / 128 = h.val := by omega
  have hm : (128 * h.val + l.val) % 128 = l.val := by omega
  pointwise [slots]
  by_cases hl : l.val < 96
  · rw [dif_pos (by rw [hd, hm]; exact ⟨hh, hl⟩), dif_pos hl]
    congr 2
    exact Fin.ext (by simp only [hd, hm]; omega)
  · rw [dif_neg (by rw [hm]; exact fun e => hl e.2), dif_neg hl, Entry.zero_word]

theorem valueCols_apply (w : FVec Ideal S1024x2336 .f32) (k : Fin 1024) (l : Fin 384) :
    valueCols w (ix2 k l) = w (ix2 k (⟨768 + l.val, by omega⟩ : Fin 2336)) := by
  pointwise [valueCols]

theorem wide_apply (w : FVec Ideal S1024x2336 .f32) (k : Fin 1024) (l : Fin 768) :
    wide w (ix2 k l) = w (ix2 k (⟨1152 + l.val, by omega⟩ : Fin 2336)) := by
  pointwise [wide]

variable (a b d : FVec Ideal S1024x512 .f32) (e : FVec Ideal S1024x768 .f32) (f : FVec Ideal S1024x256 .f32)
  (g h : FVec Ideal S1024x128 .f32)

theorem beside_third (k : Fin 1024) (l : Fin 512) :
    beside a b d e f g h (ix2 k (⟨1024 + l.val, by omega⟩ : Fin 2816)) = d (ix2 k l) := by
  have hl := l.isLt
  pointwise [beside]
  rw [dif_neg (by omega), dif_neg (by omega), dif_pos (by omega)]
  exact congrArg (fun l => d (ix2 k l)) (Fin.ext (by show 1024 + l.val - 512 - 512 = l.val; omega))

theorem beside_fourth (k : Fin 1024) (l : Fin 768) :
    beside a b d e f g h (ix2 k (⟨1536 + l.val, by omega⟩ : Fin 2816)) = e (ix2 k l) := by
  have hl := l.isLt
  pointwise [beside]
  rw [dif_neg (by omega), dif_neg (by omega), dif_neg (by omega), dif_pos (by omega)]
  exact congrArg (fun l => e (ix2 k l)) (Fin.ext (by show 1536 + l.val - 512 - 512 - 512 = l.val; omega))

/-- One in lane 96 of every head and zero elsewhere, as a row. -/
def onesRow : FVec Ideal S1x512 .f32 := broadcastInDim S1x512 ![1] bcast_S512_S1x512_1 Entry.ones

theorem onesRow_apply (h : Fin 4) (l : Fin 128) :
    onesRow (ix2 (0 : Fin 1) (col h l)) = (if l.val = 96 then 1 else 0 : EReal) := by
  refine Eq.trans ?_ (Entry.ones_apply h l)
  pointwise [onesRow]

/-! ## They are what the call finds -/

section
variable (m : (ℓ : Loc nD τ sig) → Buf (Elt Ideal) ℓ) (c : Dev nD)

set_option maxHeartbeats 1000000 in
theorem entry_ones : V m c main_v33 = onesRow := by
  simp only [V, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append]
  entry_read
  simp only [StableHlo.TRef.ofBuf_toBuf]
  rfl

/-- The host lines before the groups of columns are set one beside the other. -/
abbrev before8 : List (HloOp τ sig (Elt Ideal)) :=
  (hostOps0) ++ (hostOps0_1) ++ (hostOps0_2) ++ (hostOps0_3) ++ (hostOps0_4) ++ (hostOps0_5) ++ (hostOps0_6) ++ (hostOps0_7)

/-- The host lines after that. -/
abbrev after8 : List (HloOp τ sig (Elt Ideal)) :=
  (hostOps0_9) ++ (hostOps0_10) ++ (hostOps0_11) ++ (hostOps0_12)

theorem split8 : ([hostOps0, hostOps0_1, hostOps0_2, hostOps0_3, hostOps0_4, hostOps0_5, hostOps0_6, hostOps0_7, hostOps0_8, hostOps0_9, hostOps0_10, hostOps0_11, hostOps0_12] : List (List (HloOp τ sig (Elt Ideal)))).flatten =
    before8 ++ (hostOps0_8 ++ after8) := by
  simp only [List.flatten_cons, List.flatten_nil, List.append_nil, List.append_assoc]

set_option maxHeartbeats 1000000 in
theorem kept8 (σ : Valuation τ sig (Elt Ideal)) : StableHlo.after after8 σ main_v27 = σ main_v27 :=
  StableHlo.after_of_forall_not_mem (b := Proc.devRef .tc main_v27) _ _ (List.forall_iff_forall_mem.mp (by
    simp only [after8, hostOps0_9, hostOps0_10, hostOps0_11, hostOps0_12, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 1000000 in
theorem entry_weights : ∃ (a b : FVec Ideal S1024x512 .f32) (f : FVec Ideal S1024x256 .f32) (g h : FVec Ideal S1024x128 .f32),
    V m c main_v27 = (truncf .bf16 (beside a b (heads (m ((c : Thread nD τ).loc main_arg2)))
      (wide (m ((c : Thread nD τ).loc main_arg2))) f g h) bitsLt_bf16_f32 : FVec Ideal S1024x2816 .bf16) := by
  have h0 : V m c main_v27 = StableHlo.after hostOps0_8 (StableHlo.after before8 (fun b => m (c, b))) main_v27 := by
    unfold V
    rw [split8, StableHlo.after_append, StableHlo.after_append]
    exact kept8 _
  have h24 : shapeCast S1024x512 (show FVec Ideal S1024x4x128 .f32 from StableHlo.after before8 (fun b => m (c, b)) main_v24)
      shapeCasts_S1024x4x128_S1024x512 = heads (m ((c : Thread nD τ).loc main_arg2)) := by
    simp only [before8, hostOps0, hostOps0_1, hostOps0_2, hostOps0_3, hostOps0_4, hostOps0_5, hostOps0_6, hostOps0_7, List.cons_append, List.nil_append]
    entry_read
    simp only [StableHlo.TRef.ofBuf_toBuf]
    rfl
  have h4 : StableHlo.after before8 (fun b => m (c, b)) main_v4 = wide (m ((c : Thread nD τ).loc main_arg2)) := by
    simp only [before8, hostOps0, hostOps0_1, hostOps0_2, hostOps0_3, hostOps0_4, hostOps0_5, hostOps0_6, hostOps0_7, List.cons_append, List.nil_append]
    entry_read
    rfl
  rw [h0]
  generalize StableHlo.after before8 (fun b => m (c, b)) = σ at h24 h4
  refine ⟨σ main_v19, σ main_v22, σ main_v6, σ main_v7, σ main_v16, ?_⟩
  rw [← h24, ← h4]
  simp only [hostOps0_8, StableHlo.after_cons, StableHlo.after_nil]
  rw [StableHlo.nullary_result_ne, StableHlo.nullary_result_ne, StableHlo.unary_result, StableHlo.nary_result]
  rotate_left
  · decide
  · decide
  rfl

end

end Cert.InEntry
-- ==== Proof.InArray.lean ====
/- The two arrays the input projection leaves that are claimed: the values of the first attention and the input of the long
   convolution, each as one function of the arguments. -/
module

public import proofs.«01_k».proof.Proof.InBlock
public import proofs.«01_k».proof.Proof.InEntry

@[expose] public section

set_option maxRecDepth 16384

noncomputable section

namespace Cert.InArray

open Cert.InProjIdeal Cert.InProjIdeal.Gen Cert.InBlock Idealize.ShloMosaic Idealize.ShloMosaic.TcCoe Idealize.SL.Sem
open Cert.InEntry (col col96)
open Idealize.ShloMosaic.Pipeline (Dat)
open scoped BigOperators

/-- The sequence whose modulation a row takes: its own for a row of the latents, the one after the last for the context. -/
def groupOf (R : Fin 36864) : Fin 24 := ⟨min (R.val / 2048) 16, by omega⟩

/-- A row of the arguments projected to one column of the weights. -/
def projected (x : FVec Ideal S36864x1024 .f32) (mods : FVec Ideal S24x6x1024 .f32) (w : FVec Ideal S1024x2336 .f32)
    (R : Fin 36864) (j : Fin 2336) : EReal :=
  proj (fun k => x (ix2 R k)) (fun k => mods (ix3 (groupOf R) (1 : Fin 6) k)) (fun k => mods (ix3 (groupOf R) (0 : Fin 6) k))
    (fun k => w (ix2 k j))

/-- One lane of a head's values: the projection in the first 96, a one after them, and then zeros. -/
def lane (x : FVec Ideal S36864x1024 .f32) (mods : FVec Ideal S24x6x1024 .f32) (w : FVec Ideal S1024x2336 .f32)
    (R : Fin 36864) (h : Fin 4) (l : Fin 128) : EReal :=
  if hl : l.val < 96 then projected x mods w R ⟨768 + (96 * h.val + l.val), by omega⟩ else if l.val = 96 then 1 else 0

/-- The head of a column. -/
def headOf (j : Fin 512) : Fin 4 := ⟨j.val / 128, by omega⟩

/-- The lane of a column. -/
def laneOf (j : Fin 512) : Fin 128 := ⟨j.val % 128, by omega⟩

theorem col_eq (j : Fin 512) : j = col (headOf j) (laneOf j) :=
  Fin.ext (by show j.val = 128 * (j.val / 128) + j.val % 128; omega)

/-- The array of the values, from the arguments. -/
def wholeHeads (x : FVec Ideal S36864x1024 .f32) (mods : FVec Ideal S24x6x1024 .f32) (w : FVec Ideal S1024x2336 .f32) :
    FVec Ideal S36864x512 .bf16 := fun i => lane x mods w (i 0) (headOf (i 1)) (laneOf (i 1))

/-- The array of the convolution's input, from the arguments. -/
def wholeWide (x : FVec Ideal S36864x1024 .f32) (mods : FVec Ideal S24x6x1024 .f32) (w : FVec Ideal S1024x2336 .f32) :
    FVec Ideal S36864x768 .f32 := fun i => projected x mods w (i 0) ⟨1152 + (i 1).val, by
      have : (i 1).val < 768 := (i 1).isLt
      omega⟩

variable (m : (ℓ : Loc nD τ sig) → Buf (Elt Ideal) ℓ)

/-- Which block each window takes at a grid point. -/
theorem idx : ∀ t : Fin cfg0.N, win0_0.index t = ![t.val, 0] ∧ win0_1.index t = ![min (t.val / 4) 16, 0, 0] ∧
    win0_2.index t = ![0, 0] ∧ win0_8.index t = ![0, 0] ∧ win0_12.index t = ![t.val, 0] ∧ win0_13.index t = ![t.val, 0] ∧
    t.val < 72 :=
  (by decide +kernel : ∀ t : Fin grid0.N, _)

/-- The row of the array at row `r` of block `t`. -/
def rowAt (t : Fin cfg0.N) (r : Fin 512) : Fin 36864 :=
  ⟨512 * t.val + r.val, by have := (idx t).2.2.2.2.2.2; omega⟩

variable (c : Dev nD) (t : Fin cfg0.N)

theorem blk0 (r : Fin 512) (k : Fin 1024) : (show FVec Ideal S512x1024 .f32 from iblk m c 0 t) (ix2 r k) =
    (show FVec Ideal S36864x1024 .f32 from V m c main_arg0) (ix2 (rowAt t r) k) := by
  blk_ext [iblk, idx t, rowAt]

theorem blk1 (r : Fin 512) (j : Fin 6) (l : Fin 1024) : (show FVec Ideal S1x6x1024 .f32 from iblk m c 1 t) (ix3 (0 : Fin 1) j l) =
    (show FVec Ideal S24x6x1024 .f32 from V m c main_arg1) (ix3 (groupOf (rowAt t r)) j l) := by
  have hd : (512 * t.val + r.val) / 2048 = t.val / 4 := by omega
  blk_ext [iblk, idx t, rowAt, groupOf, hd]

theorem blk2 (k : Fin 1024) (j : Fin 2816) : (show FVec Ideal S1024x2816 .bf16 from iblk m c 2 t) (ix2 k j) =
    (show FVec Ideal S1024x2816 .bf16 from V m c main_v27) (ix2 k j) := by
  blk_ext [iblk, idx t]

theorem blk8 (j : Fin 512) : (show FVec Ideal S1x512 .f32 from iblk m c 8 t) (ix2 (0 : Fin 1) j) =
    (show FVec Ideal S1x512 .f32 from V m c main_v33) (ix2 (0 : Fin 1) j) := by
  blk_ext [iblk, idx t]

/-! ## What the call finds -/

theorem entry_wide (k : Fin 1024) (l : Fin 768) : (show FVec Ideal S1024x2816 .bf16 from V m c main_v27) (ix2 k (wideCol l)) =
    (show FVec Ideal S1024x2336 .f32 from m ((c : Thread nD τ).loc main_arg2)) (ix2 k (⟨1152 + l.val, by omega⟩ : Fin 2336)) := by
  obtain ⟨a, b, f, g, h, e⟩ := InEntry.entry_weights m c
  rw [e]
  exact (InEntry.beside_fourth a b _ _ f g h k l).trans (InEntry.wide_apply _ k l)

theorem entry_head (k : Fin 1024) (h : Fin 4) (l : Fin 128) :
    (show FVec Ideal S1024x2816 .bf16 from V m c main_v27) (ix2 k (headCol (col h l))) =
      if hl : l.val < 96 then (show FVec Ideal S1024x2336 .f32 from m ((c : Thread nD τ).loc main_arg2))
        (ix2 k (⟨768 + (96 * h.val + l.val), by omega⟩ : Fin 2336)) else (0 : EReal) := by
  obtain ⟨a, b, f, g, h', e⟩ := InEntry.entry_weights m c
  rw [e]
  refine (InEntry.beside_third a b _ _ f g h' k (col h l)).trans ((InEntry.slots_apply _ k h l).trans ?_)
  by_cases hl : l.val < 96
  · rw [dif_pos hl, dif_pos hl]
    exact InEntry.valueCols_apply _ k _
  · rw [dif_neg hl, dif_neg hl]

theorem entry_one (h : Fin 4) (l : Fin 128) : (show FVec Ideal S1x512 .f32 from V m c main_v33) (ix2 (0 : Fin 1) (col h l)) =
    (if l.val = 96 then 1 else 0 : EReal) := by
  rw [InEntry.entry_ones]
  exact InEntry.onesRow_apply h l

/-! ## The blocks -/

/-- What a grid point leaves of the convolution's input. -/
theorem point_wide (r : Fin 512) (l : Fin 768) :
    out0_13 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 r l) =
      wholeWide (m ((c : Thread nD τ).loc main_arg0)) (m ((c : Thread nD τ).loc main_arg1)) (m ((c : Thread nD τ).loc main_arg2))
        (ix2 (rowAt t r) l) := by
  refine (wide_read (iblk m c 0 t) (iblk m c 1 t) (iblk m c 2 t) (iblk m c 3 t) (iblk m c 4 t) (iblk m c 5 t)
        (iblk m c 6 t) (iblk m c 7 t) (iblk m c 8 t) (iblk m c 9 t) r l).trans ?_
  have h0 := funext fun k => (blk0 m c t r k).trans (congrFun (V_main_arg0 m c) _)
  have h1 := funext fun k => (blk1 m c t r 1 k).trans (congrFun (V_main_arg1 m c) _)
  have h1' := funext fun k => (blk1 m c t r 0 k).trans (congrFun (V_main_arg1 m c) _)
  have h2 := funext fun k => (blk2 m c t k (wideCol l)).trans (entry_wide m c k l)
  rw [h0, h1, h1', h2]
  rfl

/-- What a grid point leaves of the values. -/
theorem point_heads (r : Fin 512) (h : Fin 4) (l : Fin 128) :
    out0_12 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 r (col h l)) =
      lane (m ((c : Thread nD τ).loc main_arg0)) (m ((c : Thread nD τ).loc main_arg1)) (m ((c : Thread nD τ).loc main_arg2))
        (rowAt t r) h l := by
  refine (heads_read (iblk m c 0 t) (iblk m c 1 t) (iblk m c 2 t) (iblk m c 3 t) (iblk m c 4 t) (iblk m c 5 t)
        (iblk m c 6 t) (iblk m c 7 t) (iblk m c 8 t) (iblk m c 9 t) r (col h l)).trans ?_
  have h0 := funext fun k => (blk0 m c t r k).trans (congrFun (V_main_arg0 m c) _)
  have h1 := funext fun k => (blk1 m c t r 1 k).trans (congrFun (V_main_arg1 m c) _)
  have h1' := funext fun k => (blk1 m c t r 0 k).trans (congrFun (V_main_arg1 m c) _)
  have h2 := funext fun k => (blk2 m c t k (headCol (col h l))).trans (entry_head m c k h l)
  have h8 := (blk8 m c t (col h l)).trans (entry_one m c h l)
  rw [h0, h1, h1', h2]
  refine (congrArg (_ + ·) h8).trans ?_
  unfold lane
  by_cases hl : l.val < 96
  · have hn : ¬ l.val = 96 := by omega
    simp only [dif_pos hl, if_neg hn, add_zero]
    rfl
  · simp only [dif_neg hl, proj, mul_zero, Finset.sum_const_zero, zero_add]

/-- The array of the convolution's input after the run. -/
theorem final_wide : (dats m 0 c).arrAt 13 (cfgs 0).N =
    wholeWide (m ((c : Thread nD τ).loc main_arg0)) (m ((c : Thread nD τ).loc main_arg1))
      (m ((c : Thread nD τ).loc main_arg2)) := by
  refine (dats m 0 c).arrAt_eq_of_covers 13 _ (by decide +kernel) fun t _ y => ?_
  blk_simp
  rw [after0_13]
  have e : ((cfg0.win 13).blk t).view.emb y = ix2 (rowAt t (y 0)) (y 1) := by
    blk_ext [idx t, rowAt]
  have ey : y = ix2 (y 0) (y 1) := by blk_ext
  rw [e]
  exact (congrArg (out0_13 (F := Ideal) (iblk m c 0 t) (iblk m c 1 t) (iblk m c 2 t) (iblk m c 3 t) (iblk m c 4 t) (iblk m c 5 t)
        (iblk m c 6 t) (iblk m c 7 t) (iblk m c 8 t) (iblk m c 9 t)) ey).trans (point_wide m c t (y 0) (y 1))

/-- The array of the values after the run. -/
theorem final_heads : (dats m 0 c).arrAt 12 (cfgs 0).N =
    wholeHeads (m ((c : Thread nD τ).loc main_arg0)) (m ((c : Thread nD τ).loc main_arg1))
      (m ((c : Thread nD τ).loc main_arg2)) := by
  refine (dats m 0 c).arrAt_eq_of_covers 12 _ (by decide +kernel) fun t _ y => ?_
  blk_simp
  rw [after0_12]
  have e : ((cfg0.win 12).blk t).view.emb y = ix2 (rowAt t (y 0)) (y 1) := by
    blk_ext [idx t, rowAt]
  have ey : y = ix2 (y 0) (y 1) := by blk_ext
  have ec : ix2 (y 0) (y 1) = ix2 (y 0) (col (headOf (y 1)) (laneOf (y 1))) := congrArg (ix2 (y 0)) (col_eq (y 1))
  rw [e]
  exact (congrArg (out0_12 (F := Ideal) (iblk m c 0 t) (iblk m c 1 t) (iblk m c 2 t) (iblk m c 3 t) (iblk m c 4 t) (iblk m c 5 t)
        (iblk m c 6 t) (iblk m c 7 t) (iblk m c 8 t) (iblk m c 9 t)) (ey.trans ec)).trans
    (point_heads m c t (y 0) (headOf (y 1)) (laneOf (y 1)))

end Cert.InArray
-- ==== Proof.InRead.lean ====
/- The reference for the input projection read at one row and one column: the arrays the kernel leaves. -/
module

public import proofs.«01_k».proof.Proof.InArray
public import proofs.«01_k».proof.Proof.Gen.InProjRefIdeal.Read

@[expose] public section

set_option maxRecDepth 16384

noncomputable section

namespace Cert.InRead

open Cert.InProjRefIdeal Cert.InProjRefIdeal.Read Cert.InBlock Cert.InArray Idealize.ShloMosaic
open Cert.InEntry (col)
open scoped BigOperators

variable (x : FVec Ideal S36864x1024 .f32) (mods : FVec Ideal S24x6x1024 .f32) (w : FVec Ideal S1024x2336 .f32)

/-- The scale of a row. -/
theorem scale_read (R : Fin 36864) (k : Fin 1024) :
    val_main_v9 (F := Ideal) mods (ix2 R k) = mods (ix3 (groupOf R) (1 : Fin 6) k) := by
  pointwise [val_main_v9, val_main_v8, val_main_v7, val_main_v6, val_main_v5, val_main_v4, val_main_v3, val_main_v2,
    val_main_v1, val_main_v0]
  by_cases hR : R.val < 32768
  · rw [dif_pos hR]
    exact congrArg (fun s => mods (ix3 s (1 : Fin 6) k)) (Fin.ext (by show R.val / 2048 = min (R.val / 2048) 16; omega))
  · rw [dif_neg hR]
    exact congrArg (fun s => mods (ix3 s (1 : Fin 6) k)) (Fin.ext (by show 16 = min (R.val / 2048) 16; omega))

/-- The shift of a row. -/
theorem shift_read (R : Fin 36864) (k : Fin 1024) :
    val_main_v22 (F := Ideal) mods (ix2 R k) = mods (ix3 (groupOf R) (0 : Fin 6) k) := by
  pointwise [val_main_v22, val_main_v21, val_main_v20, val_main_v19, val_main_v18, val_main_v17, val_main_v16, val_main_v15,
    val_main_v14, val_main_v13]
  by_cases hR : R.val < 32768
  · rw [dif_pos hR]
    exact congrArg (fun s => mods (ix3 s (0 : Fin 6) k)) (Fin.ext (by show R.val / 2048 = min (R.val / 2048) 16; omega))
  · rw [dif_neg hR]
    exact congrArg (fun s => mods (ix3 s (0 : Fin 6) k)) (Fin.ext (by show 16 = min (R.val / 2048) 16; omega))

/-- One entry of the whole projection. -/
theorem product_read (R : Fin 36864) (j : Fin 2336) :
    val_main_v24 (F := Ideal) x mods w (ix2 R j) = projected x mods w R j := by
  pointwise [val_main_v24, val_main_v23, val_main_v12, val_main_v11, val_main_v10, val_main_cst, projected, proj]
  simp only [scale_read, shift_read]

/-- The columns of the convolution's input. -/
theorem wide_equation : wholeWide x mods w = val_main_v31 (F := Ideal) x mods w := by
  funext i
  have e : idx_main_v31 i = ix2 (i 0) (⟨1152 + (i 1).val, by
      have : (i 1).val < 768 := (i 1).isLt
      omega⟩ : Fin 2336) := by blk_ext
  rw [val_main_v31_apply, e]
  exact (product_read x mods w (i 0) _).symm

/-- The values after both paddings: the columns first, then a one, then zeros. -/
theorem padded_read (R : Fin 36864) (h : Fin 4) (l : Fin 128) : val_main_v28 (F := Ideal) x mods w (ix3 R h l) =
    if hl : l.val < 96 then val_main_v26 (F := Ideal) x mods w (ix3 R h (⟨l.val, hl⟩ : Fin 96))
    else if l.val = 96 then 1 else 0 := by
  pointwise [val_main_v28, val_main_v27, val_main_call0_v0, val_main_cst_0, val_main_call1_v0, val_main_c]
  have hl' := l.isLt
  by_cases hl : l.val < 96
  · rw [dif_pos (by omega), dif_pos (by omega), dif_pos hl]
  · by_cases hn : l.val = 96
    · rw [dif_pos (by omega), dif_neg (by omega), dif_neg hl, if_pos hn]
      exact Ideal.ofBits_one_f32
    · rw [dif_neg (by omega), dif_neg hl, if_neg hn, Cert.Entry.zero_word]

/-- A value before the paddings. -/
theorem value_read (R : Fin 36864) (h : Fin 4) (l : Fin 96) : val_main_v26 (F := Ideal) x mods w (ix3 R h l) =
    projected x mods w R ⟨768 + (96 * h.val + l.val), by omega⟩ := by
  have e : idx_main_v25 (idx_main_v26 (ix3 R h l)) = ix2 R (⟨768 + (96 * h.val + l.val), by omega⟩ : Fin 2336) := by
    funext a
    refine Fin.ext ?_
    match a with
    | ⟨0, _⟩ => show ((R.val * 4 + h.val) * 96 + l.val) / 384 = R.val; omega
    | ⟨1, _⟩ => show 768 + ((R.val * 4 + h.val) * 96 + l.val) % 384 = 768 + (96 * h.val + l.val); omega
  rw [val_main_v26_apply, val_main_v25_apply, e]
  exact product_read x mods w R _

/-- One lane of a head before the columns are put in one row. -/
theorem lane_read (R : Fin 36864) (h : Fin 4) (l : Fin 128) :
    val_main_v28 (F := Ideal) x mods w (ix3 R h l) = lane x mods w R h l := by
  rw [padded_read]
  unfold lane
  by_cases hl : l.val < 96
  · rw [dif_pos hl, dif_pos hl]
    exact value_read x mods w R h ⟨l.val, hl⟩
  · rw [dif_neg hl, dif_neg hl]

/-- The values, head beside head. -/
theorem heads_equation : wholeHeads x mods w = val_main_v30 (F := Ideal) x mods w := by
  funext i
  have e : idx_main_v29 i = ix3 (i 0) (headOf (i 1)) (laneOf (i 1)) := by
    have h0 : (i 0).val < 36864 := (i 0).isLt
    have h1 : (i 1).val < 512 := (i 1).isLt
    funext a
    refine Fin.ext ?_
    match a with
    | ⟨0, _⟩ => show ((i 0).val * 512 + (i 1).val) / 512 = (i 0).val; omega
    | ⟨1, _⟩ => show ((i 0).val * 512 + (i 1).val) / 128 % 4 = (i 1).val / 128; omega
    | ⟨2, _⟩ => show ((i 0).val * 512 + (i 1).val) % 128 = (i 1).val % 128; omega
  rw [val_main_v30_apply, val_main_v29_apply, e]
  exact (lane_read x mods w (i 0) _ _).symm

end Cert.InRead
-- ==== Proof.InResult.lean ====
/- The claims about the input projection. -/
module

public import proofs.«01_k».proof.Defs
public import proofs.«01_k».proof.Proof.InRead
public import proofs.«01_k».proof.Proof.Gen.InProj.Frame

@[expose] public section

noncomputable section

namespace Cert.InResult

open Idealize.ShloMosaic Idealize.SL.Sem

/-- The program runs and keeps its arguments. -/
theorem frame : Cert.quiescent_InProj (hInProj := Cert.InProj.Gen.facts) := fun m ρ _ => Cert.InProj.Gen.frame m ρ

/-- Its idealised form runs and keeps its arguments. -/
theorem frameIdeal : Cert.quiescent_InProjIdeal (hInProjIdeal := Cert.InProjIdeal.Gen.facts) := fun m ρ _ =>
  Cert.InProjIdeal.Gen.frame m ρ

/-- The reference runs and keeps its arguments. -/
theorem frameRef : Cert.quiescent_InProjRefIdeal (hInProjRefIdeal := Cert.InProjRefIdeal.Gen.facts) := fun m ρ _ =>
  (θ_run _ _ _).mono (fun r h => ⟨fun c => (h c).2.2, sem_eq_zero_of_no_sems (by decide) r.2⟩)
    (Cert.InProjRefIdeal.Value.run (F := Ideal) m ρ)

/-- No literal is named: there is nothing to preserve. -/
theorem preserves : Cert.preserves_InProj_InProjIdeal := trivial

/-- The idealised program and the reference end with equal results, whatever the arguments. -/
theorem algebraic : Cert.algebraic_InProjIdeal_InProjRefIdeal (hInProjIdeal := Cert.InProjIdeal.Gen.facts)
    (hInProjRefIdeal := Cert.InProjRefIdeal.Gen.facts) := by
  intro m ρ m' ρ' _ hag
  refine ⟨fun c => (Cert.InProjIdeal.Gen.dats m 0 c).arrAt 12 Cert.InProjIdeal.cfg0.N,
    fun c => (Cert.InProjIdeal.Gen.dats m 0 c).arrAt 13 Cert.InProjIdeal.cfg0.N,
    (θ_run _ _ _).mono (fun _ h c => ?_) (Cert.InProjIdeal.Value.run_blocks m ρ),
    (θ_run _ _ _).mono (fun _ h c => ⟨(h c).1.trans ?_, (h c).2.1.trans ?_, (h c).2.2⟩)
      (Cert.InProjRefIdeal.Value.run m' ρ')⟩
  · obtain ⟨_, _, h2, h3, _, _, _, h4⟩ := h c
    exact ⟨h2, h3, h4⟩
  · obtain ⟨e0, e1, e2, _⟩ := hag c
    refine (Cert.InProjRefIdeal.Read.val_main_v30_eq _ _ _).trans ?_
    rw [e0, e1, e2]
    exact ((Cert.InArray.final_heads m c).trans (Cert.InRead.heads_equation _ _ _)).symm
  · obtain ⟨e0, e1, e2, _⟩ := hag c
    refine (Cert.InProjRefIdeal.Read.val_main_v31_eq _ _ _).trans ?_
    rw [e0, e1, e2]
    exact ((Cert.InArray.final_wide m c).trans (Cert.InRead.wide_equation _ _ _)).symm

end Cert.InResult
-- ==== Proof.lean ====
/- The claims of this certificate, assembled. -/
module

public import proofs.«01_k».proof.Defs
public import proofs.«01_k».proof.Proof.DaResult
public import proofs.«01_k».proof.Proof.FfnResult
public import proofs.«01_k».proof.Proof.MlaResult
public import proofs.«01_k».proof.Proof.ExpResult
public import proofs.«01_k».proof.Proof.InResult

@[expose] public section

noncomputable section

namespace Cert.Proof

/-- Every claim holds. -/
theorem claim : Cert.Claim :=
  ⟨Cert.DaLat.Gen.facts, Cert.DaLatIdeal.Gen.facts, Cert.DaLatRefIdeal.Gen.facts,
    Cert.Ffn.Gen.facts, Cert.FfnIdeal.Gen.facts, Cert.FfnRefIdeal.Gen.facts,
    Cert.MlaLat.Gen.facts, Cert.MlaLatIdeal.Gen.facts, Cert.MlaLatRefIdeal.Gen.facts,
    Cert.Experts.Gen.facts, Cert.ExpertsIdeal.Gen.facts, Cert.ExpertsRefIdeal.Gen.facts,
    Cert.InProj.Gen.facts, Cert.InProjIdeal.Gen.facts, Cert.InProjRefIdeal.Gen.facts,
    Cert.Pre_finite.Gen.facts, Cert.Pre_finite_qk.Gen.facts, Cert.Pre_tables.Gen.facts,
    Cert.DaResult.frame, Cert.DaResult.frameIdeal, Cert.DaResult.frameIdealFinite, Cert.DaResult.frameRef,
    Cert.DaResult.frameRefFinite,
    Cert.FfnResult.frame, Cert.FfnResult.frameIdeal, Cert.FfnResult.frameRef,
    Cert.MlaResult.frame, Cert.MlaResult.frameIdeal, Cert.MlaResult.frameIdealFinite, Cert.MlaResult.frameRef,
    Cert.MlaResult.frameRefFinite,
    Cert.ExpResult.frame, Cert.ExpResult.frameIdeal, Cert.ExpResult.frameRef,
    Cert.InResult.frame, Cert.InResult.frameIdeal, Cert.InResult.frameRef,
    Cert.DaResult.preserves, Cert.DaResult.algebraic,
    Cert.FfnResult.preserves, Cert.FfnResult.algebraic,
    Cert.MlaResult.preserves, Cert.MlaResult.algebraic,
    Cert.ExpResult.preserves, Cert.ExpResult.algebraic,
    Cert.InResult.preserves, Cert.InResult.algebraic⟩

end Cert.Proof

end
